-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inf" .f32 0x4CBEBC20#32 ⊤
  ∧ IdealRules.named_const.Statement Cert.KernelIdeal.κ "gamma" .f32 0x3C23D70A#32 ((1 / 100 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x256x1 : Shape := ⟨3, ![64, 256, 1]⟩
abbrev S64x256 : Shape := ⟨2, ![64, 256]⟩
abbrev S_ : Shape := ⟨0, ![]⟩
abbrev S64x768 : Shape := ⟨2, ![64, 768]⟩
abbrev S1 : Shape := ⟨1, ![1]⟩
abbrev S64x258 : Shape := ⟨2, ![64, 258]⟩
abbrev S64x510 : Shape := ⟨2, ![64, 510]⟩
abbrev S1x8x128 : Shape := ⟨3, ![1, 8, 128]⟩
abbrev S1x1x1 : Shape := ⟨3, ![1, 1, 1]⟩
abbrev S512x32x256 : Shape := ⟨3, ![512, 32, 256]⟩
abbrev S2x32x256 : Shape := ⟨3, ![2, 32, 256]⟩
abbrev S32x256 : Shape := ⟨2, ![32, 256]⟩
abbrev S32x255 : Shape := ⟨2, ![32, 255]⟩
abbrev S32x1 : Shape := ⟨2, ![32, 1]⟩
abbrev S32x768 : Shape := ⟨2, ![32, 768]⟩
abbrev S1x32x256 : Shape := ⟨3, ![1, 32, 256]⟩
abbrev S1x32x1 : Shape := ⟨3, ![1, 32, 1]⟩

abbrev nBuf : Space → Nat
  | .hbm => 28
  | .vmem => 7
  | .smem => 0
  | _ => 0

abbrev bufTy : (tb : Table) → Fin (tcTables nBuf tb) → BufTy
  | .hbm, ⟨0, _⟩ => ⟨S64x256x1, .f32⟩
  | .hbm, ⟨1, _⟩ => ⟨S64x256x1, .f32⟩
  | .hbm, ⟨2, _⟩ => ⟨S64x256, .f32⟩
  | .hbm, ⟨3, _⟩ => ⟨S64x256, .f32⟩
  | .hbm, ⟨4, _⟩ => ⟨S_, .f32⟩
  | .hbm, ⟨5, _⟩ => ⟨S64x768, .f32⟩
  | .hbm, ⟨6, _⟩ => ⟨S64x256, .f32⟩
  | .hbm, ⟨7, _⟩ => ⟨S_, .i32⟩
  | .hbm, ⟨8, _⟩ => ⟨S1, .i32⟩
  | .hbm, ⟨9, _⟩ => ⟨S64x768, .f32⟩
  | .hbm, ⟨10, _⟩ => ⟨S64x258, .f32⟩
  | .hbm, ⟨11, _⟩ => ⟨S64x510, .f32⟩
  | .hbm, ⟨12, _⟩ => ⟨S64x768, .f32⟩
  | .hbm, ⟨13, _⟩ => ⟨S1x8x128, .f32⟩
  | .hbm, ⟨14, _⟩ => ⟨S1x8x128, .f32⟩
  | .hbm, ⟨15, _⟩ => ⟨S1x1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x1x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S64x256, .f32⟩
  | .local _ .vmem, ⟨1, _⟩ => ⟨S64x768, .f32⟩
  | .local _ .vmem, ⟨2, _⟩ => ⟨S1x8x128, .f32⟩
  | .local _ .vmem, ⟨3, _⟩ => ⟨S1x8x128, .f32⟩
  | .local _ .vmem, ⟨4, _⟩ => ⟨S512x32x256, .f32⟩
  | .local _ .vmem, ⟨5, _⟩ => ⟨S512x32x256, .f32⟩
  | .local _ .vmem, ⟨6, _⟩ => ⟨S2x32x256, .f32⟩
  | _, _ => ⟨S64x256x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_c : Ref sig .tc := ⟨.hbm, 7, rfl⟩
abbrev main_call0_v4 : Ref sig .tc := ⟨.hbm, 8, rfl⟩
abbrev main_call0_v5 : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_v6 : Ref sig .tc := ⟨.hbm, 12, rfl⟩
abbrev main_call0_v7_0 : Ref sig .tc := ⟨.hbm, 13, rfl⟩
abbrev main_call0_v7_1 : Ref sig .tc := ⟨.hbm, 14, rfl⟩
abbrev main_call0_v8 : Ref sig .tc := ⟨.hbm, 15, rfl⟩
abbrev main_call0_v9 : Ref sig .tc := ⟨.hbm, 16, rfl⟩
abbrev main_call0_cst_0 : Ref sig .tc := ⟨.hbm, 17, rfl⟩
abbrev main_call0_v10 : Ref sig .tc := ⟨.hbm, 18, rfl⟩
abbrev main_call0_cst_1 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst_2 : Ref sig .tc := ⟨.hbm, 23, rfl⟩
abbrev main_call0_v14 : Ref sig .tc := ⟨.hbm, 24, rfl⟩
abbrev main_call0_cst_3 : Ref sig .tc := ⟨.hbm, 25, rfl⟩
abbrev main_call0_v15 : Ref sig .tc := ⟨.hbm, 26, rfl⟩
abbrev main_v0 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_15 : BitVec 32 := 0#32
  let c170_i32 : BitVec 32 := 170#32
  let v36 : BitVec 32 := Scalar.addi c0_i32_15 c170_i32
  let c1_i32 : BitVec 32 := 1#32
  ⟨c0_i32_15, v36, c1_i32⟩
def k0_off1 (k0_t1 : Fin k0_t1_loop.trips) (c0_i32_54 : BitVec 32) : Fin 3 → Nat :=
  let c3_i32 : BitVec 32 := 3#32
  let c0_i32_15 : BitVec 32 := 0#32
  let c1_i32 : BitVec 32 := 1#32
  let arg8 : BitVec 32 := Scf.iv c0_i32_15 c1_i32 k0_t1
  let v92 : BitVec 32 := Scalar.muli c3_i32 arg8
  let c1_i32_53 : BitVec 32 := 1#32
  let v93 : BitVec 32 := Scalar.addi v92 c1_i32_53
  let v94 : BitVec 32 := Scalar.addi v93 c0_i32_54
  let v135 : Index := Scalar.indexCast v94
  let c0_63 : Index := 0#32
  let c0_64 : Index := 0#32
  ![v135.toNat, 0, 0]
@[reducible] def k0_t2_loop : Scf.Loop 32 :=
  let c0_i32_34 : BitVec 32 := 0#32
  let c170_i32_35 : BitVec 32 := 170#32
  let v72 : BitVec 32 := Scalar.addi c0_i32_34 c170_i32_35
  let c1_i32_36 : BitVec 32 := 1#32
  ⟨c0_i32_34, v72, c1_i32_36⟩
def k0_off2 (k0_t2 : Fin k0_t2_loop.trips) (c0_i32_53 : BitVec 32) : Fin 3 → Nat :=
  let c509_i32 : BitVec 32 := 509#32
  let c3_i32 : BitVec 32 := 3#32
  let c0_i32_34 : BitVec 32 := 0#32
  let c1_i32_36 : BitVec 32 := 1#32
  let arg8 : BitVec 32 := Scf.iv c0_i32_34 c1_i32_36 k0_t2
  let v92 : BitVec 32 := Scalar.muli c3_i32 arg8
  let v93 : BitVec 32 := Scalar.subi c509_i32 v92
  let v94 : BitVec 32 := Scalar.subi v93 c0_i32_53
  let v95 : Index := Scalar.indexCast v94
  let c0_54 : Index := 0#32
  let c0_55 : Index := 0#32
  ![v95.toNat, 0, 0]
def k0_off3 (k0_t2 : Fin k0_t2_loop.trips) (c0_i32_53 : BitVec 32) (c1_i32_56 : BitVec 32) : Fin 3 → Nat :=
  let c509_i32 : BitVec 32 := 509#32
  let c3_i32 : BitVec 32 := 3#32
  let c0_i32_34 : BitVec 32 := 0#32
  let c1_i32_36 : BitVec 32 := 1#32
  let arg8 : BitVec 32 := Scf.iv c0_i32_34 c1_i32_36 k0_t2
  let v92 : BitVec 32 := Scalar.muli c3_i32 arg8
  let v93 : BitVec 32 := Scalar.subi c509_i32 v92
  let v94 : BitVec 32 := Scalar.subi v93 c0_i32_53
  let v98 : BitVec 32 := Scalar.addi v94 c1_i32_56
  let v99 : Index := Scalar.indexCast v98
  let c0_57 : Index := 0#32
  let c0_58 : Index := 0#32
  ![v99.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "gamma" => some ((1 / 100 : ℝ) : EReal)
  | "inf" => some ⊤
  | _ => none
-- ==== ReferenceIdeal.lean ====
abbrev S64x256x1 : Shape := ⟨3, ![64, 256, 1]⟩
abbrev S64x256x1x1 : Shape := ⟨4, ![64, 256, 1, 1]⟩
abbrev S64x1x256x1 : Shape := ⟨4, ![64, 1, 256, 1]⟩
abbrev S64x256x256x1 : Shape := ⟨4, ![64, 256, 256, 1]⟩
abbrev S_ : Shape := ⟨0, ![]⟩
abbrev S64x256x256 : Shape := ⟨3, ![64, 256, 256]⟩
abbrev S64x257x257 : Shape := ⟨3, ![64, 257, 257]⟩
abbrev S65536 : Shape := ⟨1, ![65536]⟩
abbrev S65536x64 : Shape := ⟨2, ![65536, 64]⟩
abbrev S64x1x1 : Shape := ⟨3, ![64, 1, 1]⟩
abbrev S64 : Shape := ⟨1, ![64]⟩
abbrev S1 : Shape := ⟨1, ![1]⟩
abbrev S1x64 : Shape := ⟨2, ![1, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩

abbrev nBuf : Space → Nat
  | .hbm => 278
  | .vmem => 0
  | .smem => 0
  | _ => 0

abbrev hbmTy0_0 (i : Nat) : BufTy := match i % 128 with
  | 0 => ⟨S64x256x1, .f32⟩
  | 1 => ⟨S64x256x1, .f32⟩
  | 2 => ⟨S64x256x1x1, .f32⟩
  | 3 => ⟨S64x1x256x1, .f32⟩
  | 4 => ⟨S64x256x256x1, .f32⟩
  | 5 => ⟨S64x256x256x1, .f32⟩
  | 6 => ⟨S64x256x256x1, .f32⟩
  | 7 => ⟨S64x256x256x1, .f32⟩
  | 8 => ⟨S_, .f32⟩
  | 9 => ⟨S64x256x256, .f32⟩
  | 10 => ⟨S64x257x257, .i32⟩
  | 11 => ⟨S64x257x257, .i32⟩
  | 12 => ⟨S_, .i32⟩
  | 13 => ⟨S64x257x257, .i32⟩
  | 14 => ⟨S64x257x257, .i1⟩
  | 15 => ⟨S_, .i32⟩
  | 16 => ⟨S64x257x257, .i32⟩
  | 17 => ⟨S64x257x257, .i1⟩
  | 18 => ⟨S64x257x257, .i1⟩
  | 19 => ⟨S_, .f32⟩
  | 20 => ⟨S_, .f32⟩
  | 21 => ⟨S64x257x257, .f32⟩
  | 22 => ⟨S64x257x257, .f32⟩
  | 23 => ⟨S64x257x257, .f32⟩
  | 24 => ⟨S_, .i32⟩
  | 25 => ⟨S_, .i32⟩
  | 26 => ⟨S65536, .i32⟩
  | 27 => ⟨S_, .i32⟩
  | 28 => ⟨S65536, .i32⟩
  | 29 => ⟨S_, .i32⟩
  | 30 => ⟨S65536, .i32⟩
  | 31 => ⟨S_, .i32⟩
  | 32 => ⟨S65536, .i32⟩
  | 33 => ⟨S_, .f32⟩
  | 34 => ⟨S65536x64, .f32⟩
  | 35 => ⟨S_, .f32⟩
  | 36 => ⟨S65536x64, .f32⟩
  | 37 => ⟨S_, .f32⟩
  | 38 => ⟨S65536x64, .f32⟩
  | 39 => ⟨S_, .f32⟩
  | 40 => ⟨S65536x64, .f32⟩
  | 41 => ⟨S_, .i32⟩
  | 42 => ⟨S65536, .i32⟩
  | 43 => ⟨S_, .i32⟩
  | 44 => ⟨S65536, .i32⟩
  | 45 => ⟨S_, .i32⟩
  | 46 => ⟨S64x256x256, .f32⟩
  | 47 => ⟨S_, .i32⟩
  | 48 => ⟨S_, .i32⟩
  | 49 => ⟨S64x257x257, .f32⟩
  | 50 => ⟨S65536, .i32⟩
  | 51 => ⟨S65536, .i32⟩
  | 52 => ⟨S65536, .i32⟩
  | 53 => ⟨S65536, .i32⟩
  | 54 => ⟨S65536x64, .f32⟩
  | 55 => ⟨S65536x64, .f32⟩
  | 56 => ⟨S65536x64, .f32⟩
  | 57 => ⟨S65536x64, .f32⟩
  | 58 => ⟨S65536, .i32⟩
  | 59 => ⟨S65536, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S64x1x1, .f32⟩
  | 70 => ⟨S64, .f32⟩
  | 71 => ⟨S_, .i32⟩
  | 72 => ⟨S64x1x1, .f32⟩
  | 73 => ⟨S64, .f32⟩
  | 74 => ⟨S_, .i32⟩
  | 75 => ⟨S_, .i32⟩
  | 76 => ⟨S_, .i32⟩
  | 77 => ⟨S64x1x1, .f32⟩
  | 78 => ⟨S64, .f32⟩
  | 79 => ⟨S_, .i32⟩
  | 80 => ⟨S_, .i32⟩
  | 81 => ⟨S_, .i32⟩
  | 82 => ⟨S64x1x1, .f32⟩
  | 83 => ⟨S64, .f32⟩
  | 84 => ⟨S_, .f32⟩
  | 85 => ⟨S64, .f32⟩
  | 86 => ⟨S64, .f32⟩
  | 87 => ⟨S_, .f32⟩
  | 88 => ⟨S64, .f32⟩
  | 89 => ⟨S64, .f32⟩
  | 90 => ⟨S_, .f32⟩
  | 91 => ⟨S64, .f32⟩
  | 92 => ⟨S64, .f32⟩
  | 93 => ⟨S64, .f32⟩
  | 94 => ⟨S64, .f32⟩
  | 95 => ⟨S64, .f32⟩
  | 96 => ⟨S64, .f32⟩
  | 97 => ⟨S64, .f32⟩
  | 98 => ⟨S64, .f32⟩
  | 99 => ⟨S64, .f32⟩
  | 100 => ⟨S64, .f32⟩
  | 101 => ⟨S64, .f32⟩
  | 102 => ⟨S64, .f32⟩
  | 103 => ⟨S64, .f32⟩
  | 104 => ⟨S64, .f32⟩
  | 105 => ⟨S_, .f32⟩
  | 106 => ⟨S64, .f32⟩
  | 107 => ⟨S64, .f32⟩
  | 108 => ⟨S64, .f32⟩
  | 109 => ⟨S64, .f32⟩
  | 110 => ⟨S64x1x1, .f32⟩
  | 111 => ⟨S_, .i32⟩
  | 112 => ⟨S_, .i32⟩
  | 113 => ⟨S_, .i32⟩
  | 114 => ⟨S_, .i32⟩
  | 115 => ⟨S_, .i32⟩
  | 116 => ⟨S64x257x257, .f32⟩
  | 117 => ⟨S1, .i32⟩
  | 118 => ⟨S65536, .i32⟩
  | 119 => ⟨S1, .i32⟩
  | 120 => ⟨S65536, .i32⟩
  | 121 => ⟨S1, .i32⟩
  | 122 => ⟨S65536, .i32⟩
  | 123 => ⟨S1, .i32⟩
  | 124 => ⟨S65536, .i32⟩
  | 125 => ⟨S1x64, .f32⟩
  | 126 => ⟨S_, .i32⟩
  | 127 => ⟨S65536x64, .f32⟩
  | _ => ⟨S64x256x1, .f32⟩

abbrev hbmTy0_1 (i : Nat) : BufTy := match i % 128 with
  | 0 => ⟨S1x64, .f32⟩
  | 1 => ⟨S_, .i32⟩
  | 2 => ⟨S65536x64, .f32⟩
  | 3 => ⟨S1x64, .f32⟩
  | 4 => ⟨S_, .i32⟩
  | 5 => ⟨S65536x64, .f32⟩
  | 6 => ⟨S1x64, .f32⟩
  | 7 => ⟨S_, .i32⟩
  | 8 => ⟨S65536x64, .f32⟩
  | 9 => ⟨S1, .i32⟩
  | 10 => ⟨S65536, .i32⟩
  | 11 => ⟨S1, .i32⟩
  | 12 => ⟨S65536, .i32⟩
  | 13 => ⟨S_, .i32⟩
  | 14 => ⟨S_, .i32⟩
  | 15 => ⟨S64x1x1, .f32⟩
  | 16 => ⟨S64, .f32⟩
  | 17 => ⟨S_, .f32⟩
  | 18 => ⟨S64, .f32⟩
  | 19 => ⟨S_, .f32⟩
  | 20 => ⟨S64x257x257, .f32⟩
  | 21 => ⟨S64x1x1, .f32⟩
  | 22 => ⟨S_, .f32⟩
  | 23 => ⟨S64x257x257, .f32⟩
  | 24 => ⟨S_, .f32⟩
  | 25 => ⟨S64x256x256, .f32⟩
  | 26 => ⟨S_, .i32⟩
  | 27 => ⟨S65536, .i32⟩
  | 28 => ⟨S65536, .i32⟩
  | 29 => ⟨S65536, .i32⟩
  | 30 => ⟨S65536, .i32⟩
  | 31 => ⟨S65536x64, .f32⟩
  | 32 => ⟨S65536x64, .f32⟩
  | 33 => ⟨S65536x64, .f32⟩
  | 34 => ⟨S65536x64, .f32⟩
  | 35 => ⟨S65536, .i32⟩
  | 36 => ⟨S65536, .i32⟩
  | 37 => ⟨S_, .i32⟩
  | 38 => ⟨S64x256x256, .f32⟩
  | 39 => ⟨S64x257x257, .f32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S1, .i32⟩
  | 47 => ⟨S_, .i32⟩
  | 48 => ⟨S1, .i32⟩
  | 49 => ⟨S_, .i32⟩
  | 50 => ⟨S1, .i32⟩
  | 51 => ⟨S_, .i32⟩
  | 52 => ⟨S1, .i32⟩
  | 53 => ⟨S_, .i32⟩
  | 54 => ⟨S_, .i32⟩
  | 55 => ⟨S1x64, .f32⟩
  | 56 => ⟨S64, .f32⟩
  | 57 => ⟨S_, .i32⟩
  | 58 => ⟨S1x64, .f32⟩
  | 59 => ⟨S64, .f32⟩
  | 60 => ⟨S_, .i32⟩
  | 61 => ⟨S1x64, .f32⟩
  | 62 => ⟨S64, .f32⟩
  | 63 => ⟨S_, .i32⟩
  | 64 => ⟨S1x64, .f32⟩
  | 65 => ⟨S64, .f32⟩
  | 66 => ⟨S1, .i32⟩
  | 67 => ⟨S_, .i32⟩
  | 68 => ⟨S1, .i32⟩
  | 69 => ⟨S_, .i32⟩
  | 70 => ⟨S_, .f32⟩
  | 71 => ⟨S64x1x1, .f32⟩
  | 72 => ⟨S_, .i32⟩
  | 73 => ⟨S64x257x257, .f32⟩
  | 74 => ⟨S_, .i32⟩
  | 75 => ⟨S64x1x1, .f32⟩
  | 76 => ⟨S_, .f32⟩
  | 77 => ⟨S64, .f32⟩
  | 78 => ⟨S64, .f32⟩
  | 79 => ⟨S_, .f32⟩
  | 80 => ⟨S64, .f32⟩
  | 81 => ⟨S64, .f32⟩
  | 82 => ⟨S64, .f32⟩
  | 83 => ⟨S64, .f32⟩
  | 84 => ⟨S64, .f32⟩
  | 85 => ⟨S64, .f32⟩
  | 86 => ⟨S_, .f32⟩
  | 87 => ⟨S64, .f32⟩
  | 88 => ⟨S64, .f32⟩
  | 89 => ⟨S_, .f32⟩
  | 90 => ⟨S64, .f32⟩
  | 91 => ⟨S64, .f32⟩
  | 92 => ⟨S_, .f32⟩
  | 93 => ⟨S64, .f32⟩
  | 94 => ⟨S64, .f32⟩
  | 95 => ⟨S64x1x1, .f32⟩
  | 96 => ⟨S_, .f32⟩
  | 97 => ⟨S64x257x257, .f32⟩
  | 98 => ⟨S_, .i32⟩
  | 99 => ⟨S64x257x257, .f32⟩
  | 100 => ⟨S64x257x257, .f32⟩
  | 101 => ⟨S64x1x1, .f32⟩
  | 102 => ⟨S_, .f32⟩
  | 103 => ⟨S64x257x257, .f32⟩
  | 104 => ⟨S_, .i32⟩
  | 105 => ⟨S64x257x257, .f32⟩
  | 106 => ⟨S64x257x257, .f32⟩
  | 107 => ⟨S64x1x1, .f32⟩
  | 108 => ⟨S_, .f32⟩
  | 109 => ⟨S64x257x257, .f32⟩
  | 110 => ⟨S_, .i32⟩
  | 111 => ⟨S64x257x257, .f32⟩
  | 112 => ⟨S64x257x257, .f32⟩
  | 113 => ⟨S64x1x1, .f32⟩
  | 114 => ⟨S_, .f32⟩
  | 115 => ⟨S64x256x256, .f32⟩
  | 116 => ⟨S_, .i32⟩
  | 117 => ⟨S64x256x256, .f32⟩
  | 118 => ⟨S64x256x256, .f32⟩
  | 119 => ⟨S_, .i32⟩
  | 120 => ⟨S_, .i32⟩
  | 121 => ⟨S_, .f32⟩
  | 122 => ⟨S_, .f32⟩
  | 123 => ⟨S_, .f32⟩
  | 124 => ⟨S_, .f32⟩
  | 125 => ⟨S256, .f32⟩
  | 126 => ⟨S_, .f32⟩
  | 127 => ⟨S256, .f32⟩
  | _ => ⟨S64x256x1, .f32⟩

abbrev hbmTy0_2 (i : Nat) : BufTy := match i % 128 with
  | 0 => ⟨S256, .f32⟩
  | 1 => ⟨S256x1, .f32⟩
  | 2 => ⟨S1x256, .f32⟩
  | 3 => ⟨S256x256, .f32⟩
  | 4 => ⟨S256x256, .f32⟩
  | 5 => ⟨S256x256, .f32⟩
  | 6 => ⟨S256x256, .f32⟩
  | 7 => ⟨S_, .f32⟩
  | 8 => ⟨S256x256, .f32⟩
  | 9 => ⟨S256x256, .f32⟩
  | 10 => ⟨S1x256x256, .f32⟩
  | 11 => ⟨S64x256x256, .f32⟩
  | 12 => ⟨S64x256x256, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | _ => ⟨S64x256x1, .f32⟩

abbrev hbmTy (i : Nat) : BufTy := match i / 128 with
  | 0 => hbmTy0_0 i
  | 1 => hbmTy0_1 i
  | 2 => hbmTy0_2 i
  | _ => ⟨S64x256x1, .f32⟩

abbrev bufTy : (tb : Table) → Fin (tcTables nBuf tb) → BufTy
  | .hbm, ⟨i, _⟩ => hbmTy i
  | _, _ => ⟨S64x256x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_c_3 : Ref sig .tc := ⟨.hbm, 24, rfl⟩
abbrev main_c_4 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_c_6 : Ref sig .tc := ⟨.hbm, 29, rfl⟩
abbrev main_v17 : Ref sig .tc := ⟨.hbm, 30, rfl⟩
abbrev main_c_7 : Ref sig .tc := ⟨.hbm, 31, rfl⟩
abbrev main_v18 : Ref sig .tc := ⟨.hbm, 32, rfl⟩
abbrev main_cst_8 : Ref sig .tc := ⟨.hbm, 33, rfl⟩
abbrev main_v19 : Ref sig .tc := ⟨.hbm, 34, rfl⟩
abbrev main_cst_9 : Ref sig .tc := ⟨.hbm, 35, rfl⟩
abbrev main_v20 : Ref sig .tc := ⟨.hbm, 36, rfl⟩
abbrev main_cst_10 : Ref sig .tc := ⟨.hbm, 37, rfl⟩
abbrev main_v21 : Ref sig .tc := ⟨.hbm, 38, rfl⟩
abbrev main_cst_11 : Ref sig .tc := ⟨.hbm, 39, rfl⟩
abbrev main_v22 : Ref sig .tc := ⟨.hbm, 40, rfl⟩
abbrev main_c_12 : Ref sig .tc := ⟨.hbm, 41, rfl⟩
abbrev main_v23 : Ref sig .tc := ⟨.hbm, 42, rfl⟩
abbrev main_c_13 : Ref sig .tc := ⟨.hbm, 43, rfl⟩
abbrev main_v24 : Ref sig .tc := ⟨.hbm, 44, rfl⟩
abbrev main_c_14 : Ref sig .tc := ⟨.hbm, 45, rfl⟩
abbrev main_v25_0 : Ref sig .tc := ⟨.hbm, 46, rfl⟩
abbrev main_v25_1 : Ref sig .tc := ⟨.hbm, 47, rfl⟩
abbrev main_v25_2 : Ref sig .tc := ⟨.hbm, 48, rfl⟩
abbrev main_v25_3 : Ref sig .tc := ⟨.hbm, 49, rfl⟩
abbrev main_v25_4 : Ref sig .tc := ⟨.hbm, 50, rfl⟩
abbrev main_v25_5 : Ref sig .tc := ⟨.hbm, 51, rfl⟩
abbrev main_v25_6 : Ref sig .tc := ⟨.hbm, 52, rfl⟩
abbrev main_v25_7 : Ref sig .tc := ⟨.hbm, 53, rfl⟩
abbrev main_v25_8 : Ref sig .tc := ⟨.hbm, 54, rfl⟩
abbrev main_v25_9 : Ref sig .tc := ⟨.hbm, 55, rfl⟩
abbrev main_v25_10 : Ref sig .tc := ⟨.hbm, 56, rfl⟩
abbrev main_v25_11 : Ref sig .tc := ⟨.hbm, 57, rfl⟩
abbrev main_v25_12 : Ref sig .tc := ⟨.hbm, 58, rfl⟩
abbrev main_v25_13 : Ref sig .tc := ⟨.hbm, 59, rfl⟩
abbrev main_while0c_c_41 : Ref sig .tc := ⟨.hbm, 60, rfl⟩
abbrev main_while0c_v55 : Ref sig .tc := ⟨.hbm, 61, rfl⟩
abbrev main_while0b_c_41 : Ref sig .tc := ⟨.hbm, 62, rfl⟩
abbrev main_while0b_v55 : Ref sig .tc := ⟨.hbm, 63, rfl⟩
abbrev main_while0b_c_42 : Ref sig .tc := ⟨.hbm, 64, rfl⟩
abbrev main_while0b_v56 : Ref sig .tc := ⟨.hbm, 65, rfl⟩
abbrev main_while0b_c_43 : Ref sig .tc := ⟨.hbm, 66, rfl⟩
abbrev main_while0b_v57 : Ref sig .tc := ⟨.hbm, 67, rfl⟩
abbrev main_while0b_c_44 : Ref sig .tc := ⟨.hbm, 68, rfl⟩
abbrev main_while0b_v58 : Ref sig .tc := ⟨.hbm, 69, rfl⟩
abbrev main_while0b_v59 : Ref sig .tc := ⟨.hbm, 70, rfl⟩
abbrev main_while0b_c_45 : Ref sig .tc := ⟨.hbm, 71, rfl⟩
abbrev main_while0b_v60 : Ref sig .tc := ⟨.hbm, 72, rfl⟩
abbrev main_while0b_v61 : Ref sig .tc := ⟨.hbm, 73, rfl⟩
abbrev main_while0b_c_46 : Ref sig .tc := ⟨.hbm, 74, rfl⟩
abbrev main_while0b_v62 : Ref sig .tc := ⟨.hbm, 75, rfl⟩
abbrev main_while0b_c_47 : Ref sig .tc := ⟨.hbm, 76, rfl⟩
abbrev main_while0b_v63 : Ref sig .tc := ⟨.hbm, 77, rfl⟩
abbrev main_while0b_v64 : Ref sig .tc := ⟨.hbm, 78, rfl⟩
abbrev main_while0b_c_48 : Ref sig .tc := ⟨.hbm, 79, rfl⟩
abbrev main_while0b_v65 : Ref sig .tc := ⟨.hbm, 80, rfl⟩
abbrev main_while0b_c_49 : Ref sig .tc := ⟨.hbm, 81, rfl⟩
abbrev main_while0b_v66 : Ref sig .tc := ⟨.hbm, 82, rfl⟩
abbrev main_while0b_v67 : Ref sig .tc := ⟨.hbm, 83, rfl⟩
abbrev main_while0b_cst_50 : Ref sig .tc := ⟨.hbm, 84, rfl⟩
abbrev main_while0b_v68 : Ref sig .tc := ⟨.hbm, 85, rfl⟩
abbrev main_while0b_v69 : Ref sig .tc := ⟨.hbm, 86, rfl⟩
abbrev main_while0b_cst_51 : Ref sig .tc := ⟨.hbm, 87, rfl⟩
abbrev main_while0b_v70 : Ref sig .tc := ⟨.hbm, 88, rfl⟩
abbrev main_while0b_v71 : Ref sig .tc := ⟨.hbm, 89, rfl⟩
abbrev main_while0b_cst_52 : Ref sig .tc := ⟨.hbm, 90, rfl⟩
abbrev main_while0b_v72 : Ref sig .tc := ⟨.hbm, 91, rfl⟩
abbrev main_while0b_v73 : Ref sig .tc := ⟨.hbm, 92, rfl⟩
abbrev main_while0b_v74 : Ref sig .tc := ⟨.hbm, 93, rfl⟩
abbrev main_while0b_v75 : Ref sig .tc := ⟨.hbm, 94, rfl⟩
abbrev main_while0b_v76 : Ref sig .tc := ⟨.hbm, 95, rfl⟩
abbrev main_while0b_v77 : Ref sig .tc := ⟨.hbm, 96, rfl⟩
abbrev main_while0b_v78 : Ref sig .tc := ⟨.hbm, 97, rfl⟩
abbrev main_while0b_v79 : Ref sig .tc := ⟨.hbm, 98, rfl⟩
abbrev main_while0b_v80 : Ref sig .tc := ⟨.hbm, 99, rfl⟩
abbrev main_while0b_v81 : Ref sig .tc := ⟨.hbm, 100, rfl⟩
abbrev main_while0b_v82 : Ref sig .tc := ⟨.hbm, 101, rfl⟩
abbrev main_while0b_v83 : Ref sig .tc := ⟨.hbm, 102, rfl⟩
abbrev main_while0b_v84 : Ref sig .tc := ⟨.hbm, 103, rfl⟩
abbrev main_while0b_v85 : Ref sig .tc := ⟨.hbm, 104, rfl⟩
abbrev main_while0b_cst_53 : Ref sig .tc := ⟨.hbm, 105, rfl⟩
abbrev main_while0b_v86 : Ref sig .tc := ⟨.hbm, 106, rfl⟩
abbrev main_while0b_v87 : Ref sig .tc := ⟨.hbm, 107, rfl⟩
abbrev main_while0b_v88 : Ref sig .tc := ⟨.hbm, 108, rfl⟩
abbrev main_while0b_v89 : Ref sig .tc := ⟨.hbm, 109, rfl⟩
abbrev main_while0b_v90 : Ref sig .tc := ⟨.hbm, 110, rfl⟩
abbrev main_while0b_c_54 : Ref sig .tc := ⟨.hbm, 111, rfl⟩
abbrev main_while0b_v91 : Ref sig .tc := ⟨.hbm, 112, rfl⟩
abbrev main_while0b_c_55 : Ref sig .tc := ⟨.hbm, 113, rfl⟩
abbrev main_while0b_v92 : Ref sig .tc := ⟨.hbm, 114, rfl⟩
abbrev main_while0b_c_56 : Ref sig .tc := ⟨.hbm, 115, rfl⟩
abbrev main_while0b_v93 : Ref sig .tc := ⟨.hbm, 116, rfl⟩
abbrev main_while0b_call1_v0 : Ref sig .tc := ⟨.hbm, 117, rfl⟩
abbrev main_while0b_v94 : Ref sig .tc := ⟨.hbm, 118, rfl⟩
abbrev main_while0b_call2_v0 : Ref sig .tc := ⟨.hbm, 119, rfl⟩
abbrev main_while0b_v95 : Ref sig .tc := ⟨.hbm, 120, rfl⟩
abbrev main_while0b_call3_v0 : Ref sig .tc := ⟨.hbm, 121, rfl⟩
abbrev main_while0b_v96 : Ref sig .tc := ⟨.hbm, 122, rfl⟩
abbrev main_while0b_call4_v0 : Ref sig .tc := ⟨.hbm, 123, rfl⟩
abbrev main_while0b_v97 : Ref sig .tc := ⟨.hbm, 124, rfl⟩
abbrev main_while0b_call5_v0 : Ref sig .tc := ⟨.hbm, 125, rfl⟩
abbrev main_while0b_call5_c : Ref sig .tc := ⟨.hbm, 126, rfl⟩
abbrev main_while0b_v98 : Ref sig .tc := ⟨.hbm, 127, rfl⟩
abbrev main_while0b_call6_v0 : Ref sig .tc := ⟨.hbm, 128, rfl⟩
abbrev main_while0b_call6_c : Ref sig .tc := ⟨.hbm, 129, rfl⟩
abbrev main_while0b_v99 : Ref sig .tc := ⟨.hbm, 130, rfl⟩
abbrev main_while0b_call7_v0 : Ref sig .tc := ⟨.hbm, 131, rfl⟩
abbrev main_while0b_call7_c : Ref sig .tc := ⟨.hbm, 132, rfl⟩
abbrev main_while0b_v100 : Ref sig .tc := ⟨.hbm, 133, rfl⟩
abbrev main_while0b_call8_v0 : Ref sig .tc := ⟨.hbm, 134, rfl⟩
abbrev main_while0b_call8_c : Ref sig .tc := ⟨.hbm, 135, rfl⟩
abbrev main_while0b_v101 : Ref sig .tc := ⟨.hbm, 136, rfl⟩
abbrev main_while0b_call9_v0 : Ref sig .tc := ⟨.hbm, 137, rfl⟩
abbrev main_while0b_v102 : Ref sig .tc := ⟨.hbm, 138, rfl⟩
abbrev main_while0b_call10_v0 : Ref sig .tc := ⟨.hbm, 139, rfl⟩
abbrev main_while0b_v103 : Ref sig .tc := ⟨.hbm, 140, rfl⟩
abbrev main_while0b_c_57 : Ref sig .tc := ⟨.hbm, 141, rfl⟩
abbrev main_while0b_v104 : Ref sig .tc := ⟨.hbm, 142, rfl⟩
abbrev main_v26 : Ref sig .tc := ⟨.hbm, 143, rfl⟩
abbrev main_v27 : Ref sig .tc := ⟨.hbm, 144, rfl⟩
abbrev main_cst_15 : Ref sig .tc := ⟨.hbm, 145, rfl⟩
abbrev main_v28 : Ref sig .tc := ⟨.hbm, 146, rfl⟩
abbrev main_cst_16 : Ref sig .tc := ⟨.hbm, 147, rfl⟩
abbrev main_v29 : Ref sig .tc := ⟨.hbm, 148, rfl⟩
abbrev main_v30 : Ref sig .tc := ⟨.hbm, 149, rfl⟩
abbrev main_cst_17 : Ref sig .tc := ⟨.hbm, 150, rfl⟩
abbrev main_v31 : Ref sig .tc := ⟨.hbm, 151, rfl⟩
abbrev main_cst_18 : Ref sig .tc := ⟨.hbm, 152, rfl⟩
abbrev main_v32 : Ref sig .tc := ⟨.hbm, 153, rfl⟩
abbrev main_c_19 : Ref sig .tc := ⟨.hbm, 154, rfl⟩
abbrev main_v33_0 : Ref sig .tc := ⟨.hbm, 155, rfl⟩
abbrev main_v33_1 : Ref sig .tc := ⟨.hbm, 156, rfl⟩
abbrev main_v33_2 : Ref sig .tc := ⟨.hbm, 157, rfl⟩
abbrev main_v33_3 : Ref sig .tc := ⟨.hbm, 158, rfl⟩
abbrev main_v33_4 : Ref sig .tc := ⟨.hbm, 159, rfl⟩
abbrev main_v33_5 : Ref sig .tc := ⟨.hbm, 160, rfl⟩
abbrev main_v33_6 : Ref sig .tc := ⟨.hbm, 161, rfl⟩
abbrev main_v33_7 : Ref sig .tc := ⟨.hbm, 162, rfl⟩
abbrev main_v33_8 : Ref sig .tc := ⟨.hbm, 163, rfl⟩
abbrev main_v33_9 : Ref sig .tc := ⟨.hbm, 164, rfl⟩
abbrev main_v33_10 : Ref sig .tc := ⟨.hbm, 165, rfl⟩
abbrev main_v33_11 : Ref sig .tc := ⟨.hbm, 166, rfl⟩
abbrev main_v33_12 : Ref sig .tc := ⟨.hbm, 167, rfl⟩
abbrev main_while1c_c_40 : Ref sig .tc := ⟨.hbm, 168, rfl⟩
abbrev main_while1c_v55 : Ref sig .tc := ⟨.hbm, 169, rfl⟩
abbrev main_while1b_c_40 : Ref sig .tc := ⟨.hbm, 170, rfl⟩
abbrev main_while1b_v55 : Ref sig .tc := ⟨.hbm, 171, rfl⟩
abbrev main_while1b_c_41 : Ref sig .tc := ⟨.hbm, 172, rfl⟩
abbrev main_while1b_v56 : Ref sig .tc := ⟨.hbm, 173, rfl⟩
abbrev main_while1b_call11_v0 : Ref sig .tc := ⟨.hbm, 174, rfl⟩
abbrev main_while1b_v57 : Ref sig .tc := ⟨.hbm, 175, rfl⟩
abbrev main_while1b_call12_v0 : Ref sig .tc := ⟨.hbm, 176, rfl⟩
abbrev main_while1b_v58 : Ref sig .tc := ⟨.hbm, 177, rfl⟩
abbrev main_while1b_call13_v0 : Ref sig .tc := ⟨.hbm, 178, rfl⟩
abbrev main_while1b_v59 : Ref sig .tc := ⟨.hbm, 179, rfl⟩
abbrev main_while1b_call14_v0 : Ref sig .tc := ⟨.hbm, 180, rfl⟩
abbrev main_while1b_v60 : Ref sig .tc := ⟨.hbm, 181, rfl⟩
abbrev main_while1b_call15_c : Ref sig .tc := ⟨.hbm, 182, rfl⟩
abbrev main_while1b_call15_v0 : Ref sig .tc := ⟨.hbm, 183, rfl⟩
abbrev main_while1b_v61 : Ref sig .tc := ⟨.hbm, 184, rfl⟩
abbrev main_while1b_call16_c : Ref sig .tc := ⟨.hbm, 185, rfl⟩
abbrev main_while1b_call16_v0 : Ref sig .tc := ⟨.hbm, 186, rfl⟩
abbrev main_while1b_v62 : Ref sig .tc := ⟨.hbm, 187, rfl⟩
abbrev main_while1b_call17_c : Ref sig .tc := ⟨.hbm, 188, rfl⟩
abbrev main_while1b_call17_v0 : Ref sig .tc := ⟨.hbm, 189, rfl⟩
abbrev main_while1b_v63 : Ref sig .tc := ⟨.hbm, 190, rfl⟩
abbrev main_while1b_call18_c : Ref sig .tc := ⟨.hbm, 191, rfl⟩
abbrev main_while1b_call18_v0 : Ref sig .tc := ⟨.hbm, 192, rfl⟩
abbrev main_while1b_v64 : Ref sig .tc := ⟨.hbm, 193, rfl⟩
abbrev main_while1b_call19_v0 : Ref sig .tc := ⟨.hbm, 194, rfl⟩
abbrev main_while1b_v65 : Ref sig .tc := ⟨.hbm, 195, rfl⟩
abbrev main_while1b_call20_v0 : Ref sig .tc := ⟨.hbm, 196, rfl⟩
abbrev main_while1b_v66 : Ref sig .tc := ⟨.hbm, 197, rfl⟩
abbrev main_while1b_cst_42 : Ref sig .tc := ⟨.hbm, 198, rfl⟩
abbrev main_while1b_v67 : Ref sig .tc := ⟨.hbm, 199, rfl⟩
abbrev main_while1b_c_43 : Ref sig .tc := ⟨.hbm, 200, rfl⟩
abbrev main_while1b_v68 : Ref sig .tc := ⟨.hbm, 201, rfl⟩
abbrev main_while1b_c_44 : Ref sig .tc := ⟨.hbm, 202, rfl⟩
abbrev main_while1b_v69 : Ref sig .tc := ⟨.hbm, 203, rfl⟩
abbrev main_while1b_cst_45 : Ref sig .tc := ⟨.hbm, 204, rfl⟩
abbrev main_while1b_v70 : Ref sig .tc := ⟨.hbm, 205, rfl⟩
abbrev main_while1b_v71 : Ref sig .tc := ⟨.hbm, 206, rfl⟩
abbrev main_while1b_cst_46 : Ref sig .tc := ⟨.hbm, 207, rfl⟩
abbrev main_while1b_v72 : Ref sig .tc := ⟨.hbm, 208, rfl⟩
abbrev main_while1b_v73 : Ref sig .tc := ⟨.hbm, 209, rfl⟩
abbrev main_while1b_v74 : Ref sig .tc := ⟨.hbm, 210, rfl⟩
abbrev main_while1b_v75 : Ref sig .tc := ⟨.hbm, 211, rfl⟩
abbrev main_while1b_v76 : Ref sig .tc := ⟨.hbm, 212, rfl⟩
abbrev main_while1b_v77 : Ref sig .tc := ⟨.hbm, 213, rfl⟩
abbrev main_while1b_cst_47 : Ref sig .tc := ⟨.hbm, 214, rfl⟩
abbrev main_while1b_v78 : Ref sig .tc := ⟨.hbm, 215, rfl⟩
abbrev main_while1b_v79 : Ref sig .tc := ⟨.hbm, 216, rfl⟩
abbrev main_while1b_cst_48 : Ref sig .tc := ⟨.hbm, 217, rfl⟩
abbrev main_while1b_v80 : Ref sig .tc := ⟨.hbm, 218, rfl⟩
abbrev main_while1b_v81 : Ref sig .tc := ⟨.hbm, 219, rfl⟩
abbrev main_while1b_cst_49 : Ref sig .tc := ⟨.hbm, 220, rfl⟩
abbrev main_while1b_v82 : Ref sig .tc := ⟨.hbm, 221, rfl⟩
abbrev main_while1b_v83 : Ref sig .tc := ⟨.hbm, 222, rfl⟩
abbrev main_while1b_v84 : Ref sig .tc := ⟨.hbm, 223, rfl⟩
abbrev main_while1b_cst_50 : Ref sig .tc := ⟨.hbm, 224, rfl⟩
abbrev main_while1b_v85 : Ref sig .tc := ⟨.hbm, 225, rfl⟩
abbrev main_while1b_c_51 : Ref sig .tc := ⟨.hbm, 226, rfl⟩
abbrev main_while1b_v86 : Ref sig .tc := ⟨.hbm, 227, rfl⟩
abbrev main_while1b_v87 : Ref sig .tc := ⟨.hbm, 228, rfl⟩
abbrev main_while1b_v88 : Ref sig .tc := ⟨.hbm, 229, rfl⟩
abbrev main_while1b_cst_52 : Ref sig .tc := ⟨.hbm, 230, rfl⟩
abbrev main_while1b_v89 : Ref sig .tc := ⟨.hbm, 231, rfl⟩
abbrev main_while1b_c_53 : Ref sig .tc := ⟨.hbm, 232, rfl⟩
abbrev main_while1b_v90 : Ref sig .tc := ⟨.hbm, 233, rfl⟩
abbrev main_while1b_v91 : Ref sig .tc := ⟨.hbm, 234, rfl⟩
abbrev main_while1b_v92 : Ref sig .tc := ⟨.hbm, 235, rfl⟩
abbrev main_while1b_cst_54 : Ref sig .tc := ⟨.hbm, 236, rfl⟩
abbrev main_while1b_v93 : Ref sig .tc := ⟨.hbm, 237, rfl⟩
abbrev main_while1b_c_55 : Ref sig .tc := ⟨.hbm, 238, rfl⟩
abbrev main_while1b_v94 : Ref sig .tc := ⟨.hbm, 239, rfl⟩
abbrev main_while1b_v95 : Ref sig .tc := ⟨.hbm, 240, rfl⟩
abbrev main_while1b_v96 : Ref sig .tc := ⟨.hbm, 241, rfl⟩
abbrev main_while1b_cst_56 : Ref sig .tc := ⟨.hbm, 242, rfl⟩
abbrev main_while1b_v97 : Ref sig .tc := ⟨.hbm, 243, rfl⟩
abbrev main_while1b_c_57 : Ref sig .tc := ⟨.hbm, 244, rfl⟩
abbrev main_while1b_v98 : Ref sig .tc := ⟨.hbm, 245, rfl⟩
abbrev main_while1b_v99 : Ref sig .tc := ⟨.hbm, 246, rfl⟩
abbrev main_while1b_c_58 : Ref sig .tc := ⟨.hbm, 247, rfl⟩
abbrev main_while1b_v100 : Ref sig .tc := ⟨.hbm, 248, rfl⟩
abbrev main_cst_20 : Ref sig .tc := ⟨.hbm, 249, rfl⟩
abbrev main_v34 : Ref sig .tc := ⟨.hbm, 250, rfl⟩
abbrev main_cst_21 : Ref sig .tc := ⟨.hbm, 251, rfl⟩
abbrev main_v35 : Ref sig .tc := ⟨.hbm, 252, rfl⟩
abbrev main_v36 : Ref sig .tc := ⟨.hbm, 253, rfl⟩
abbrev main_cst_22 : Ref sig .tc := ⟨.hbm, 254, rfl⟩
abbrev main_v37 : Ref sig .tc := ⟨.hbm, 255, rfl⟩
abbrev main_v38 : Ref sig .tc := ⟨.hbm, 256, rfl⟩
abbrev main_v39 : Ref sig .tc := ⟨.hbm, 257, rfl⟩
abbrev main_v40 : Ref sig .tc := ⟨.hbm, 258, rfl⟩
abbrev main_v41 : Ref sig .tc := ⟨.hbm, 259, rfl⟩
abbrev main_v42 : Ref sig .tc := ⟨.hbm, 260, rfl⟩
abbrev main_v43 : Ref sig .tc := ⟨.hbm, 261, rfl⟩
abbrev main_v44 : Ref sig .tc := ⟨.hbm, 262, rfl⟩
abbrev main_cst_23 : Ref sig .tc := ⟨.hbm, 263, rfl⟩
abbrev main_v45 : Ref sig .tc := ⟨.hbm, 264, rfl⟩
abbrev main_v46 : Ref sig .tc := ⟨.hbm, 265, rfl⟩
abbrev main_v47 : Ref sig .tc := ⟨.hbm, 266, rfl⟩
abbrev main_v48 : Ref sig .tc := ⟨.hbm, 267, rfl⟩
abbrev main_v49 : Ref sig .tc := ⟨.hbm, 268, rfl⟩
abbrev main_cst_24 : Ref sig .tc := ⟨.hbm, 269, rfl⟩
abbrev main_v50 : Ref sig .tc := ⟨.hbm, 270, rfl⟩
abbrev main_cst_25 : Ref sig .tc := ⟨.hbm, 271, rfl⟩
abbrev main_v51 : Ref sig .tc := ⟨.hbm, 272, rfl⟩
abbrev main_cst_26 : Ref sig .tc := ⟨.hbm, 273, rfl⟩
abbrev main_v52 : Ref sig .tc := ⟨.hbm, 274, rfl⟩
abbrev main_cst_27 : Ref sig .tc := ⟨.hbm, 275, rfl⟩
abbrev main_v53 : Ref sig .tc := ⟨.hbm, 276, rfl⟩
abbrev main_v54 : Ref sig .tc := ⟨.hbm, 277, rfl⟩

abbrev nD : Nat := 1
abbrev τ : Topo := Topo.v7x

variable {F : FTy → Type} [FloatOps F]

abbrev main_while0_count : Scf.Loop 32 := ⟨0#32, 65536#32, 1#32⟩

abbrev main_while1_count : Scf.Loop 32 := ⟨0#32, 65536#32, 1#32⟩
-- ==== Proof.KerRows.lean ====
/-
  The kernel's two sweeps over the anti-diagonals as plain recursions of vectors: what one chunk of 32 batches carries
  and stores at anti-diagonal `d`, the same for every float type. The forward sweep goes from anti-diagonal 0 to 510, the
  backward sweep from 509 down to 0.
-/
module

public import proofs.«01_k».proof.Proof.Gen.KernelIdeal.Skeleton

@[expose] public section

noncomputable section

namespace Cert.KernelIdeal.Hand

open Cert.KernelIdeal Cert.KernelIdeal.Gen
open Idealize.ShloMosaic

variable {F : FTy → Type} [FloatOps F] [Named F]

/-- One forward step at the anti-diagonal whose number is the word `w`: the new row, and the row before it shifted by one
lane with "inf" at lane 0. -/
def fStep (v0 : IVec S32x256 32) (ts : FVec F S32x256 .f32) (xw : FVec F S32x768 .f32) (w : BitVec 32)
    (p : FVec F S32x256 .f32 × FVec F S32x256 .f32) : FVec F S32x256 .f32 × FVec F S32x256 .f32 :=
  (k0_pay9 v0 ts xw p.1 p.2 w, k0_pay5 v0 p.1)

/-- The forward sweep: the row of anti-diagonal `d` and the shifted row of anti-diagonal `d - 1`. -/
def fRow (v0 : IVec S32x256 32) (ts : FVec F S32x256 .f32) (xw : FVec F S32x768 .f32)
    (p : FVec F S32x256 .f32 × FVec F S32x256 .f32) : ℕ → FVec F S32x256 .f32 × FVec F S32x256 .f32
  | 0 => p
  | d + 1 => fStep v0 ts xw (BitVec.ofNat 32 (d + 1)) (fRow v0 ts xw p d)

/-- What the backward sweep carries for one chunk: the gradients of the anti-diagonal just done, those of the one after it
shifted by one lane, the window of inputs of the anti-diagonal just done, and the running temporal sum. -/
abbrev Back (F : FTy → Type) : Type :=
  FVec F S32x256 .f32 × FVec F S32x256 .f32 × FVec F S32x256 .f32 × Vec F S1x32x256 .f32

/-- One backward step at the anti-diagonal whose number is the word `w`, from the rows of this anti-diagonal and the two
after it. -/
def bStep (v0 : IVec S32x256 32) (ts tsh : FVec F S32x256 .f32) (xw : FVec F S32x768 .f32) (w : BitVec 32)
    (rc rn1 rn2 : Vec F S1x32x256 .f32) (p : Back F) : Back F :=
  have e : FVec F S32x256 .f32 := k0_pay43 v0 p.1 p.2.1 w (k0_pay35 rc) (k0_pay36 rn1) (k0_pay37 rn2) (k0_pay39 ts p.2.2.1)
    (k0_pay40 tsh p.2.2.1) (k0_pay41 v0 p.1) (k0_pay42 tsh xw w rc rn1) (Scalar.ofBits .f32 0x00000000#32)
  (e, k0_pay41 v0 p.1, k0_pay38 xw w, k0_pay44 v0 w e 2#32 p.2.2.2)

/-- The backward sweep after `n` steps, the last of them at anti-diagonal `510 - n`, over the stored rows `row`. -/
def bRow (v0 : IVec S32x256 32) (ts tsh : FVec F S32x256 .f32) (xw : FVec F S32x768 .f32) (row : ℕ → Vec F S1x32x256 .f32)
    (p : Back F) : ℕ → Back F
  | 0 => p
  | n + 1 => bStep v0 ts tsh xw (BitVec.ofNat 32 (509 - n)) (row (509 - n)) (row (510 - n)) (row (511 - n))
      (bRow v0 ts tsh xw row p n)

/-- The backward sweep looks at no row past anti-diagonal 511. -/
theorem bRow_congr (v0 : IVec S32x256 32) (ts tsh : FVec F S32x256 .f32) (xw : FVec F S32x768 .f32)
    (row row' : ℕ → Vec F S1x32x256 .f32) (p : Back F) (h : ∀ d, d ≤ 511 → row d = row' d) :
    ∀ n, bRow v0 ts tsh xw row p n = bRow v0 ts tsh xw row' p n
  | 0 => rfl
  | n + 1 => by
    unfold bRow
    rw [bRow_congr v0 ts tsh xw row row' p h n, h (509 - n) (by omega), h (510 - n) (by omega), h (511 - n) (by omega)]

/-- Three forward steps at once, as one trip of the loop takes them. -/
theorem fRow_three (v0 : IVec S32x256 32) (ts : FVec F S32x256 .f32) (xw : FVec F S32x768 .f32)
    (p : FVec F S32x256 .f32 × FVec F S32x256 .f32) (k : ℕ) :
    fRow v0 ts xw p (3 * (k + 1)) = fStep v0 ts xw (BitVec.ofNat 32 (3 * k + 3)) (fStep v0 ts xw (BitVec.ofNat 32 (3 * k + 2))
      (fStep v0 ts xw (BitVec.ofNat 32 (3 * k + 1)) (fRow v0 ts xw p (3 * k)))) := by
  rw [show 3 * (k + 1) = 3 * k + 3 from by omega]; rfl

/-- Three backward steps at once, as one trip of the loop takes them. -/
theorem bRow_three (v0 : IVec S32x256 32) (ts tsh : FVec F S32x256 .f32) (xw : FVec F S32x768 .f32)
    (row : ℕ → Vec F S1x32x256 .f32) (p : Back F) (k : ℕ) (hk : k < 170) :
    bRow v0 ts tsh xw row p (3 * (k + 1))
      = bStep v0 ts tsh xw (BitVec.ofNat 32 (507 - 3 * k)) (row (507 - 3 * k)) (row (508 - 3 * k)) (row (509 - 3 * k))
        (bStep v0 ts tsh xw (BitVec.ofNat 32 (508 - 3 * k)) (row (508 - 3 * k)) (row (509 - 3 * k)) (row (510 - 3 * k))
          (bStep v0 ts tsh xw (BitVec.ofNat 32 (509 - 3 * k)) (row (509 - 3 * k)) (row (510 - 3 * k)) (row (511 - 3 * k))
            (bRow v0 ts tsh xw row p (3 * k)))) := by
  rw [show 3 * (k + 1) = 3 * k + 1 + 1 + 1 from by omega]
  simp only [bRow]
  rw [show 509 - (3 * k + 1 + 1) = 507 - 3 * k by omega, show 510 - (3 * k + 1 + 1) = 508 - 3 * k by omega,
    show 511 - (3 * k + 1 + 1) = 509 - 3 * k by omega, show 509 - (3 * k + 1) = 508 - 3 * k by omega,
    show 510 - (3 * k + 1) = 509 - 3 * k by omega, show 511 - (3 * k + 1) = 510 - 3 * k by omega]

end Cert.KernelIdeal.Hand

end
-- ==== Proof.KerLoops.lean ====
/-
  The kernel's two counted loops by their invariants. Before trip `k` the forward loop carries, for each chunk of 32
  batches, the row of anti-diagonal `3k` and the shifted row before it, and has stored the rows up to `3k`; the backward
  loop carries the backward sweep after `3k` steps over the stored rows.
-/
module

public import proofs.«01_k».proof.Proof.KerRows
public import Idealize.ShloMosaic.Lib.Exec
public import Idealize.ShloMosaic.Lib.Tactic
public import Idealize.ShloMosaic.Lib.Pipeline.Kit
public import Idealize.ShloMosaic.Lib.WritesUnit

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The number of the anti-diagonal of step `u` of forward trip `k`. -/
theorem fWord (k : Fin k0_t1_loop.trips) (u : ℕ) (hu : u < 3) :
    Scalar.addi (Scalar.addi (Scalar.muli 3#32 (Scf.iv 0#32 1#32 k)) 1#32) (BitVec.ofNat 32 u) = BitVec.ofNat 32 (3 * k.val + 1 + u) := by
  have hk : k.val < 170 := Nat.lt_of_lt_of_le k.isLt k0_t1_abs.2.1
  apply BitVec.eq_of_toNat_eq
  simp only [Scalar.addi, Scalar.muli, Scf.iv, IntOp.addi, IntOp.muli]
  simp

/-- The number of the anti-diagonal of step `u` of backward trip `k`. -/
theorem bWord (k : Fin k0_t2_loop.trips) (u : ℕ) (hu : u < 3) :
    Scalar.subi (Scalar.subi 509#32 (Scalar.muli 3#32 (Scf.iv 0#32 1#32 k))) (BitVec.ofNat 32 u) = BitVec.ofNat 32 (509 - 3 * k.val - u) := by
  have hk : k.val < 170 := Nat.lt_of_lt_of_le k.isLt k0_t2_abs.2.1
  apply BitVec.eq_of_toNat_eq
  simp only [Scalar.subi, Scalar.muli, Scf.iv, IntOp.subi, IntOp.muli]
  simp
  omega

/-- The stored rows 1 to `n` of a scratch, newest first. -/
def rowPieces (P : ℕ → Vec F S1x32x256 .f32) : ℕ → List (View.Piece (Elt F) S512x32x256 .f32)
  | 0 => []
  | n + 1 => if h : n + 1 < 512 then ⟨Rect.unit (s := S512x32x256) ![n + 1, 0, 0] S1x32x256.size (by
        intro a; fin_cases a <;> simp [S1x32x256, S512x32x256] <;> omega), P (n + 1)⟩ :: rowPieces P n
      else rowPieces P n

/-- A piece is told by its offsets and its payload. -/
theorem piece_eq {s : Shape} {size : Fin s.rank → ℕ} {o o' : Fin s.rank → ℕ} (h : o = o') (inb : ∀ a, o a + size a ≤ s.size a)
    (inb' : ∀ a, o' a + size a ≤ s.size a) (p p' : (⟨s.rank, size⟩ : Shape).Idx → Elt F .f32) (hp : p = p') :
    (⟨Rect.unit (s := s) o size inb, p⟩ : View.Piece (Elt F) s .f32) = ⟨Rect.unit (s := s) o' size inb', p'⟩ := by
  subst h hp; rfl

/-- Three more stored rows. -/
theorem rowPieces_three (P : ℕ → Vec F S1x32x256 .f32) (k : ℕ) (hk : k < 170) {o1 o2 o3 : Fin 3 → ℕ}
    (h1 : o1 = ![3 * k + 1, 0, 0]) (h2 : o2 = ![3 * k + 2, 0, 0]) (h3 : o3 = ![3 * k + 3, 0, 0])
    (i1 : ∀ a, o1 a + S1x32x256.size a ≤ S512x32x256.size a) (i2 : ∀ a, o2 a + S1x32x256.size a ≤ S512x32x256.size a)
    (i3 : ∀ a, o3 a + S1x32x256.size a ≤ S512x32x256.size a) {p1 p2 p3 : Vec F S1x32x256 .f32} (q1 : p1 = P (3 * k + 1))
    (q2 : p2 = P (3 * k + 2)) (q3 : p3 = P (3 * k + 3)) :
    (⟨Rect.unit (s := S512x32x256) o3 S1x32x256.size i3, p3⟩ :: ⟨Rect.unit (s := S512x32x256) o2 S1x32x256.size i2, p2⟩
      :: ⟨Rect.unit (s := S512x32x256) o1 S1x32x256.size i1, p1⟩ :: rowPieces P (3 * k) : List (View.Piece (Elt F) S512x32x256 .f32))
      = rowPieces P (3 * (k + 1)) := by
  subst h1 h2 h3 q1 q2 q3
  rw [show 3 * (k + 1) = 3 * k + 1 + 1 + 1 from by omega]
  rw [rowPieces, dif_pos (by omega), rowPieces, dif_pos (by omega), rowPieces, dif_pos (by omega)]

/-- Where forward trip `k` stores its step `u`. -/
theorem off1_eq (k : Fin k0_t1_loop.trips) (u : ℕ) (hu : u < 3) : k0_off1 k (BitVec.ofNat 32 u) = ![3 * k.val + 1 + u, 0, 0] := by
  have hk : k.val < 170 := Nat.lt_of_lt_of_le k.isLt k0_t1_abs.2.1
  have h := fWord k u hu
  have hn : (BitVec.ofNat 32 (3 * k.val + 1 + u)).toNat = 3 * k.val + 1 + u := by rw [BitVec.toNat_ofNat]; omega
  unfold k0_off1
  show ![(Scalar.indexCast (Scalar.addi (Scalar.addi (Scalar.muli 3#32 (Scf.iv 0#32 1#32 k)) 1#32) (BitVec.ofNat 32 u))).toNat, 0, 0] = _
  rw [h]
  show ![(BitVec.ofNat 32 (3 * k.val + 1 + u)).toNat, 0, 0] = _
  rw [hn]

/-- One forward step, its anti-diagonal's number spelled as trip `k` computes it. -/
theorem fRow_word (v0 : IVec S32x256 32) (ts : FVec F S32x256 .f32) (xw : FVec F S32x768 .f32)
    (p : FVec F S32x256 .f32 × FVec F S32x256 .f32) (k : Fin k0_t1_loop.trips) (u : ℕ) (hu : u < 3) :
    fRow v0 ts xw p (3 * k.val + u + 1)
      = fStep v0 ts xw (Scalar.addi (Scalar.addi (Scalar.muli 3#32 (Scf.iv 0#32 1#32 k)) 1#32) (BitVec.ofNat 32 u)) (fRow v0 ts xw p (3 * k.val + u)) := by
  rw [fWord k u hu, show 3 * k.val + 1 + u = 3 * k.val + u + 1 from by omega]; rfl

/-- The invariants of the forward loop. -/
abbrev FwdLoop (c : Dev nD) (E : Set ℕ) (i : grid0.Coords) (arg1 : Memref sig .tc .vmem S64x256 .f32) (harg1 : arg1.IsWhole)
    (arg2 : Memref sig .tc .vmem S64x768 .f32) (harg2 : arg2.IsWhole) (arg3 : Memref sig .tc .vmem S1x8x128 .f32) (harg3 : arg3.IsWhole)
    (arg4 : Memref sig .tc .vmem S1x8x128 .f32) (harg4 : arg4.IsWhole) (arg5 : Memref sig .tc .vmem S512x32x256 .f32) (harg5 : arg5.IsWhole)
    (arg6 : Memref sig .tc .vmem S512x32x256 .f32) (harg6 : arg6.IsWhole) (arg7 : Memref sig .tc .vmem S2x32x256 .f32) (harg7 : arg7.IsWhole)
    (v0 : IVec S32x256 32) (v2 v4 : FVec F S32x256 .f32) (v12 v14 : FVec F S32x768 .f32) (v21 v31 v35 : FVec F S32x256 .f32)
    (init : FVec F S32x256 .f32 × FVec F S32x256 .f32 × FVec F S32x256 .f32 × FVec F S32x256 .f32) :=
  LoopInv (M := 𝕄) Idealize.ShloMosaic.frame (wpE defs₀ Variants.none (c : Thread nD τ) none) E
    k0_t1_loop.lb k0_t1_loop.ub k0_t1_loop.st k0_t1_ok init
    (k0_t1_body (F := F) i arg1 harg1 arg2 harg2 arg3 harg3 arg4 harg4 arg5 harg5 arg6 harg6 arg7 harg7 v0 v2 v4 v12 v14 v21 v31 v35 0#32 170#32)

set_option maxHeartbeats 1000000 in
set_option warn.classDefReducibility false in
/-- The forward loop: both chunks' rows go on by three anti-diagonals a trip, each stored in its scratch. -/
@[sl_loop] def fwdLoop (c : Dev nD) (E : Set ℕ) (i : grid0.Coords) (arg1 : Memref sig .tc .vmem S64x256 .f32) (harg1 : arg1.IsWhole)
    (arg2 : Memref sig .tc .vmem S64x768 .f32) (harg2 : arg2.IsWhole) (arg3 : Memref sig .tc .vmem S1x8x128 .f32) (harg3 : arg3.IsWhole)
    (arg4 : Memref sig .tc .vmem S1x8x128 .f32) (harg4 : arg4.IsWhole) (arg5 : Memref sig .tc .vmem S512x32x256 .f32) (harg5 : arg5.IsWhole)
    (arg6 : Memref sig .tc .vmem S512x32x256 .f32) (harg6 : arg6.IsWhole) (arg7 : Memref sig .tc .vmem S2x32x256 .f32) (harg7 : arg7.IsWhole)
    (v0 : IVec S32x256 32) (v2 v4 : FVec F S32x256 .f32) (v12 v14 : FVec F S32x768 .f32) (v21 v31 v35 : FVec F S32x256 .f32)
    (G5 : BufTy.Contents (Elt F) arg5.view.ty) (G6 : BufTy.Contents (Elt F) arg6.view.ty)
    (init : FVec F S32x256 .f32 × FVec F S32x256 .f32 × FVec F S32x256 .f32 × FVec F S32x256 .f32) :
    FwdLoop (F := F) c E i arg1 harg1 arg2 harg2 arg3 harg3 arg4 harg4 arg5 harg5 arg6 harg6 arg7 harg7 v0 v2 v4 v12 v14 v21 v31 v35 init where
  inv k acc := iprop(
    (∃ f5, (arg5.view.loc (c : Thread nD τ) ↦[arg5.view.set]{fullShare} f5)
      ∗ ⌜f5 = arg5.view.writes (Elt F) G5 (rowPieces (fun d => k0_pay7 (fRow v0 v2 v12 (init.1, init.2.1) d).1) (3 * k))⌝)
    ∗ (∃ f6, (arg6.view.loc (c : Thread nD τ) ↦[arg6.view.set]{fullShare} f6)
      ∗ ⌜f6 = arg6.view.writes (Elt F) G6 (rowPieces (fun d => k0_pay7 (fRow v0 v4 v14 (init.2.2.1, init.2.2.2) d).1) (3 * k))⌝)
    ∗ ⌜acc = ((fRow v0 v2 v12 (init.1, init.2.1) (3 * k)).1, (fRow v0 v2 v12 (init.1, init.2.1) (3 * k)).2,
        (fRow v0 v4 v14 (init.2.2.1, init.2.2.2) (3 * k)).1, (fRow v0 v4 v14 (init.2.2.1, init.2.2.2) (3 * k)).2)⌝)
  step k acc := by
    have hk : k.val < 170 := Nat.lt_of_lt_of_le k.isLt k0_t1_abs.2.1
    unfold k0_t1_body
    iintro ⟨⟨%f5, H5, %h5⟩, ⟨%f6, H6, %h6⟩, %hacc⟩
    subst hacc h5 h6
    sl_exec
    sl_step
    isplitl [H5]
    · iexists _
      isplitl [H5]
      · iexact H5
      · ipureintro
        refine congrArg (arg5.view.writes (Elt F) G5) (rowPieces_three _ k.val hk (off1_eq k 0 (by omega)) (off1_eq k 1 (by omega))
          (off1_eq k 2 (by omega)) _ _ _ ?_ ?_ ?_)
        · beta_reduce; rw [fRow_word v0 v2 v12 _ k 0 (by omega)]; rfl
        · beta_reduce; rw [fRow_word v0 v2 v12 _ k 1 (by omega), fRow_word v0 v2 v12 _ k 0 (by omega)]; rfl
        · beta_reduce; rw [fRow_word v0 v2 v12 _ k 2 (by omega), fRow_word v0 v2 v12 _ k 1 (by omega), fRow_word v0 v2 v12 _ k 0 (by omega)]; rfl
    isplitl [H6]
    · iexists _
      isplitl [H6]
      · iexact H6
      · ipureintro
        refine congrArg (arg6.view.writes (Elt F) G6) (rowPieces_three _ k.val hk (off1_eq k 0 (by omega)) (off1_eq k 1 (by omega))
          (off1_eq k 2 (by omega)) _ _ _ ?_ ?_ ?_)
        · beta_reduce; rw [fRow_word v0 v4 v14 _ k 0 (by omega)]; rfl
        · beta_reduce; rw [fRow_word v0 v4 v14 _ k 1 (by omega), fRow_word v0 v4 v14 _ k 0 (by omega)]; rfl
        · beta_reduce; rw [fRow_word v0 v4 v14 _ k 2 (by omega), fRow_word v0 v4 v14 _ k 1 (by omega), fRow_word v0 v4 v14 _ k 0 (by omega)]; rfl
    · ipureintro
      rw [show 3 * (k.val + 1) = 3 * k.val + 2 + 1 from by omega, fRow_word v0 v4 v14 _ k 2 (by omega), fRow_word v0 v4 v14 _ k 1 (by omega),
        fRow_word v0 v4 v14 _ k 0 (by omega), fRow_word v0 v2 v12 _ k 2 (by omega), fRow_word v0 v2 v12 _ k 1 (by omega),
        fRow_word v0 v2 v12 _ k 0 (by omega)]
      rfl

/-- Row `d` of a scratch's contents. -/
def storedRow {M : Memref sig .tc .vmem S512x32x256 .f32} (f : BufTy.Contents (Elt F) M.view.ty) (d : ℕ) : Vec F S1x32x256 .f32 :=
  if h : d < 512 then M.view.readAt (Elt F) (Rect.unit (s := S512x32x256) ![d, 0, 0] S1x32x256.size (by
    intro a; fin_cases a <;> simp [S1x32x256, S512x32x256] <;> omega)).toLoadRect f else fun _ => Scalar.ofBits .f32 0x00000000#32

/-- A load of one row, its offsets the row's. -/
theorem readAt_row {M : Memref sig .tc .vmem S512x32x256 .f32} (f : BufTy.Contents (Elt F) M.view.ty) (d : ℕ) (hd : d < 512)
    {o : Fin 3 → ℕ} (ho : o = ![d, 0, 0]) (inb : ∀ a, o a + S1x32x256.size a ≤ S512x32x256.size a) :
    M.view.readAt (Elt F) (Rect.unit (s := S512x32x256) o S1x32x256.size inb).toLoadRect f = storedRow (M := M) f d := by
  subst ho; rw [storedRow, dif_pos hd]

/-- Where backward trip `k` reads the row of its step `u`. -/
theorem off2_eq (k : Fin k0_t2_loop.trips) (u : ℕ) (hu : u < 3) : k0_off2 k (BitVec.ofNat 32 u) = ![509 - 3 * k.val - u, 0, 0] := by
  have hk : k.val < 170 := Nat.lt_of_lt_of_le k.isLt k0_t2_abs.2.1
  have h := bWord k u hu
  have hn : (BitVec.ofNat 32 (509 - 3 * k.val - u)).toNat = 509 - 3 * k.val - u := by rw [BitVec.toNat_ofNat]; omega
  unfold k0_off2
  show ![(Scalar.indexCast (Scalar.subi (Scalar.subi 509#32 (Scalar.muli 3#32 (Scf.iv 0#32 1#32 k))) (BitVec.ofNat 32 u))).toNat, 0, 0] = _
  rw [h]
  show ![(BitVec.ofNat 32 (509 - 3 * k.val - u)).toNat, 0, 0] = _
  rw [hn]

/-- Where backward trip `k` reads the rows after that of its step `u`. -/
theorem off3_eq (k : Fin k0_t2_loop.trips) (u v : ℕ) (hu : u < 3) (hv : v < 3) :
    k0_off3 k (BitVec.ofNat 32 u) (BitVec.ofNat 32 v) = ![509 - 3 * k.val - u + v, 0, 0] := by
  have hk : k.val < 170 := Nat.lt_of_lt_of_le k.isLt k0_t2_abs.2.1
  have h := bWord k u hu
  have hn : (BitVec.ofNat 32 (509 - 3 * k.val - u) + BitVec.ofNat 32 v).toNat = 509 - 3 * k.val - u + v := by
    rw [BitVec.toNat_add, BitVec.toNat_ofNat, BitVec.toNat_ofNat]; omega
  unfold k0_off3
  show ![(Scalar.indexCast (Scalar.addi (Scalar.subi (Scalar.subi 509#32 (Scalar.muli 3#32 (Scf.iv 0#32 1#32 k))) (BitVec.ofNat 32 u)) (BitVec.ofNat 32 v))).toNat, 0, 0] = _
  rw [h]
  show ![(BitVec.ofNat 32 (509 - 3 * k.val - u) + BitVec.ofNat 32 v).toNat, 0, 0] = _
  rw [hn]

/-- One backward step, its anti-diagonal's number spelled as trip `k` computes it. -/
theorem bRow_word (v0 : IVec S32x256 32) (ts tsh : FVec F S32x256 .f32) (xw : FVec F S32x768 .f32)
    (row : ℕ → Vec F S1x32x256 .f32) (p : Back F) (k : Fin k0_t2_loop.trips) (u : ℕ) (hu : u < 3) :
    bRow v0 ts tsh xw row p (3 * k.val + u + 1)
      = bStep v0 ts tsh xw (Scalar.subi (Scalar.subi 509#32 (Scalar.muli 3#32 (Scf.iv 0#32 1#32 k))) (BitVec.ofNat 32 u))
        (row (509 - 3 * k.val - u)) (row (509 - 3 * k.val - u + 1)) (row (509 - 3 * k.val - u + 2)) (bRow v0 ts tsh xw row p (3 * k.val + u)) := by
  have hk : k.val < 170 := Nat.lt_of_lt_of_le k.isLt k0_t2_abs.2.1
  rw [bWord k u hu, bRow, show 509 - (3 * k.val + u) = 509 - 3 * k.val - u from by omega,
    show 510 - (3 * k.val + u) = 509 - 3 * k.val - u + 1 from by omega, show 511 - (3 * k.val + u) = 509 - 3 * k.val - u + 2 from by omega]

/-- One backward step over a scratch's contents, in the loads of trip `k`. -/
theorem bRow_load {M : Memref sig .tc .vmem S512x32x256 .f32} (f : BufTy.Contents (Elt F) M.view.ty)
    (v0 : IVec S32x256 32) (ts tsh : FVec F S32x256 .f32) (xw : FVec F S32x768 .f32) (p : Back F)
    (k : Fin k0_t2_loop.trips) (u : ℕ) (hu : u < 3)
    (i2 : ∀ a, k0_off2 k (BitVec.ofNat 32 u) a + S1x32x256.size a ≤ S512x32x256.size a)
    (i31 : ∀ a, k0_off3 k (BitVec.ofNat 32 u) (BitVec.ofNat 32 1) a + S1x32x256.size a ≤ S512x32x256.size a)
    (i32 : ∀ a, k0_off3 k (BitVec.ofNat 32 u) (BitVec.ofNat 32 2) a + S1x32x256.size a ≤ S512x32x256.size a) :
    bRow v0 ts tsh xw (storedRow (M := M) f) p (3 * k.val + u + 1)
      = bStep v0 ts tsh xw (Scalar.subi (Scalar.subi 509#32 (Scalar.muli 3#32 (Scf.iv 0#32 1#32 k))) (BitVec.ofNat 32 u))
        (M.view.readAt (Elt F) (Rect.unit (s := S512x32x256) (k0_off2 k (BitVec.ofNat 32 u)) S1x32x256.size i2).toLoadRect f)
        (M.view.readAt (Elt F) (Rect.unit (s := S512x32x256) (k0_off3 k (BitVec.ofNat 32 u) (BitVec.ofNat 32 1)) S1x32x256.size i31).toLoadRect f)
        (M.view.readAt (Elt F) (Rect.unit (s := S512x32x256) (k0_off3 k (BitVec.ofNat 32 u) (BitVec.ofNat 32 2)) S1x32x256.size i32).toLoadRect f)
        (bRow v0 ts tsh xw (storedRow (M := M) f) p (3 * k.val + u)) := by
  have hk : k.val < 170 := Nat.lt_of_lt_of_le k.isLt k0_t2_abs.2.1
  rw [readAt_row f (509 - 3 * k.val - u) (by omega) (off2_eq k u hu), readAt_row f (509 - 3 * k.val - u + 1) (by omega) (off3_eq k u 1 hu (by omega)),
    readAt_row f (509 - 3 * k.val - u + 2) (by omega) (off3_eq k u 2 hu (by omega)), bRow_word _ _ _ _ _ _ k u hu]

/-- A trip's three backward steps in its loads. -/
theorem bRow_trip {M : Memref sig .tc .vmem S512x32x256 .f32} (f : BufTy.Contents (Elt F) M.view.ty)
    (v0 : IVec S32x256 32) (ts tsh : FVec F S32x256 .f32) (xw : FVec F S32x768 .f32) (p : Back F) (k : Fin k0_t2_loop.trips) :
    bRow v0 ts tsh xw (storedRow (M := M) f) p (3 * (k.val + 1))
      = bStep v0 ts tsh xw (Scalar.subi (Scalar.subi 509#32 (Scalar.muli 3#32 (Scf.iv 0#32 1#32 k))) 2#32)
        (M.view.readAt (Elt F) (Rect.unit (s := S512x32x256) (k0_off2 k 2#32) S1x32x256.size (k0_off2_inb k 2)).toLoadRect f)
        (M.view.readAt (Elt F) (Rect.unit (s := S512x32x256) (k0_off3 k 2#32 1#32) S1x32x256.size (k0_off3_inb k 2 0)).toLoadRect f)
        (M.view.readAt (Elt F) (Rect.unit (s := S512x32x256) (k0_off3 k 2#32 2#32) S1x32x256.size (k0_off3_inb k 2 1)).toLoadRect f)
        (bStep v0 ts tsh xw (Scalar.subi (Scalar.subi 509#32 (Scalar.muli 3#32 (Scf.iv 0#32 1#32 k))) 1#32)
          (M.view.readAt (Elt F) (Rect.unit (s := S512x32x256) (k0_off2 k 1#32) S1x32x256.size (k0_off2_inb k 1)).toLoadRect f)
          (M.view.readAt (Elt F) (Rect.unit (s := S512x32x256) (k0_off3 k 1#32 1#32) S1x32x256.size (k0_off3_inb k 1 0)).toLoadRect f)
          (M.view.readAt (Elt F) (Rect.unit (s := S512x32x256) (k0_off3 k 1#32 2#32) S1x32x256.size (k0_off3_inb k 1 1)).toLoadRect f)
          (bStep v0 ts tsh xw (Scalar.subi (Scalar.subi 509#32 (Scalar.muli 3#32 (Scf.iv 0#32 1#32 k))) 0#32)
            (M.view.readAt (Elt F) (Rect.unit (s := S512x32x256) (k0_off2 k 0#32) S1x32x256.size (k0_off2_inb k 0)).toLoadRect f)
            (M.view.readAt (Elt F) (Rect.unit (s := S512x32x256) (k0_off3 k 0#32 1#32) S1x32x256.size (k0_off3_inb k 0 0)).toLoadRect f)
            (M.view.readAt (Elt F) (Rect.unit (s := S512x32x256) (k0_off3 k 0#32 2#32) S1x32x256.size (k0_off3_inb k 0 1)).toLoadRect f)
            (bRow v0 ts tsh xw (storedRow (M := M) f) p (3 * k.val)))) := by
  rw [show 3 * (k.val + 1) = 3 * k.val + 2 + 1 from by omega]
  rw [bRow_load f v0 ts tsh xw p k 2 (by omega) (k0_off2_inb k 2) (k0_off3_inb k 2 0) (k0_off3_inb k 2 1)]
  rw [bRow_load f v0 ts tsh xw p k 1 (by omega) (k0_off2_inb k 1) (k0_off3_inb k 1 0) (k0_off3_inb k 1 1)]
  rw [bRow_load f v0 ts tsh xw p k 0 (by omega) (k0_off2_inb k 0) (k0_off3_inb k 0 0) (k0_off3_inb k 0 1)]
  rfl

/-- The first chunk's slice of the temporal accumulator. -/
abbrev acc0 : LoadRect S2x32x256 := (Rect.unit (s := S2x32x256) ![0, 0, 0] S1x32x256.size inb_S2x32x256_S1x32x256_0_0_0).toLoadRect
/-- The second chunk's. -/
abbrev acc1 : LoadRect S2x32x256 := (Rect.unit (s := S2x32x256) ![1, 0, 0] S1x32x256.size inb_S2x32x256_S1x32x256_1_0_0).toLoadRect

/-- A write to the first slice is what the slice reads as. -/
theorem read_acc0_hit {M : Memref sig .tc .vmem S2x32x256 .f32} (f : BufTy.Contents (Elt F) M.view.ty) (p : Vec F S1x32x256 .f32)
    (L : List (View.Piece (Elt F) S2x32x256 .f32)) (inb : ∀ a, (![0, 0, 0] : Fin 3 → ℕ) a + S1x32x256.size a ≤ S2x32x256.size a) :
    M.view.readAt (Elt F) acc0 (M.view.writes (Elt F) f (⟨Rect.unit (s := S2x32x256) ![0, 0, 0] S1x32x256.size inb, p⟩ :: L)) = p := by
  funext x
  exact View.read_writes_cons_emb M.view f (Rect.unit (s := S2x32x256) ![0, 0, 0] S1x32x256.size inb) p L x

/-- A write to the second slice is what that slice reads as. -/
theorem read_acc1_hit {M : Memref sig .tc .vmem S2x32x256 .f32} (f : BufTy.Contents (Elt F) M.view.ty) (p : Vec F S1x32x256 .f32)
    (L : List (View.Piece (Elt F) S2x32x256 .f32)) (inb : ∀ a, (![1, 0, 0] : Fin 3 → ℕ) a + S1x32x256.size a ≤ S2x32x256.size a) :
    M.view.readAt (Elt F) acc1 (M.view.writes (Elt F) f (⟨Rect.unit (s := S2x32x256) ![1, 0, 0] S1x32x256.size inb, p⟩ :: L)) = p := by
  funext x
  exact View.read_writes_cons_emb M.view f (Rect.unit (s := S2x32x256) ![1, 0, 0] S1x32x256.size inb) p L x

/-- A write to the second slice leaves the first. -/
theorem read_acc0_miss {M : Memref sig .tc .vmem S2x32x256 .f32} (f : BufTy.Contents (Elt F) M.view.ty) (p : Vec F S1x32x256 .f32)
    (L : List (View.Piece (Elt F) S2x32x256 .f32)) (inb : ∀ a, (![1, 0, 0] : Fin 3 → ℕ) a + S1x32x256.size a ≤ S2x32x256.size a) :
    M.view.readAt (Elt F) acc0 (M.view.writes (Elt F) f (⟨Rect.unit (s := S2x32x256) ![1, 0, 0] S1x32x256.size inb, p⟩ :: L))
      = M.view.readAt (Elt F) acc0 (M.view.writes (Elt F) f L) := by
  funext x
  refine View.read_writes_cons_unit_of_not_mem M.view f inb p L _ rfl (0 : Fin 3) (.inl ?_)
  have : (x (0 : Fin 3)).val < 1 := (x (0 : Fin 3)).isLt
  show 0 + 1 * (x (0 : Fin 3)).val < 1
  omega

/-- A write to the first slice leaves the second. -/
theorem read_acc1_miss {M : Memref sig .tc .vmem S2x32x256 .f32} (f : BufTy.Contents (Elt F) M.view.ty) (p : Vec F S1x32x256 .f32)
    (L : List (View.Piece (Elt F) S2x32x256 .f32)) (inb : ∀ a, (![0, 0, 0] : Fin 3 → ℕ) a + S1x32x256.size a ≤ S2x32x256.size a) :
    M.view.readAt (Elt F) acc1 (M.view.writes (Elt F) f (⟨Rect.unit (s := S2x32x256) ![0, 0, 0] S1x32x256.size inb, p⟩ :: L))
      = M.view.readAt (Elt F) acc1 (M.view.writes (Elt F) f L) := by
  funext x
  refine View.read_writes_cons_unit_of_not_mem M.view f inb p L _ rfl (0 : Fin 3) (.inr ?_)
  show 0 + 1 ≤ 1 + 1 * (x (0 : Fin 3)).val
  omega

/-- The same for a load whose contents the writes before it cover. -/
theorem cov_acc0 (M : Memref sig .tc .vmem S2x32x256 .f32) (p q : Vec F S1x32x256 .f32)
    (L : List (View.Piece (Elt F) S2x32x256 .f32)) (i1 : ∀ a, (![1, 0, 0] : Fin 3 → ℕ) a + S1x32x256.size a ≤ S2x32x256.size a)
    (i0 : ∀ a, (![0, 0, 0] : Fin 3 → ℕ) a + S1x32x256.size a ≤ S2x32x256.size a) :
    M.view.readCov (⟨Rect.unit (s := S2x32x256) ![1, 0, 0] S1x32x256.size i1, q⟩ :: ⟨Rect.unit (s := S2x32x256) ![0, 0, 0] S1x32x256.size i0, p⟩ :: L)
      (Rect.unit (s := S2x32x256) ![0, 0, 0] S1x32x256.size i0).toLoadRect = p := by
  exact (read_acc0_miss _ q _ i1).trans (read_acc0_hit _ p L i0)

/-- And through the second slice. -/
theorem cov_acc1 (M : Memref sig .tc .vmem S2x32x256 .f32) (p q : Vec F S1x32x256 .f32)
    (L : List (View.Piece (Elt F) S2x32x256 .f32)) (i1 : ∀ a, (![1, 0, 0] : Fin 3 → ℕ) a + S1x32x256.size a ≤ S2x32x256.size a)
    (i0 : ∀ a, (![0, 0, 0] : Fin 3 → ℕ) a + S1x32x256.size a ≤ S2x32x256.size a) :
    M.view.readCov (⟨Rect.unit (s := S2x32x256) ![0, 0, 0] S1x32x256.size i0, p⟩ :: ⟨Rect.unit (s := S2x32x256) ![1, 0, 0] S1x32x256.size i1, q⟩ :: L)
      (Rect.unit (s := S2x32x256) ![1, 0, 0] S1x32x256.size i1).toLoadRect = q := by
  exact (read_acc1_miss _ p _ i0).trans (read_acc1_hit _ q L i1)

set_option maxHeartbeats 2000000 in
set_option warn.classDefReducibility false in
/-- The backward loop: both chunks' sweeps go on by three anti-diagonals a trip, each adding to its slice of the
accumulator. -/
@[sl_loop] def backLoop (c : Dev nD) (E : Set ℕ) (i : grid0.Coords) (arg1 : Memref sig .tc .vmem S64x256 .f32) (harg1 : arg1.IsWhole)
    (arg2 : Memref sig .tc .vmem S64x768 .f32) (harg2 : arg2.IsWhole) (arg3 : Memref sig .tc .vmem S1x8x128 .f32) (harg3 : arg3.IsWhole)
    (arg4 : Memref sig .tc .vmem S1x8x128 .f32) (harg4 : arg4.IsWhole) (arg5 : Memref sig .tc .vmem S512x32x256 .f32) (harg5 : arg5.IsWhole)
    (arg6 : Memref sig .tc .vmem S512x32x256 .f32) (harg6 : arg6.IsWhole) (arg7 : Memref sig .tc .vmem S2x32x256 .f32) (harg7 : arg7.IsWhole)
    (v0 : IVec S32x256 32) (v2 v4 v7 v10 : FVec F S32x256 .f32) (v12 v14 : FVec F S32x768 .f32)
    (X5 : BufTy.Contents (Elt F) arg5.view.ty) (X6 : BufTy.Contents (Elt F) arg6.view.ty) (G7 : BufTy.Contents (Elt F) arg7.view.ty)
    (init : FVec F S32x256 .f32 × FVec F S32x256 .f32 × FVec F S32x256 .f32 × FVec F S32x256 .f32 × FVec F S32x256 .f32 × FVec F S32x256 .f32) :
    LoopInv (M := 𝕄) Idealize.ShloMosaic.frame (wpE defs₀ Variants.none (c : Thread nD τ) none) E
      k0_t2_loop.lb k0_t2_loop.ub k0_t2_loop.st k0_t2_ok init
      (k0_t2_body (F := F) i arg1 harg1 arg2 harg2 arg3 harg3 arg4 harg4 arg5 harg5 arg6 harg6 arg7 harg7 v0 v2 v4 v7 v10 v12 v14) where
  inv k acc := iprop(
    (arg5.view.loc (c : Thread nD τ) ↦[arg5.view.set]{fullShare} X5) ∗ (arg6.view.loc (c : Thread nD τ) ↦[arg6.view.set]{fullShare} X6)
    ∗ (∃ f7, (arg7.view.loc (c : Thread nD τ) ↦[arg7.view.set]{fullShare} f7)
      ∗ ⌜arg7.view.readAt (Elt F) acc0 f7
        = (bRow v0 v2 v7 v12 (storedRow (M := arg5) X5) (init.1, init.2.1, init.2.2.1, arg7.view.readAt (Elt F) acc0 G7) (3 * k)).2.2.2⌝
      ∗ ⌜arg7.view.readAt (Elt F) acc1 f7
        = (bRow v0 v4 v10 v14 (storedRow (M := arg6) X6) (init.2.2.2.1, init.2.2.2.2.1, init.2.2.2.2.2, arg7.view.readAt (Elt F) acc1 G7) (3 * k)).2.2.2⌝)
    ∗ ⌜acc = ((bRow v0 v2 v7 v12 (storedRow (M := arg5) X5) (init.1, init.2.1, init.2.2.1, arg7.view.readAt (Elt F) acc0 G7) (3 * k)).1,
        (bRow v0 v2 v7 v12 (storedRow (M := arg5) X5) (init.1, init.2.1, init.2.2.1, arg7.view.readAt (Elt F) acc0 G7) (3 * k)).2.1,
        (bRow v0 v2 v7 v12 (storedRow (M := arg5) X5) (init.1, init.2.1, init.2.2.1, arg7.view.readAt (Elt F) acc0 G7) (3 * k)).2.2.1,
        (bRow v0 v4 v10 v14 (storedRow (M := arg6) X6) (init.2.2.2.1, init.2.2.2.2.1, init.2.2.2.2.2, arg7.view.readAt (Elt F) acc1 G7) (3 * k)).1,
        (bRow v0 v4 v10 v14 (storedRow (M := arg6) X6) (init.2.2.2.1, init.2.2.2.2.1, init.2.2.2.2.2, arg7.view.readAt (Elt F) acc1 G7) (3 * k)).2.1,
        (bRow v0 v4 v10 v14 (storedRow (M := arg6) X6) (init.2.2.2.1, init.2.2.2.2.1, init.2.2.2.2.2, arg7.view.readAt (Elt F) acc1 G7) (3 * k)).2.2.1)⌝)
  step k acc := by
    have hk : k.val < 170 := Nat.lt_of_lt_of_le k.isLt k0_t2_abs.2.1
    unfold k0_t2_body
    iintro ⟨H5, H6, ⟨%f7, H7, %h0, %h1⟩, %hacc⟩
    subst hacc
    sl_exec
    sl_step
    isplitl [H5]
    · iexact H5
    isplitl [H6]
    · iexact H6
    isplitl [H7]
    · iexists _
      isplitl [H7]
      · iexact H7
      isplitl []
      · ipureintro
        delta backLoop.sl.H7_5
        rw [read_acc0_miss, read_acc0_hit, bRow_trip X5]
        repeat (first | delta backLoop.sl.v580 | delta backLoop.sl.v577 | delta backLoop.sl.v572 | delta backLoop.sl.v571 | delta backLoop.sl.H7_4 | delta backLoop.sl.H7_3 | delta backLoop.sl.H7_2 | delta backLoop.sl.H7_1)
        rw [cov_acc0]
        repeat (first | delta backLoop.sl.v385 | delta backLoop.sl.v382 | delta backLoop.sl.v377 | delta backLoop.sl.v376 | delta backLoop.sl.H7_2 | delta backLoop.sl.H7_1)
        rw [cov_acc0]
        rfl
      · ipureintro
        rw [read_acc1_hit, bRow_trip X6]
        repeat (first | delta backLoop.sl.v673 | delta backLoop.sl.v668 | delta backLoop.sl.v667 | delta backLoop.sl.H7_5 | delta backLoop.sl.H7_4 | delta backLoop.sl.H7_3)
        rw [cov_acc1]
        repeat (first | delta backLoop.sl.v481 | delta backLoop.sl.v478 | delta backLoop.sl.v473 | delta backLoop.sl.v472 | delta backLoop.sl.H7_3 | delta backLoop.sl.H7_2 | delta backLoop.sl.H7_1)
        rw [cov_acc1]
        rfl
    · ipureintro
      rw [bRow_trip X5, bRow_trip X6]
      rfl

end Cert.KernelIdeal.Hand

end
-- ==== Proof.KerBody.lean ====
/-
  The kernel's body as a triple: from the two staged inputs it leaves, at every place of its two output blocks, the sum of
  the end rows' last lanes and the sum of the temporal accumulators.
-/
module

public import proofs.«01_k».proof.Proof.KerLoops
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The lane number of every place: the target position that a lane stands for. -/
abbrev lanes : IVec S32x256 32 := iota .tc S32x256 32 [1] iota_S32x256_d1_w32

/-- The rows of anti-diagonals 0 to 510 of one chunk, from its targets and its laid out inputs. -/
def chunkRow (t : Vec F S32x256 .f32) (x : Vec F S32x768 .f32) (d : ℕ) : FVec F S32x256 .f32 × FVec F S32x256 .f32 :=
  fRow lanes (k0_pay96 t) (k0_pay100 x) (k0_pay102 t x, k0_pay106) d

/-- The rows of one chunk as stored, anti-diagonal 511 all "inf". -/
def chunkStored (t : Vec F S32x256 .f32) (x : Vec F S32x768 .f32) (d : ℕ) : Vec F S1x32x256 .f32 :=
  if d ≤ 510 then k0_pay7 (chunkRow t x d).1 else k0_pay7 k0_pay106

/-- One chunk's backward sweep. -/
def chunkBack (t : Vec F S32x256 .f32) (x : Vec F S32x768 .f32) (n : ℕ) : Back F :=
  bRow lanes (k0_pay96 t) (k0_pay98 t) (k0_pay100 x) (chunkStored t x) (k0_pay111 lanes, k0_pay112, k0_pay117 (k0_pay100 x), k0_pay113) n

/-- The 32 rows of the staged targets that make up a chunk. -/
def targets (x0 : Vec F S64x256 .f32) (o : Fin 2 → ℕ) (inb : ∀ a, o a + S32x256.size a ≤ S64x256.size a) : Vec F S32x256 .f32 :=
  fun j => x0 ((Rect.unit (s := S64x256) o S32x256.size inb).emb j)

/-- The 32 rows of the staged inputs that make up a chunk. -/
def inputs (x1 : Vec F S64x768 .f32) (o : Fin 2 → ℕ) (inb : ∀ a, o a + S32x768.size a ≤ S64x768.size a) : Vec F S32x768 .f32 :=
  fun j => x1 ((Rect.unit (s := S64x768) o S32x768.size inb).emb j)

/-- What a store of a whole output block leaves. -/
theorem read_block {M : Memref sig .tc .vmem S1x8x128 .f32} (f : BufTy.Contents (Elt F) M.view.ty)
    (inb : ∀ a, (![0, 0, 0] : Fin 3 → ℕ) a + (![1, 8, 128] : Fin 3 → ℕ) a ≤ S1x8x128.size a) (w : Vec F S1x8x128 .f32) :
    M.view.read (Elt F) (M.view.writes (Elt F) f [⟨Rect.unit (s := S1x8x128) ![0, 0, 0] ![1, 8, 128] inb, w⟩]) = w := by
  funext y
  exact View.read_writes_cons_unit_of_mem M.view f inb w [] y y rfl (by intro a; fin_cases a <;> simp)

/-- Row `d` of a buffer written row by row from row 0 upwards. -/
theorem read_rowPieces {M : Memref sig .tc .vmem S512x32x256 .f32} (f : BufTy.Contents (Elt F) M.view.ty) (P : ℕ → Vec F S1x32x256 .f32)
    (inb0 : ∀ a, (![0, 0, 0] : Fin 3 → ℕ) a + S1x32x256.size a ≤ S512x32x256.size a) :
    ∀ n, n < 512 → ∀ d, d ≤ n → ∀ (y : S512x32x256.Idx) (x : S1x32x256.Idx), (y 0).val = d → (y 1).val = (x 1).val → (y 2).val = (x 2).val →
      M.view.read (Elt F) (M.view.writes (Elt F) f (rowPieces P n ++ [⟨Rect.unit (s := S512x32x256) ![0, 0, 0] S1x32x256.size inb0, P 0⟩])) y = P d x
  | 0, _, d, hd, y, x, h0, h1, h2 => by
      obtain rfl : d = 0 := by omega
      refine View.read_writes_cons_unit_of_mem M.view f inb0 (P 0) [] y x rfl ?_
      have hx : (x 0).val = 0 := by have : (x 0).val < 1 := (x 0).isLt; omega
      intro a; fin_cases a
      · show (y 0).val = 0 + (x 0).val; omega
      · show (y 1).val = 0 + (x 1).val; omega
      · show (y 2).val = 0 + (x 2).val; omega
  | n + 1, hn, d, hd, y, x, h0, h1, h2 => by
      rw [rowPieces, dif_pos hn, List.cons_append]
      by_cases hdn : d = n + 1
      · subst hdn
        refine View.read_writes_cons_unit_of_mem M.view f _ (P (n + 1)) _ y x rfl ?_
        have hx : (x 0).val = 0 := by have : (x 0).val < 1 := (x 0).isLt; omega
        intro a; fin_cases a
        · show (y 0).val = n + 1 + (x 0).val; omega
        · show (y 1).val = 0 + (x 1).val; omega
        · show (y 2).val = 0 + (x 2).val; omega
      · refine Eq.trans (View.read_writes_cons_unit_of_not_mem M.view f _ (P (n + 1)) _ y rfl (0 : Fin 3) (Or.inl ?_)) ?_
        · show (y 0).val < n + 1; omega
        exact read_rowPieces f P inb0 n (by omega) d (by omega) y x h0 h1 h2

/-- The stored rows after the forward sweep: rows 0 to 510 as swept, row 511 as set. -/
theorem storedRow_eq {M : Memref sig .tc .vmem S512x32x256 .f32} (f : BufTy.Contents (Elt F) M.view.ty) (P : ℕ → Vec F S1x32x256 .f32)
    (q : Vec F S1x32x256 .f32)
    (inb0 : ∀ a, (![0, 0, 0] : Fin 3 → ℕ) a + S1x32x256.size a ≤ S512x32x256.size a)
    (inb1 : ∀ a, (![511, 0, 0] : Fin 3 → ℕ) a + S1x32x256.size a ≤ S512x32x256.size a) (d : ℕ) (hd : d ≤ 511) :
    storedRow (M := M) (M.view.writes (Elt F) f (⟨Rect.unit (s := S512x32x256) ![511, 0, 0] S1x32x256.size inb1, q⟩
      :: (rowPieces P 510 ++ [⟨Rect.unit (s := S512x32x256) ![0, 0, 0] S1x32x256.size inb0, P 0⟩]))) d = if d ≤ 510 then P d else q := by
  have hd' : d < 512 := by omega
  rw [storedRow, dif_pos hd']
  funext x
  have hx : (x 0).val = 0 := by have : (x 0).val < 1 := (x 0).isLt; omega
  rw [View.readAt_apply]
  generalize hy : (Rect.unit (s := S512x32x256) ![d, 0, 0] S1x32x256.size _).toLoadRect.idx x = y
  have h0 : (y 0).val = d := by rw [← hy]; show d + 1 * (x 0).val = d; omega
  have h1 : (y 1).val = (x 1).val := by rw [← hy]; show 0 + 1 * (x 1).val = _; omega
  have h2 : (y 2).val = (x 2).val := by rw [← hy]; show 0 + 1 * (x 2).val = _; omega
  by_cases h : d ≤ 510
  · rw [if_pos h]
    refine Eq.trans (View.read_writes_cons_unit_of_not_mem M.view f inb1 q _ y rfl (0 : Fin 3) (Or.inl ?_)) ?_
    · show (y 0).val < 511; omega
    exact read_rowPieces f P inb0 510 (by omega) d h y x h0 h1 h2
  · rw [if_neg h]
    refine View.read_writes_cons_unit_of_mem M.view f inb1 q _ y x rfl ?_
    intro a; fin_cases a
    · show (y 0).val = 511 + (x 0).val; omega
    · show (y 1).val = 0 + (x 1).val; omega
    · show (y 2).val = 0 + (x 2).val; omega

/-- The backward sweep's accumulator over the rows as the scratch buffer holds them. -/
theorem back_of_writes {M : Memref sig .tc .vmem S512x32x256 .f32} (f : BufTy.Contents (Elt F) M.view.ty) (t : Vec F S32x256 .f32) (x : Vec F S32x768 .f32)
    (inb0 : ∀ a, (![0, 0, 0] : Fin 3 → ℕ) a + S1x32x256.size a ≤ S512x32x256.size a)
    (inb1 : ∀ a, (![511, 0, 0] : Fin 3 → ℕ) a + S1x32x256.size a ≤ S512x32x256.size a) :
    bRow lanes (k0_pay96 t) (k0_pay98 t) (k0_pay100 x) (storedRow (M := M) (M.view.writes (Elt F) f
        (⟨Rect.unit (s := S512x32x256) ![511, 0, 0] S1x32x256.size inb1, k0_pay7 k0_pay106⟩
          :: (rowPieces (fun d => k0_pay7 (chunkRow t x d).1) 510 ++ [⟨Rect.unit (s := S512x32x256) ![0, 0, 0] S1x32x256.size inb0, k0_pay7 (chunkRow t x 0).1⟩]))))
        (k0_pay111 lanes, k0_pay112, k0_pay117 (k0_pay100 x), k0_pay113) 510 = chunkBack t x 510 := by
  unfold chunkBack
  refine bRow_congr _ _ _ _ _ _ _ (fun d hd => ?_) 510
  rw [storedRow_eq f (fun d => k0_pay7 (chunkRow t x d).1) _ inb0 inb1 d hd]
  rfl

/-- What the body leaves in its first output block: the sum of every batch's end value. -/
def shapeOut (x0 : Vec F S64x256 .f32) (x1 : Vec F S64x768 .f32) : Vec F S1x8x128 .f32 :=
  k0_pay3 (k0_pay110 (chunkRow (targets x0 ![0, 0] inb_S64x256_S32x256_0_0) (inputs x1 ![0, 0] inb_S64x768_S32x768_0_0) 510).1
    (chunkRow (targets x0 ![32, 0] inb_S64x256_S32x256_32_0) (inputs x1 ![32, 0] inb_S64x768_S32x768_32_0) 510).1)

/-- What the body leaves in its second output block: the sum of both chunks' accumulators. -/
def timeOut (x0 : Vec F S64x256 .f32) (x1 : Vec F S64x768 .f32) : Vec F S1x8x128 .f32 :=
  k0_pay4 (chunkBack (targets x0 ![0, 0] inb_S64x256_S32x256_0_0) (inputs x1 ![0, 0] inb_S64x768_S32x768_0_0) 510).2.2.2
    (chunkBack (targets x0 ![32, 0] inb_S64x256_S32x256_32_0) (inputs x1 ![32, 0] inb_S64x768_S32x768_32_0) 510).2.2.2

/-- A load of a chunk's targets. -/
theorem read_targets {M : Memref sig .tc .vmem S64x256 .f32} (h : M.IsWhole) (x0 : Vec F S64x256 .f32) (o : Fin 2 → ℕ)
    (inb : ∀ a, o a + S32x256.size a ≤ S64x256.size a) :
    M.view.readAt (Elt F) (Rect.unit (s := S64x256) o S32x256.size inb).toLoadRect (h.unread x0) = targets x0 o inb := by
  funext j; rw [View.readAt_apply, h.read_unread]; rfl

/-- A load of a chunk's inputs. -/
theorem read_inputs {M : Memref sig .tc .vmem S64x768 .f32} (h : M.IsWhole) (x1 : Vec F S64x768 .f32) (o : Fin 2 → ℕ)
    (inb : ∀ a, o a + S32x768.size a ≤ S64x768.size a) :
    M.view.readAt (Elt F) (Rect.unit (s := S64x768) o S32x768.size inb).toLoadRect (h.unread x1) = inputs x1 o inb := by
  funext j; rw [View.readAt_apply, h.read_unread]; rfl

set_option maxHeartbeats 1000000 in
/-- The body's triple: the inputs stay, the scratch ends at something, the outputs end as told. -/
theorem kernelRun (c : Dev nD) (i : grid0.Coords) (arg1 : Memref sig .tc .vmem S64x256 .f32) (harg1 : arg1.IsWhole)
    (arg2 : Memref sig .tc .vmem S64x768 .f32) (harg2 : arg2.IsWhole) (arg3 : Memref sig .tc .vmem S1x8x128 .f32) (harg3 : arg3.IsWhole)
    (arg4 : Memref sig .tc .vmem S1x8x128 .f32) (harg4 : arg4.IsWhole) (arg5 : Memref sig .tc .vmem S512x32x256 .f32) (harg5 : arg5.IsWhole)
    (arg6 : Memref sig .tc .vmem S512x32x256 .f32) (harg6 : arg6.IsWhole) (arg7 : Memref sig .tc .vmem S2x32x256 .f32) (harg7 : arg7.IsWhole)
    (x0 : Vec F S64x256 .f32) (x1 : Vec F S64x768 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (shapeOut x0 x1) ∗ owns (c : Thread nD τ) arg4 fullShare (timeOut x0 x1) ∗ (∃ d, owns (c : Thread nD τ) arg5 fullShare d) ∗ (∃ d, owns (c : Thread nD τ) arg6 fullShare d) ∗ (∃ d, owns (c : Thread nD τ) arg7 fullShare d)) -∗ K ⟨⟩))
      ⊢ wp frame (wpE (defs₀ (F := F)) Variants.none c none) E (cc0__dilate_kernel i arg1 harg1 arg2 harg2 arg3 harg3 arg4 harg4 arg5 harg5 arg6 harg6 arg7 harg7) K := by
  simp only [cc0__dilate_kernel_eq_skeleton]; unfold cc0__dilate_kernel_skel
  simp only [k0_part19_eq_skeleton, k0_part20_eq_skeleton]
  unfold owns
  iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, ⟨%ds2, %fs2, -, HS2⟩, Hk⟩
  obtain rfl := harg1.eq_unread hf0; obtain rfl := harg2.eq_unread hf1
  sl_exec
  sl_step
  have e0 := read_targets harg1 x0 ![0, 0] inb_S64x256_S32x256_0_0
  have e1 := read_targets harg1 x0 ![32, 0] inb_S64x256_S32x256_32_0
  have e2 := read_inputs harg2 x1 ![0, 0] inb_S64x768_S32x768_0_0
  have e3 := read_inputs harg2 x1 ![32, 0] inb_S64x768_S32x768_32_0
  have et : Scf.trips k0_t1_loop.lb k0_t1_loop.ub k0_t1_loop.st = 170 := by decide
  have q97 : ∀ v, k0_pay97 (F := F) v = k0_pay96 v := fun _ => rfl
  have q99 : ∀ v, k0_pay99 (F := F) v = k0_pay98 v := fun _ => rfl
  have q101 : ∀ v, k0_pay101 (F := F) v = k0_pay100 v := fun _ => rfl
  have q104 : ∀ v w, k0_pay104 (F := F) v w = k0_pay102 v w := fun _ _ => rfl
  iapply Hk
  isplitl [H0]; · iexists _; isplitr; · ipureintro; exact harg1.read_unread _
                  iexact H0
  isplitl [H1]; · iexists _; isplitr; · ipureintro; exact harg2.read_unread _
                  iexact H1
  isplitl [H2]
  · iexists _; isplitr; swap; iexact H2
    ipureintro
    refine (read_block _ _ _).trans ?_
    delta kernelRun.sl.r_8 kernelRun.sl.r kernelRun.sl.r_1 kernelRun.sl.r_4 kernelRun.sl.r_5 kernelRun.sl.r_6 kernelRun.sl.r_7 kernelRun.sl.v0
    rw [e0, e1, e2, e3, et, q97, q101, q104]
    rfl
  isplitl [H3]
  · iexists _; isplitr; swap; iexact H3
    ipureintro
    refine (read_block _ _ _).trans ?_
    delta kernelRun.sl.HS0_512 kernelRun.sl.HS1_512 kernelRun.sl.HS2_2 kernelRun.sl.r kernelRun.sl.r_1 kernelRun.sl.r_2 kernelRun.sl.r_3 kernelRun.sl.r_4 kernelRun.sl.r_5 kernelRun.sl.r_6 kernelRun.sl.r_7 kernelRun.sl.r_9 kernelRun.sl.v0
    rw [e0, e1, e2, e3, et, q97, q99, q101, q104, read_acc0_miss, read_acc0_hit, read_acc1_hit]
    refine congrArg₂ k0_pay4 (congrArg (fun b : Back F => b.2.2.2) ?_) (congrArg (fun b : Back F => b.2.2.2) ?_)
    · exact back_of_writes _ _ _ _ _
    · exact back_of_writes _ _ _ _ _
  isplitl [HS0]; · iexists _; iexists _; isplitr; swap; iexact HS0
                   ipureintro; rfl
  isplitl [HS1]; · iexists _; iexists _; isplitr; swap; iexact HS1
                   ipureintro; rfl
  iexists _; iexists _; isplitr; swap; iexact HS2
  ipureintro; rfl

end Cert.KernelIdeal.Hand

end
-- ==== Proof.KerFrame.lean ====
/-
  The kernel's launch: the proof data of its one pipeline with both output blocks named, the body obligation from the body's
  triple, the run of the whole program, and the program's result as the host lines compute it from the two blocks.
-/
module

public import proofs.«01_k».proof.Proof.KerBody
public import Idealize.ShloMosaic.Lib.Pipeline.ValueKit
public import Idealize.ShloMosaic.Lib.StableHlo.ReadAt
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data: the inputs' blocks stay, the outputs end as the body's triple names them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => shapeOut (iblk m c 0 t) (iblk m c 1 t)
    | ⟨3, _⟩ => timeOut (iblk m c 0 t) (iblk m c 1 t)
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]
/-- The first input's block after a trip is the block as read. -/
theorem after0_0 (c : Dev nD) (t : Fin cfg0.N) : (dats m 0 c).after 0 t = iblk m c 0 t := by dsimp only [dats]
/-- The second input's block after a trip is the block as read. -/
theorem after0_1 (c : Dev nD) (t : Fin cfg0.N) : (dats m 0 c).after 1 t = iblk m c 1 t := by dsimp only [dats]
/-- What a trip leaves in the first output's block. -/
theorem after0_2 (c : Dev nD) (t : Fin cfg0.N) : (dats m 0 c).after 2 t = shapeOut (iblk m c 0 t) (iblk m c 1 t) := by dsimp only [dats]
/-- What a trip leaves in the second output's block. -/
theorem after0_3 (c : Dev nD) (t : Fin cfg0.N) : (dats m 0 c).after 3 t = timeOut (iblk m c 0 t) (iblk m c 1 t) := by dsimp only [dats]
/-- An input's staging buffer holds its block when the body starts. -/
theorem before0_0 (c : Dev nD) (t : Fin cfg0.N) (d) : (dats m 0 c).before 0 t d = iblk m c 0 t :=
  before0_0_of m (dats m 0 c) (A_eq m c 0) (after0_0 m c) t d
/-- The second input's block before a trip is the block as read. -/
theorem before0_1 (c : Dev nD) (t : Fin cfg0.N) (d) : (dats m 0 c).before 1 t d = iblk m c 1 t :=
  before0_1_of m (dats m 0 c) (A_eq m c 1) (after0_1 m c) t d

/-- The memrefs the pipeline passes at a point. -/
abbrev ms0_0 (t : Fin cfg0.N) : Memref sig .tc .vmem S64x256 .f32 := win0_0.stage (cfg0.slots t 0)
/-- The staging buffer of the second input. -/
abbrev ms0_1 (t : Fin cfg0.N) : Memref sig .tc .vmem S64x768 .f32 := win0_1.stage (cfg0.slots t 1)
/-- The staging buffer of the first output. -/
abbrev ms0_2 (t : Fin cfg0.N) : Memref sig .tc .vmem S1x8x128 .f32 := win0_2.stage (cfg0.slots t 2)
/-- The staging buffer of the second output. -/
abbrev ms0_3 (t : Fin cfg0.N) : Memref sig .tc .vmem S1x8x128 .f32 := win0_3.stage (cfg0.slots t 3)
/-- The scratch buffers as memrefs. -/
abbrev scM0_0 : Memref sig .tc .vmem S512x32x256 .f32 := Memref.whole cc0_scratch0
/-- The second chunk's scratch rows. -/
abbrev scM0_1 : Memref sig .tc .vmem S512x32x256 .f32 := Memref.whole cc0_scratch1
/-- The scratch accumulators. -/
abbrev scM0_2 : Memref sig .tc .vmem S2x32x256 .f32 := Memref.whole cc0_scratch2

/-- The region's invariant: the scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at a point: the triple, the scratch lent by the invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩⟩
  iapply (kernelRun c (grid0.coords t) _ _ _ _ _ _ _ _ _ _ _ _ _ _ (iblk m c 0 t) (iblk m c 1 t) Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  iexact H3

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: the arrays and the buffers behind the region as named, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every run ends with the result as the host lines behind the region compute it, both arguments unchanged, every counter
zero. -/
theorem run_values : θ_run defs (onTc (τ := τ) (main (F := F))) ⟨m, fun _ => 0, ρ⟩ (fun r => (∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1 c).2 main_v0 (Pipeline.mem_restRefs_of main_v0 (by decide) (by decide)),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩, h.2⟩) (run_main m ρ)

/-- The targets as the region finds them. -/
abbrev regT (c : Dev nD) : Vec F S64x256 .f32 := V m c main_call0_v1
/-- The laid out inputs as the region finds them. -/
abbrev regX (c : Dev nD) : Vec F S64x768 .f32 := V m c main_call0_v6

/-- Every window's block index is zero. -/
theorem idx : ∀ t : Fin cfg0.N, win0_0.index t = ![0, 0] ∧ win0_1.index t = ![0, 0] :=
  (by decide +kernel : ∀ t : Fin grid0.N, _)

/-- The first window's block is its whole array. -/
theorem iblk0_eq (c : Dev nD) : (iblk m c 0 t0_0 : Vec F S64x256 .f32) = regT m c := by
  blk_ext! [iblk, idx t0_0]

/-- The second window's block is its whole array. -/
theorem iblk1_eq (c : Dev nD) : (iblk m c 1 t0_0 : Vec F S64x768 .f32) = regX m c := by
  blk_ext! [iblk, idx t0_0]

/-- The first result array after the region. -/
theorem final2 (c : Dev nD) : (dats m 0 c).arrAt 2 cfg0.N = shapeOut (regT m c) (regX m c) := by
  refine (dats m 0 c).arrAt_eq_of_after_last 2 t0_0 (by decide +kernel) _ fun j => ?_
  rw [after0_2, iblk0_eq, iblk1_eq]
  rfl

/-- The second result array after the region. -/
theorem final3 (c : Dev nD) : (dats m 0 c).arrAt 3 cfg0.N = timeOut (regT m c) (regX m c) := by
  refine (dats m 0 c).arrAt_eq_of_after_last 3 t0_0 (by decide +kernel) _ fun j => ?_
  rw [after0_3, iblk0_eq, iblk1_eq]
  rfl

/-- The host lines behind the region: half the mean of one block's first element plus half the mean of the other's. -/
def resultOf (a b : Vec F S1x8x128 .f32) : Vec F S_ .f32 :=
  addf (mulf (constant S_ .f32 0x3F000000#32) (Host.divf (shapeCast S_ (extractStridedSlice S1x1x1 ![0, 0, 0] a slices_S1x8x128_S1x1x1_0_0_0) shapeCasts_S1x1x1_S_) (constant S_ .f32 0x42800000#32)))
    (mulf (constant S_ .f32 0x3F000000#32) (Host.divf (shapeCast S_ (extractStridedSlice S1x1x1 ![0, 0, 0] b slices_S1x8x128_S1x1x1_0_0_0) shapeCasts_S1x1x1_S_) (constant S_ .f32 0x42800000#32)))

/-- The program's result. -/
theorem result_eq (c : Dev nD) : (Pipeline.afterTail₀ cfgs (dats m) 0 (V0 m) [hostOps1] c main_v0 : Vec F S_ .f32)
    = resultOf (shapeOut (regT m c) (regX m c)) (timeOut (regT m c) (regX m c)) := by
  have h2 := (Pipeline.withArrays_arr spec0 winFacts0.arr_inj c (V0 m c) (fun w => (dats m 0 c).arrAt w cfg0.N) 2).trans (final2 m c)
  have h3 := (Pipeline.withArrays_arr spec0 winFacts0.arr_inj c (V0 m c) (fun w => (dats m 0 c).arrAt w cfg0.N) 3).trans (final3 m c)
  unfold Pipeline.afterTail₀
  generalize hW : Pipeline.withArrays (cfgs 0).spec c (V0 m c) (fun w => (dats m 0 c).arrAt w (cfgs 0).N) = W at *
  simp only [hostOps1, List.flatten_cons, List.flatten_nil, List.append_nil]
  generalize shapeOut (regT m c) (regX m c) = a at *
  generalize timeOut (regT m c) (regX m c) = b at *
  after_reads_simp
  rw [show W (Proc.tc.devRef main_call0_v7_0) = a from h2, show W (Proc.tc.devRef main_call0_v7_1) = b from h3]
  rfl

end Cert.KernelIdeal.Hand

end
-- ==== Proof.KerPrinted.lean ====
/-
  The printed kernel's frame: at bit patterns a named constant can be read as the pattern it was printed with, and the
  kernel with its constants named is then the printed kernel, operation by operation.
-/
module

public import proofs.«01_k».proof.Kernel
public import proofs.«01_k».proof.Proof.KerFrame
public import Idealize.ShloMosaic.PureOps.BitExact

@[expose] public section

noncomputable section

namespace Cert.Kernel.Hand

open Idealize.ShloMosaic Idealize.ShloMosaic.TcCoe Idealize.SL.Sem

/-- A named constant at bit patterns: the pattern it was printed with. -/
abbrev namedBits : Named Bits := ⟨fun _ _ φ w => FloatOps.ofBits φ w⟩

attribute [local instance] namedBits

variable [h : Cert.Kernel.Facts] [h' : Cert.KernelIdeal.Facts]

/-- The two programs are one at bit patterns. -/
theorem main_eq : (Cert.Kernel.main (F := Bits)) = (Cert.KernelIdeal.main (F := Bits)) := rfl

-- the two tables' case distinctions are declarations of different names, compared by what they unfold to
set_option smartUnfolding false in
/-- So are the kernels' bodies. -/
theorem defs_eq : (Cert.Kernel.defs (F := Bits)) = (Cert.KernelIdeal.defs (F := Bits)) := rfl

/-- The kernel with its constants named runs, leaves its arguments alone and ends with every counter at zero, for any floats. -/
theorem named_frame {F : FTy → Type} [FloatOps F] [Named F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun r h => ⟨fun c => (h.1 c).2, h.2⟩) (Cert.KernelIdeal.Hand.run_values m ρ)

/-- The printed kernel runs, leaves its arguments alone and ends with every counter at zero. -/
theorem frame (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_eq, main_eq]
  exact named_frame m ρ

end Cert.Kernel.Hand

end
-- ==== Proof.TwoLoops.lean ====
/-
  The run of a host-only @main with TWO counted loops: stretches, a loop, stretches, a second loop, stretches.
  Assembled from the library's segments (`segsOf`, `loopSeg`); the library's own `run_loop` is the case of one loop.
-/
module

public import Idealize.ShloMosaic.Lib.StableHlo.RunLoop

@[expose] public section

noncomputable section

namespace Idealize.ShloMosaic.StableHlo

open Idealize.SL Idealize.SL.RA Idealize.SL.BI
open scoped Idealize.SL.BI
open Idealize.SL.BI.BIBase Idealize.SL.BI.Laws Idealize.SL.ProofMode Idealize.SL.Sem
open Idealize.ShloMosaic.Rounds
open TcCoe
open Idealize.ShloMosaic.Pipeline (CSeg Ticket PCfg ucRefs unscopedBufs_held sub_ucRefs)

namespace TwoLoops

variable {nD : Nat} {τ : Topo} {sig : RefSig} {F : FTy → Type} {Λ₀ : SL.Sem.Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- No pipeline: nothing is admitted. -/
abbrev noAdm : (p : Fin 0) → (pcs p).Adm := fun p => p.elim0
/-- No pipeline: no ticket. -/
abbrev noTk : Fin 0 → Ticket (Ix := Unit) (Name := ℕ) (U := Option PUnit) (Lvl := ℕ) (nD := nD) (τ := τ) pcs (noAdm pcs) := fun j => j.elim0
/-- No semaphore is ranked. -/
abbrev noL : GSem nD τ sig → Finset Unit := fun _ => ∅
/-- No semaphore has a level. -/
abbrev noLv : GSem nD τ sig → Unit → ℕ := fun _ _ => 0

/-- What rides along beside the buffers: the core owes nothing. -/
abbrev Owes (c : Dev nD) : sProp 𝕄 := iprop(∃ W, owes (c : Thread nD τ) (0 : CellTallies nD τ sig Unit) W)

variable {pcs defs₀ loops}

/-- A condition's specification with what the core owes framed through it. -/
theorem condOwes {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (hcond : CondSpec pcs defs₀ loops cond condOps bodyI W₀ n) :
    LoopCond pcs defs₀ Variants.none loops Owes cond condOps bodyI W₀ n := fun k hk c bd => by
  have post : ∀ v : Elt F .i1,
      iprop(iprop(⌜v = 1#1 ↔ k < n⌝ ∗ boundary (c : Thread nD τ) ∗ held (c : Thread nD τ) (ucRefs τ sig) (after condOps (atTrip condOps bodyI W₀ k c))) ∗ Owes c)
        ⊢ iprop(⌜v = 1#1 ↔ k < n⌝ ∗ boundary (c : Thread nD τ) ∗ held (c : Thread nD τ) (ucRefs τ sig) (after condOps (atTrip condOps bodyI W₀ k c)) ∗ Owes c) := fun v => by
    iintro ⟨⟨%hv, Hb, Hh⟩, HO⟩
    isplitr; · ipureintro; exact hv
    isplitl [Hb]; · iexact Hb
    isplitl [Hh]
    · iexact Hh
    · iexact HO
  refine BIBase.Entails.trans ?_ (((sep_mono_left (hcond k hk c bd)).trans (wp_frame_r _ _ _)).trans (wp_mono _ _ _ post))
  iintro ⟨Hb, Hh, HO⟩
  isplitl [Hb Hh]
  · isplitl [Hb]
    · iexact Hb
    · iexact Hh
  iexact HO

variable {l₀ l₁ : Fin nL}
  {cond₀ cond₁ : Prog (TpuEff nD τ sig (Elt F) (HostLoop.Sig (Pipeline.Sig Λ₀ (Fin 0) fun p => (pcs p).Adm) nL) .tc) (Elt F .i1)}
  {body₀ body₁ : Prog (TpuEff nD τ sig (Elt F) (HostLoop.Sig (Pipeline.Sig Λ₀ (Fin 0) fun p => (pcs p).Adm) nL) .tc) PUnit}

/-- The buffers when the second loop is entered. -/
abbrev entry₁ (preI bodyI₀ midI : List (List (HloOp τ sig (Elt F)))) (condOps₀ : List (HloOp τ sig (Elt F))) (n₀ : ℕ)
    (m : (ℓ : Loc nD τ sig) → Buf (Elt F) ℓ) (c : Dev nD) : Valuation τ sig (Elt F) :=
  finalContents condOps₀ preI bodyI₀ midI n₀ m c

/-- The buffers at @main's end. -/
abbrev final (preI bodyI₀ midI bodyI₁ postI : List (List (HloOp τ sig (Elt F)))) (condOps₀ condOps₁ : List (HloOp τ sig (Elt F))) (n₀ n₁ : ℕ)
    (m : (ℓ : Loc nD τ sig) → Buf (Elt F) ℓ) (c : Dev nD) : Valuation τ sig (Elt F) :=
  afterL postI (after condOps₁ (atTrip condOps₁ bodyI₁ (entry₁ preI bodyI₀ midI condOps₀ n₀ m) n₁ c))

section
variable (hl₀ : loops l₀ = HostLoop.step l₀ cond₀ body₀) (hl₁ : loops l₁ = HostLoop.step l₁ cond₁ body₁)
  {preI bodyI₀ midI bodyI₁ postI : List (List (HloOp τ sig (Elt F)))} {condOps₀ condOps₁ : List (HloOp τ sig (Elt F))}
  (hpre : Plain preI) (hb₀ : Plain bodyI₀) (hmid : Plain midI) (hb₁ : Plain bodyI₁) (hpost : Plain postI)
  (hbody₀ : body₀ = Pipeline.chain (bodyI₀.map fun ops => (seq ops : Prog _ PUnit)))
  (hbody₁ : body₁ = Pipeline.chain (bodyI₁.map fun ops => (seq ops : Prog _ PUnit)))
  {n₀ n₁ : ℕ} (m : (ℓ : Loc nD τ sig) → Buf (Elt F) ℓ)
  (hc₀ : CondSpec pcs defs₀ loops cond₀ condOps₀ bodyI₀ (entryContents preI m) n₀)
  (hc₁ : CondSpec pcs defs₀ loops cond₁ condOps₁ bodyI₁ (entry₁ preI bodyI₀ midI condOps₀ n₀ m) n₁)

/-- @main as segments. -/
def segs : List (CSeg pcs (noAdm pcs) defs₀ Variants.none noL noLv loops (noTk pcs)) :=
  segsOf _ _ _ _ _ _ _ _ Owes preI hpre (launchContents m)
    ++ (loopSeg _ _ _ _ _ _ _ _ l₀ cond₀ body₀ hl₀ condOps₀ bodyI₀ hb₀ hbody₀ n₀ (entryContents preI m) Owes (condOwes hc₀)
      :: (segsOf _ _ _ _ _ _ _ _ Owes midI hmid (fun c => after condOps₀ (atTrip condOps₀ bodyI₀ (entryContents preI m) n₀ c))
        ++ (loopSeg _ _ _ _ _ _ _ _ l₁ cond₁ body₁ hl₁ condOps₁ bodyI₁ hb₁ hbody₁ n₁ (entry₁ preI bodyI₀ midI condOps₀ n₀ m) Owes (condOwes hc₁)
          :: segsOf _ _ _ _ _ _ _ _ Owes postI hpost (fun c => after condOps₁ (atTrip condOps₁ bodyI₁ (entry₁ preI bodyI₀ midI condOps₀ n₀ m) n₁ c)))))

/-- The segments' program fragments are @main's items, in order. -/
theorem segs_prog : (segs hl₀ hl₁ hpre hb₀ hmid hb₁ hpost hbody₀ hbody₁ m hc₀ hc₁).map CSeg.prog
    = (preI.map fun ops => (seq ops : Prog _ PUnit)) ++ (HostLoop.enter l₀ :: ((midI.map fun ops => (seq ops : Prog _ PUnit))
        ++ (HostLoop.enter l₁ :: postI.map fun ops => (seq ops : Prog _ PUnit)))) := by
  unfold segs
  rw [List.map_append, List.map_cons, List.map_append, List.map_cons, segsOf_prog, segsOf_prog, segsOf_prog]
  rfl

/-- The segments chain from the launch contents to the final ones. -/
theorem segs_chains : CSeg.Chains (fun c => iprop(held (c : Thread nD τ) (ucRefs τ sig) (launchContents m c) ∗ Owes c))
    (segs hl₀ hl₁ hpre hb₀ hmid hb₁ hpost hbody₀ hbody₁ m hc₀ hc₁)
    (fun c => iprop(iprop(held (c : Thread nD τ) (ucRefs τ sig) (final preI bodyI₀ midI bodyI₁ postI condOps₀ condOps₁ n₀ n₁ m c)) ∗ Owes c)) := by
  unfold segs
  exact CSeg.Chains.append (segsOf_chains _ _ _ _ _ _ _ _ Owes preI hpre _)
    ⟨fun _ => .rfl, CSeg.Chains.append (segsOf_chains _ _ _ _ _ _ _ _ Owes midI hmid _)
      ⟨fun _ => .rfl, segsOf_chains _ _ _ _ _ _ _ _ Owes postI hpost _⟩⟩

end

/-- THE RUN: from any memory with zero counters every weakly fair execution of @main terminates, every unscoped TensorCore
    buffer ending at `final` — the stretches before, `n₀` trips of the first loop, the stretches between, `n₁` trips of the
    second, the stretches after. -/
theorem run [∀ e, Nonempty (Elt F e)]
    (main : Dev nD → Prog (TpuEff nD τ sig (Elt F) (HostLoop.Sig (Pipeline.Sig Λ₀ (Fin 0) fun p => (pcs p).Adm) nL) .tc) PUnit)
    (hl₀ : loops l₀ = HostLoop.step l₀ cond₀ body₀) (hl₁ : loops l₁ = HostLoop.step l₁ cond₁ body₁)
    {preI bodyI₀ midI bodyI₁ postI : List (List (HloOp τ sig (Elt F)))} {condOps₀ condOps₁ : List (HloOp τ sig (Elt F))}
    (hpre : Plain preI) (hb₀ : Plain bodyI₀) (hmid : Plain midI) (hb₁ : Plain bodyI₁) (hpost : Plain postI)
    (hmain : ∀ c, main c = Pipeline.chain ((preI.map fun ops => (seq ops : Prog _ PUnit)) ++ (HostLoop.enter l₀ :: ((midI.map fun ops => (seq ops : Prog _ PUnit))
        ++ (HostLoop.enter l₁ :: postI.map fun ops => (seq ops : Prog _ PUnit))))))
    (hbody₀ : body₀ = Pipeline.chain (bodyI₀.map fun ops => (seq ops : Prog _ PUnit)))
    (hbody₁ : body₁ = Pipeline.chain (bodyI₁.map fun ops => (seq ops : Prog _ PUnit)))
    {n₀ n₁ : ℕ} (m : (ℓ : Loc nD τ sig) → Buf (Elt F) ℓ) (ρ : Dev nD → PrngReg)
    (hc₀ : CondSpec pcs defs₀ loops cond₀ condOps₀ bodyI₀ (entryContents preI m) n₀)
    (hc₁ : CondSpec pcs defs₀ loops cond₁ condOps₁ bodyI₁ (entry₁ preI bodyI₀ midI condOps₀ n₀ m) n₁) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = final preI bodyI₀ midI bodyI₁ postI condOps₀ condOps₁ n₀ n₁ m c (Proc.devRef .tc b)) :=
  Pipeline.θ_run_regions_loop_kit (Ix := Unit) (Name := ℕ) (U := Option PUnit) (Lvl := ℕ) (J := Fin 0) (P := Fin 0) (Val := Elt F)
    pcs (noAdm pcs) (fun k => k.1.elim0) defs₀ Variants.none noL noLv loops (noTk pcs) m ρ main
    (segs hl₀ hl₁ hpre hb₀ hmid hb₁ hpost hbody₀ hbody₁ m hc₀ hc₁)
    (fun c Q => by
      rw [hmain c]
      show wp _ _ _ (Pipeline.chain ((segs hl₀ hl₁ hpre hb₀ hmid hb₁ hpost hbody₀ hbody₁ m hc₀ hc₁).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Owes c))
    (Tₙ := fun c => iprop(held (c : Thread nD τ) (ucRefs τ sig) (final preI bodyI₀ midI bodyI₁ postI condOps₀ condOps₁ n₀ n₁ m c)))
    (hch := segs_chains hl₀ hl₁ hpre hb₀ hmid hb₁ hpost hbody₀ hbody₁ m hc₀ hc₁)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final preI bodyI₀ midI bodyI₁ postI condOps₀ condOps₁ n₀ n₁ m c b)
    (hfin := fun c s' => by
      unfold held
      iintro ⟨Hh, HSI⟩
      ihave Hr := (pointsTo_read_all (ucRefs τ sig) (fun b => ((c : Dev nD), b)) (fun b => final preI bodyI₀ midI bodyI₁ postI condOps₀ condOps₁ n₀ n₁ m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end TwoLoops

end Idealize.ShloMosaic.StableHlo

end
-- ==== Proof.RefOps.lean ====
/-
  The reference program's host operations, as lists: @main's stretches before, between and after its two loops, and the
  two loop bodies' stretches (a call of a module-local function is a stretch of its own); that @main and the bodies are
  the chains of these stretches; and the two loops' conditions.
-/
module

public import proofs.«01_k».proof.Proof.Gen.ReferenceIdeal
public import proofs.«01_k».proof.Proof.TwoLoops
public import Idealize.ShloMosaic.Lib.StableHlo.RunRead
public import Idealize.ShloMosaic.Lib.Scf.ExitTest
public import Idealize.ShloMosaic.Lib.Scf.Counter

@[expose] public section

set_option maxRecDepth 4096

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- 19 operations of @main, in order. -/
abbrev mOps0 : List (HloOp τ sig (Elt F)) :=
  [ StableHlo.unary main_arg1 main_v0 (broadcastInDim S64x256x1x1 ![0, 1, 3] bcast_S64x256x1_S64x256x1x1_0_1_3 : (⟨S64x256x1, .f32⟩ : BufTy).Contents (Elt F) → (⟨S64x256x1x1, .f32⟩ : BufTy).Contents (Elt F)),
    StableHlo.unary main_arg0 main_v1 (broadcastInDim S64x1x256x1 ![0, 2, 3] bcast_S64x256x1_S64x1x256x1_0_2_3 : (⟨S64x256x1, .f32⟩ : BufTy).Contents (Elt F) → (⟨S64x1x256x1, .f32⟩ : BufTy).Contents (Elt F)),
    StableHlo.unary main_v0 main_v2 (broadcastInDim S64x256x256x1 ![0, 1, 2, 3] bcast_S64x256x1x1_S64x256x256x1_0_1_2_3 : (⟨S64x256x1x1, .f32⟩ : BufTy).Contents (Elt F) → (⟨S64x256x256x1, .f32⟩ : BufTy).Contents (Elt F)),
    StableHlo.unary main_v1 main_v3 (broadcastInDim S64x256x256x1 ![0, 1, 2, 3] bcast_S64x1x256x1_S64x256x256x1_0_1_2_3 : (⟨S64x1x256x1, .f32⟩ : BufTy).Contents (Elt F) → (⟨S64x256x256x1, .f32⟩ : BufTy).Contents (Elt F)),
    StableHlo.binary main_v2 main_v3 main_v4 (subf : (⟨S64x256x256x1, .f32⟩ : BufTy).Contents (Elt F) → (⟨S64x256x256x1, .f32⟩ : BufTy).Contents (Elt F) → (⟨S64x256x256x1, .f32⟩ : BufTy).Contents (Elt F)),
    StableHlo.binary main_v4 main_v4 main_v5 (mulf : (⟨S64x256x256x1, .f32⟩ : BufTy).Contents (Elt F) → (⟨S64x256x256x1, .f32⟩ : BufTy).Contents (Elt F) → (⟨S64x256x256x1, .f32⟩ : BufTy).Contents (Elt F)),
    StableHlo.nullary main_cst (constant S_ .f32 0x00000000#32),
    StableHlo.binary main_v5 main_cst main_v6 ((fun x v => Host.reduceAdd x v reducesTo_S64x256x256x1_S64x256x256_d3 h_S_) : (⟨S64x256x256x1, .f32⟩ : BufTy).Contents (Elt F) → (⟨S_, .f32⟩ : BufTy).Contents (Elt F) → (⟨S64x256x256, .f32⟩ : BufTy).Contents (Elt F)),
    StableHlo.nullary main_v7 (iotaInDim S64x257x257 32 1),
    StableHlo.nullary main_v8 (iotaInDim S64x257x257 32 2),
    StableHlo.nullary main_c (constantI S_ 32 0#32),
    StableHlo.unary main_c main_v9 (broadcastInDim S64x257x257 ![] bcast_S_S64x257x257 : (⟨S_, .i32⟩ : BufTy).Contents (Elt F) → (⟨S64x257x257, .i32⟩ : BufTy).Contents (Elt F)),
    StableHlo.binary main_v7 main_v9 main_v10 (cmpi .eq : (⟨S64x257x257, .i32⟩ : BufTy).Contents (Elt F) → (⟨S64x257x257, .i32⟩ : BufTy).Contents (Elt F) → (⟨S64x257x257, .i1⟩ : BufTy).Contents (Elt F)),
    StableHlo.nullary main_c_0 (constantI S_ 32 0#32),
    StableHlo.unary main_c_0 main_v11 (broadcastInDim S64x257x257 ![] bcast_S_S64x257x257 : (⟨S_, .i32⟩ : BufTy).Contents (Elt F) → (⟨S64x257x257, .i32⟩ : BufTy).Contents (Elt F)),
    StableHlo.binary main_v8 main_v11 main_v12 (cmpi .eq : (⟨S64x257x257, .i32⟩ : BufTy).Contents (Elt F) → (⟨S64x257x257, .i32⟩ : BufTy).Contents (Elt F) → (⟨S64x257x257, .i1⟩ : BufTy).Contents (Elt F)),
    StableHlo.binary main_v10 main_v12 main_v13 (andi : (⟨S64x257x257, .i1⟩ : BufTy).Contents (Elt F) → (⟨S64x257x257, .i1⟩ : BufTy).Contents (Elt F) → (⟨S64x257x257, .i1⟩ : BufTy).Contents (Elt F)),
    StableHlo.nullary main_cst_1 (constant S_ .f32 0x00000000#32),
    StableHlo.nullary main_cst_2 (constant S_ .f32 0x7F800000#32) ]
/-- Each operation of `mOps0` touches TensorCore references only. -/
theorem mOps0_sub : (mOps0 : List (HloOp τ sig (Elt F))).Forall fun op => op.bufs ⊆ tcRefs τ sig :=
  ⟨unary_bufs_sub .., unary_bufs_sub .., unary_bufs_sub .., unary_bufs_sub .., binary_bufs_sub .., binary_bufs_sub .., nullary_bufs_sub .., binary_bufs_sub .., nullary_bufs_sub .., nullary_bufs_sub .., nullary_bufs_sub .., unary_bufs_sub .., binary_bufs_sub .., nullary_bufs_sub .., unary_bufs_sub .., binary_bufs_sub .., binary_bufs_sub .., nullary_bufs_sub .., nullary_bufs_sub ..⟩
/-- No operation of `mOps0` allocates a buffer. -/
theorem mOps0_fresh : ∀ op ∈ (mOps0 : List (HloOp τ sig (Elt F))), op.fresh = ∅ :=
  List.forall_iff_forall_mem.mp (forall_fresh_of_map rfl)

/-- 3 operations of @main, in order: one call of a module-local function. -/
abbrev mOps1 : List (HloOp τ sig (Elt F)) :=
  [ StableHlo.TRef.unary (.of main_cst_1 : StableHlo.TRef sig ⟨S_, .f32⟩) (.of main_call0_v0 : StableHlo.TRef sig ⟨S64x257x257, .f32⟩) (broadcastInDim S64x257x257 ![] bcast_S_S64x257x257),
    StableHlo.TRef.unary (.of main_cst_2 : StableHlo.TRef sig ⟨S_, .f32⟩) (.of main_call0_v1 : StableHlo.TRef sig ⟨S64x257x257, .f32⟩) (broadcastInDim S64x257x257 ![] bcast_S_S64x257x257),
    StableHlo.TRef.ternary (.of main_v13 : StableHlo.TRef sig ⟨S64x257x257, .i1⟩) (.of main_call0_v0 : StableHlo.TRef sig ⟨S64x257x257, .f32⟩) (.of main_call0_v1 : StableHlo.TRef sig ⟨S64x257x257, .f32⟩) (.of main_v14 : StableHlo.TRef sig ⟨S64x257x257, .f32⟩) select ]
/-- Each operation of `mOps1` touches TensorCore references only. -/
theorem mOps1_sub : (mOps1 : List (HloOp τ sig (Elt F))).Forall fun op => op.bufs ⊆ tcRefs τ sig :=
  ⟨unary_bufs_sub .., unary_bufs_sub .., ternary_bufs_sub ..⟩
/-- No operation of `mOps1` allocates a buffer. -/
theorem mOps1_fresh : ∀ op ∈ (mOps1 : List (HloOp τ sig (Elt F))), op.fresh = ∅ :=
  List.forall_iff_forall_mem.mp (forall_fresh_of_map rfl)

/-- 36 operations of @main, in order. -/
abbrev mOps2 : List (HloOp τ sig (Elt F)) :=
  [ StableHlo.nullary main_c_3 (constantI S_ 32 0#32),
    StableHlo.nullary main_c_4 (constantI S_ 32 0#32),
    StableHlo.unary main_c_4 main_v15 (broadcastInDim S65536 ![] bcast_S_S65536 : (⟨S_, .i32⟩ : BufTy).Contents (Elt F) → (⟨S65536, .i32⟩ : BufTy).Contents (Elt F)),
    StableHlo.nullary main_c_5 (constantI S_ 32 0#32),
    StableHlo.unary main_c_5 main_v16 (broadcastInDim S65536 ![] bcast_S_S65536 : (⟨S_, .i32⟩ : BufTy).Contents (Elt F) → (⟨S65536, .i32⟩ : BufTy).Contents (Elt F)),
    StableHlo.nullary main_c_6 (constantI S_ 32 0#32),
    StableHlo.unary main_c_6 main_v17 (broadcastInDim S65536 ![] bcast_S_S65536 : (⟨S_, .i32⟩ : BufTy).Contents (Elt F) → (⟨S65536, .i32⟩ : BufTy).Contents (Elt F)),
    StableHlo.nullary main_c_7 (constantI S_ 32 0#32),
    StableHlo.unary main_c_7 main_v18 (broadcastInDim S65536 ![] bcast_S_S65536 : (⟨S_, .i32⟩ : BufTy).Contents (Elt F) → (⟨S65536, .i32⟩ : BufTy).Contents (Elt F)),
    StableHlo.nullary main_cst_8 (constant S_ .f32 0x00000000#32),
    StableHlo.unary main_cst_8 main_v19 (broadcastInDim S65536x64 ![] bcast_S_S65536x64 : (⟨S_, .f32⟩ : BufTy).Contents (Elt F) → (⟨S65536x64, .f32⟩ : BufTy).Contents (Elt F)),
    StableHlo.nullary main_cst_9 (constant S_ .f32 0x00000000#32),
    StableHlo.unary main_cst_9 main_v20 (broadcastInDim S65536x64 ![] bcast_S_S65536x64 : (⟨S_, .f32⟩ : BufTy).Contents (Elt F) → (⟨S65536x64, .f32⟩ : BufTy).Contents (Elt F)),
    StableHlo.nullary main_cst_10 (constant S_ .f32 0x00000000#32),
    StableHlo.unary main_cst_10 main_v21 (broadcastInDim S65536x64 ![] bcast_S_S65536x64 : (⟨S_, .f32⟩ : BufTy).Contents (Elt F) → (⟨S65536x64, .f32⟩ : BufTy).Contents (Elt F)),
    StableHlo.nullary main_cst_11 (constant S_ .f32 0x00000000#32),
    StableHlo.unary main_cst_11 main_v22 (broadcastInDim S65536x64 ![] bcast_S_S65536x64 : (⟨S_, .f32⟩ : BufTy).Contents (Elt F) → (⟨S65536x64, .f32⟩ : BufTy).Contents (Elt F)),
    StableHlo.nullary main_c_12 (constantI S_ 32 0#32),
    StableHlo.unary main_c_12 main_v23 (broadcastInDim S65536 ![] bcast_S_S65536 : (⟨S_, .i32⟩ : BufTy).Contents (Elt F) → (⟨S65536, .i32⟩ : BufTy).Contents (Elt F)),
    StableHlo.nullary main_c_13 (constantI S_ 32 0#32),
    StableHlo.unary main_c_13 main_v24 (broadcastInDim S65536 ![] bcast_S_S65536 : (⟨S_, .i32⟩ : BufTy).Contents (Elt F) → (⟨S65536, .i32⟩ : BufTy).Contents (Elt F)),
    StableHlo.nullary main_c_14 (constantI S_ 32 0#32),
    StableHlo.unary main_v6 main_v25_0 id,
    StableHlo.unary main_c_14 main_v25_1 id,
    StableHlo.unary main_c_3 main_v25_2 id,
    StableHlo.unary main_v14 main_v25_3 id,
    StableHlo.unary main_v15 main_v25_4 id,
    StableHlo.unary main_v16 main_v25_5 id,
    StableHlo.unary main_v17 main_v25_6 id,
    StableHlo.unary main_v18 main_v25_7 id,
    StableHlo.unary main_v19 main_v25_8 id,
    StableHlo.unary main_v20 main_v25_9 id,
    StableHlo.unary main_v21 main_v25_10 id,
    StableHlo.unary main_v22 main_v25_11 id,
    StableHlo.unary main_v23 main_v25_12 id,
    StableHlo.unary main_v24 main_v25_13 id ]
/-- Each operation of `mOps2` touches TensorCore references only. -/
theorem mOps2_sub : (mOps2 : List (HloOp τ sig (Elt F))).Forall fun op => op.bufs ⊆ tcRefs τ sig :=
  ⟨nullary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- No operation of `mOps2` allocates a buffer. -/
theorem mOps2_fresh : ∀ op ∈ (mOps2 : List (HloOp τ sig (Elt F))), op.fresh = ∅ :=
  List.forall_iff_forall_mem.mp (forall_fresh_of_map rfl)

/-- 25 operations of @main, in order. -/
abbrev mOps3 : List (HloOp τ sig (Elt F)) :=
  [ StableHlo.unary main_v25_3 main_v26 ((extractStridedSlice S64x1x1 ![0, 256, 256] · slices_S64x257x257_S64x1x1_0_256_256) : (⟨S64x257x257, .f32⟩ : BufTy).Contents (Elt F) → (⟨S64x1x1, .f32⟩ : BufTy).Contents (Elt F)),
    StableHlo.reshape main_v26 main_v27 (rfl : (.f32 : EltTy) = .f32) shapeCasts_S64x1x1_S64,
    StableHlo.nullary main_cst_15 (constant S_ .f32 0x3F800000#32),
    StableHlo.unary main_cst_15 main_v28 (broadcastInDim S64 ![] bcast_S_S64 : (⟨S_, .f32⟩ : BufTy).Contents (Elt F) → (⟨S64, .f32⟩ : BufTy).Contents (Elt F)),
    StableHlo.nullary main_cst_16 (constant S_ .f32 0x00000000#32),
    StableHlo.unary main_cst_16 main_v29 (broadcastInDim S64x257x257 ![] bcast_S_S64x257x257 : (⟨S_, .f32⟩ : BufTy).Contents (Elt F) → (⟨S64x257x257, .f32⟩ : BufTy).Contents (Elt F)),
    StableHlo.unary main_v28 main_v30 (broadcastInDim S64x1x1 ![0] bcast_S64_S64x1x1_0 : (⟨S64, .f32⟩ : BufTy).Contents (Elt F) → (⟨S64x1x1, .f32⟩ : BufTy).Contents (Elt F)),
    StableHlo.nullary main_cst_17 (constant S_ .f32 0x00000000#32),
    StableHlo.binary main_v30 main_cst_17 main_v31 ((fun x v => pad S64x257x257 ![0, 256, 256] ![0, 0, 0] ![0, 0, 0] x v pads_S64x1x1_S64x257x257_000_25600_25600 h_S_) : (⟨S64x1x1, .f32⟩ : BufTy).Contents (Elt F) → (⟨S_, .f32⟩ : BufTy).Contents (Elt F) → (⟨S64x257x257, .f32⟩ : BufTy).Contents (Elt F)),
    StableHlo.nullary main_cst_18 (constant S_ .f32 0x00000000#32),
    StableHlo.unary main_cst_18 main_v32 (broadcastInDim S64x256x256 ![] bcast_S_S64x256x256 : (⟨S_, .f32⟩ : BufTy).Contents (Elt F) → (⟨S64x256x256, .f32⟩ : BufTy).Contents (Elt F)),
    StableHlo.nullary main_c_19 (constantI S_ 32 0#32),
    StableHlo.unary main_v25_4 main_v33_0 id,
    StableHlo.unary main_v25_5 main_v33_1 id,
    StableHlo.unary main_v25_6 main_v33_2 id,
    StableHlo.unary main_v25_7 main_v33_3 id,
    StableHlo.unary main_v25_8 main_v33_4 id,
    StableHlo.unary main_v25_9 main_v33_5 id,
    StableHlo.unary main_v25_10 main_v33_6 id,
    StableHlo.unary main_v25_11 main_v33_7 id,
    StableHlo.unary main_v25_12 main_v33_8 id,
    StableHlo.unary main_v25_13 main_v33_9 id,
    StableHlo.unary main_c_19 main_v33_10 id,
    StableHlo.unary main_v32 main_v33_11 id,
    StableHlo.unary main_v31 main_v33_12 id ]
/-- Each operation of `mOps3` touches TensorCore references only. -/
theorem mOps3_sub : (mOps3 : List (HloOp τ sig (Elt F))).Forall fun op => op.bufs ⊆ tcRefs τ sig :=
  ⟨unary_bufs_sub .., reshape_bufs_sub .., nullary_bufs_sub .., unary_bufs_sub .., nullary_bufs_sub .., unary_bufs_sub .., unary_bufs_sub .., nullary_bufs_sub .., binary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- No operation of `mOps3` allocates a buffer. -/
theorem mOps3_fresh : ∀ op ∈ (mOps3 : List (HloOp τ sig (Elt F))), op.fresh = ∅ :=
  List.forall_iff_forall_mem.mp (forall_fresh_of_map rfl)

/-- 29 operations of @main, in order. -/
abbrev mOps4 : List (HloOp τ sig (Elt F)) :=
  [ StableHlo.nullary main_cst_20 (constant S_ .f32 0x00000000#32),
    StableHlo.binary main_v27 main_cst_20 main_v34 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    StableHlo.nullary main_cst_21 (constant S_ .f32 0x42800000#32),
    StableHlo.binary main_v34 main_cst_21 main_v35 (Host.divf : (⟨S_, .f32⟩ : BufTy).Contents (Elt F) → (⟨S_, .f32⟩ : BufTy).Contents (Elt F) → (⟨S_, .f32⟩ : BufTy).Contents (Elt F)),
    StableHlo.nullary main_v36 (sitofp .f32 (iotaInDim S256 32 0)),
    StableHlo.nullary main_cst_22 (constant S_ .f32 0x3F800000#32),
    StableHlo.unary main_cst_22 main_v37 (broadcastInDim S256 ![] bcast_S_S256 : (⟨S_, .f32⟩ : BufTy).Contents (Elt F) → (⟨S256, .f32⟩ : BufTy).Contents (Elt F)),
    StableHlo.binary main_v37 main_v36 main_v38 (addf : (⟨S256, .f32⟩ : BufTy).Contents (Elt F) → (⟨S256, .f32⟩ : BufTy).Contents (Elt F) → (⟨S256, .f32⟩ : BufTy).Contents (Elt F)),
    StableHlo.unary main_v38 main_v39 (broadcastInDim S256x1 ![0] bcast_S256_S256x1_0 : (⟨S256, .f32⟩ : BufTy).Contents (Elt F) → (⟨S256x1, .f32⟩ : BufTy).Contents (Elt F)),
    StableHlo.unary main_v38 main_v40 (broadcastInDim S1x256 ![1] bcast_S256_S1x256_1 : (⟨S256, .f32⟩ : BufTy).Contents (Elt F) → (⟨S1x256, .f32⟩ : BufTy).Contents (Elt F)),
    StableHlo.unary main_v39 main_v41 (broadcastInDim S256x256 ![0, 1] bcast_S256x1_S256x256_0_1 : (⟨S256x1, .f32⟩ : BufTy).Contents (Elt F) → (⟨S256x256, .f32⟩ : BufTy).Contents (Elt F)),
    StableHlo.unary main_v40 main_v42 (broadcastInDim S256x256 ![0, 1] bcast_S1x256_S256x256_0_1 : (⟨S1x256, .f32⟩ : BufTy).Contents (Elt F) → (⟨S256x256, .f32⟩ : BufTy).Contents (Elt F)),
    StableHlo.binary main_v41 main_v42 main_v43 (subf : (⟨S256x256, .f32⟩ : BufTy).Contents (Elt F) → (⟨S256x256, .f32⟩ : BufTy).Contents (Elt F) → (⟨S256x256, .f32⟩ : BufTy).Contents (Elt F)),
    StableHlo.binary main_v43 main_v43 main_v44 (mulf : (⟨S256x256, .f32⟩ : BufTy).Contents (Elt F) → (⟨S256x256, .f32⟩ : BufTy).Contents (Elt F) → (⟨S256x256, .f32⟩ : BufTy).Contents (Elt F)),
    StableHlo.nullary main_cst_23 (constant S_ .f32 0x47800000#32),
    StableHlo.unary main_cst_23 main_v45 (broadcastInDim S256x256 ![] bcast_S_S256x256 : (⟨S_, .f32⟩ : BufTy).Contents (Elt F) → (⟨S256x256, .f32⟩ : BufTy).Contents (Elt F)),
    StableHlo.binary main_v44 main_v45 main_v46 (Host.divf : (⟨S256x256, .f32⟩ : BufTy).Contents (Elt F) → (⟨S256x256, .f32⟩ : BufTy).Contents (Elt F) → (⟨S256x256, .f32⟩ : BufTy).Contents (Elt F)),
    StableHlo.unary main_v46 main_v47 (broadcastInDim S1x256x256 ![1, 2] bcast_S256x256_S1x256x256_1_2 : (⟨S256x256, .f32⟩ : BufTy).Contents (Elt F) → (⟨S1x256x256, .f32⟩ : BufTy).Contents (Elt F)),
    StableHlo.unary main_v47 main_v48 (broadcastInDim S64x256x256 ![0, 1, 2] bcast_S1x256x256_S64x256x256_0_1_2 : (⟨S1x256x256, .f32⟩ : BufTy).Contents (Elt F) → (⟨S64x256x256, .f32⟩ : BufTy).Contents (Elt F)),
    StableHlo.binary main_v33_11 main_v48 main_v49 (mulf : (⟨S64x256x256, .f32⟩ : BufTy).Contents (Elt F) → (⟨S64x256x256, .f32⟩ : BufTy).Contents (Elt F) → (⟨S64x256x256, .f32⟩ : BufTy).Contents (Elt F)),
    StableHlo.nullary main_cst_24 (constant S_ .f32 0x00000000#32),
    StableHlo.binary main_v49 main_cst_24 main_v50 ((fun x v => Host.reduceAdd x v reducesTo_S64x256x256_S_d0_1_2 h_S_) : (⟨S64x256x256, .f32⟩ : BufTy).Contents (Elt F) → (⟨S_, .f32⟩ : BufTy).Contents (Elt F) → (⟨S_, .f32⟩ : BufTy).Contents (Elt F)),
    StableHlo.nullary main_cst_25 (constant S_ .f32 0x42800000#32),
    StableHlo.binary main_v50 main_cst_25 main_v51 (Host.divf : (⟨S_, .f32⟩ : BufTy).Contents (Elt F) → (⟨S_, .f32⟩ : BufTy).Contents (Elt F) → (⟨S_, .f32⟩ : BufTy).Contents (Elt F)),
    StableHlo.nullary main_cst_26 (constant S_ .f32 0x3F000000#32),
    StableHlo.binary main_cst_26 main_v35 main_v52 (mulf : (⟨S_, .f32⟩ : BufTy).Contents (Elt F) → (⟨S_, .f32⟩ : BufTy).Contents (Elt F) → (⟨S_, .f32⟩ : BufTy).Contents (Elt F)),
    StableHlo.nullary main_cst_27 (constant S_ .f32 0x3F000000#32),
    StableHlo.binary main_cst_27 main_v51 main_v53 (mulf : (⟨S_, .f32⟩ : BufTy).Contents (Elt F) → (⟨S_, .f32⟩ : BufTy).Contents (Elt F) → (⟨S_, .f32⟩ : BufTy).Contents (Elt F)),
    StableHlo.binary main_v52 main_v53 main_v54 (addf : (⟨S_, .f32⟩ : BufTy).Contents (Elt F) → (⟨S_, .f32⟩ : BufTy).Contents (Elt F) → (⟨S_, .f32⟩ : BufTy).Contents (Elt F)) ]
/-- Each operation of `mOps4` touches TensorCore references only. -/
theorem mOps4_sub : (mOps4 : List (HloOp τ sig (Elt F))).Forall fun op => op.bufs ⊆ tcRefs τ sig :=
  ⟨nullary_bufs_sub .., binary_bufs_sub .., nullary_bufs_sub .., binary_bufs_sub .., nullary_bufs_sub .., nullary_bufs_sub .., unary_bufs_sub .., binary_bufs_sub .., unary_bufs_sub .., unary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., binary_bufs_sub .., nullary_bufs_sub .., binary_bufs_sub .., nullary_bufs_sub .., binary_bufs_sub .., nullary_bufs_sub .., binary_bufs_sub .., binary_bufs_sub ..⟩
/-- No operation of `mOps4` allocates a buffer. -/
theorem mOps4_fresh : ∀ op ∈ (mOps4 : List (HloOp τ sig (Elt F))), op.fresh = ∅ :=
  List.forall_iff_forall_mem.mp (forall_fresh_of_map rfl)

/-- 55 operations of the forward loop's body, in order. -/
abbrev fOps0 : List (HloOp τ sig (Elt F)) :=
  [ StableHlo.nullary main_while0b_c_41 (constantI S_ 32 1#32),
    StableHlo.binary main_v25_2 main_while0b_c_41 main_while0b_v55 (addi : (⟨S_, .i32⟩ : BufTy).Contents (Elt F) → (⟨S_, .i32⟩ : BufTy).Contents (Elt F) → (⟨S_, .i32⟩ : BufTy).Contents (Elt F)),
    StableHlo.nullary main_while0b_c_42 (constantI S_ 32 256#32),
    StableHlo.binary main_v25_2 main_while0b_c_42 main_while0b_v56 (Host.divsi : (⟨S_, .i32⟩ : BufTy).Contents (Elt F) → (⟨S_, .i32⟩ : BufTy).Contents (Elt F) → (⟨S_, .i32⟩ : BufTy).Contents (Elt F)),
    StableHlo.nullary main_while0b_c_43 (constantI S_ 32 256#32),
    StableHlo.binary main_v25_2 main_while0b_c_43 main_while0b_v57 (Host.remsi : (⟨S_, .i32⟩ : BufTy).Contents (Elt F) → (⟨S_, .i32⟩ : BufTy).Contents (Elt F) → (⟨S_, .i32⟩ : BufTy).Contents (Elt F)),
    StableHlo.nullary main_while0b_c_44 (constantI S_ 32 0#32),
    StableHlo.unaryIndexed main_v25_0 ![main_while0b_c_44, main_while0b_v56, main_while0b_v57] ⟨S_, .i32⟩ main_while0b_v58 ((fun x i => Host.dynamicSlice S64x1x1 x (fun k => (i k (Shape.Idx.first h_S_)).toInt) sliceFits_S64x256x256_S64x1x1) : (⟨S64x256x256, .f32⟩ : BufTy).Contents (Elt F) → (Fin 3 → (⟨S_, .i32⟩ : BufTy).Contents (Elt F)) → (⟨S64x1x1, .f32⟩ : BufTy).Contents (Elt F)),
    StableHlo.reshape main_while0b_v58 main_while0b_v59 (rfl : (.f32 : EltTy) = .f32) shapeCasts_S64x1x1_S64,
    StableHlo.nullary main_while0b_c_45 (constantI S_ 32 0#32),
    StableHlo.unaryIndexed main_v25_3 ![main_while0b_c_45, main_while0b_v56, main_while0b_v57] ⟨S_, .i32⟩ main_while0b_v60 ((fun x i => Host.dynamicSlice S64x1x1 x (fun k => (i k (Shape.Idx.first h_S_)).toInt) sliceFits_S64x257x257_S64x1x1) : (⟨S64x257x257, .f32⟩ : BufTy).Contents (Elt F) → (Fin 3 → (⟨S_, .i32⟩ : BufTy).Contents (Elt F)) → (⟨S64x1x1, .f32⟩ : BufTy).Contents (Elt F)),
    StableHlo.reshape main_while0b_v60 main_while0b_v61 (rfl : (.f32 : EltTy) = .f32) shapeCasts_S64x1x1_S64,
    StableHlo.nullary main_while0b_c_46 (constantI S_ 32 1#32),
    StableHlo.binary main_while0b_v57 main_while0b_c_46 main_while0b_v62 (addi : (⟨S_, .i32⟩ : BufTy).Contents (Elt F) → (⟨S_, .i32⟩ : BufTy).Contents (Elt F) → (⟨S_, .i32⟩ : BufTy).Contents (Elt F)),
    StableHlo.nullary main_while0b_c_47 (constantI S_ 32 0#32),
    StableHlo.unaryIndexed main_v25_3 ![main_while0b_c_47, main_while0b_v56, main_while0b_v62] ⟨S_, .i32⟩ main_while0b_v63 ((fun x i => Host.dynamicSlice S64x1x1 x (fun k => (i k (Shape.Idx.first h_S_)).toInt) sliceFits_S64x257x257_S64x1x1) : (⟨S64x257x257, .f32⟩ : BufTy).Contents (Elt F) → (Fin 3 → (⟨S_, .i32⟩ : BufTy).Contents (Elt F)) → (⟨S64x1x1, .f32⟩ : BufTy).Contents (Elt F)),
    StableHlo.reshape main_while0b_v63 main_while0b_v64 (rfl : (.f32 : EltTy) = .f32) shapeCasts_S64x1x1_S64,
    StableHlo.nullary main_while0b_c_48 (constantI S_ 32 1#32),
    StableHlo.binary main_while0b_v56 main_while0b_c_48 main_while0b_v65 (addi : (⟨S_, .i32⟩ : BufTy).Contents (Elt F) → (⟨S_, .i32⟩ : BufTy).Contents (Elt F) → (⟨S_, .i32⟩ : BufTy).Contents (Elt F)),
    StableHlo.nullary main_while0b_c_49 (constantI S_ 32 0#32),
    StableHlo.unaryIndexed main_v25_3 ![main_while0b_c_49, main_while0b_v65, main_while0b_v57] ⟨S_, .i32⟩ main_while0b_v66 ((fun x i => Host.dynamicSlice S64x1x1 x (fun k => (i k (Shape.Idx.first h_S_)).toInt) sliceFits_S64x257x257_S64x1x1) : (⟨S64x257x257, .f32⟩ : BufTy).Contents (Elt F) → (Fin 3 → (⟨S_, .i32⟩ : BufTy).Contents (Elt F)) → (⟨S64x1x1, .f32⟩ : BufTy).Contents (Elt F)),
    StableHlo.reshape main_while0b_v66 main_while0b_v67 (rfl : (.f32 : EltTy) = .f32) shapeCasts_S64x1x1_S64,
    StableHlo.nullary main_while0b_cst_50 (constant S_ .f32 0xC2C80000#32),
    StableHlo.unary main_while0b_cst_50 main_while0b_v68 (broadcastInDim S64 ![] bcast_S_S64 : (⟨S_, .f32⟩ : BufTy).Contents (Elt F) → (⟨S64, .f32⟩ : BufTy).Contents (Elt F)),
    StableHlo.binary main_while0b_v61 main_while0b_v68 main_while0b_v69 (mulf : (⟨S64, .f32⟩ : BufTy).Contents (Elt F) → (⟨S64, .f32⟩ : BufTy).Contents (Elt F) → (⟨S64, .f32⟩ : BufTy).Contents (Elt F)),
    StableHlo.nullary main_while0b_cst_51 (constant S_ .f32 0xC2C80000#32),
    StableHlo.unary main_while0b_cst_51 main_while0b_v70 (broadcastInDim S64 ![] bcast_S_S64 : (⟨S_, .f32⟩ : BufTy).Contents (Elt F) → (⟨S64, .f32⟩ : BufTy).Contents (Elt F)),
    StableHlo.binary main_while0b_v64 main_while0b_v70 main_while0b_v71 (mulf : (⟨S64, .f32⟩ : BufTy).Contents (Elt F) → (⟨S64, .f32⟩ : BufTy).Contents (Elt F) → (⟨S64, .f32⟩ : BufTy).Contents (Elt F)),
    StableHlo.nullary main_while0b_cst_52 (constant S_ .f32 0xC2C80000#32),
    StableHlo.unary main_while0b_cst_52 main_while0b_v72 (broadcastInDim S64 ![] bcast_S_S64 : (⟨S_, .f32⟩ : BufTy).Contents (Elt F) → (⟨S64, .f32⟩ : BufTy).Contents (Elt F)),
    StableHlo.binary main_while0b_v67 main_while0b_v72 main_while0b_v73 (mulf : (⟨S64, .f32⟩ : BufTy).Contents (Elt F) → (⟨S64, .f32⟩ : BufTy).Contents (Elt F) → (⟨S64, .f32⟩ : BufTy).Contents (Elt F)),
    StableHlo.binary main_while0b_v69 main_while0b_v71 main_while0b_v74 (maximumf : (⟨S64, .f32⟩ : BufTy).Contents (Elt F) → (⟨S64, .f32⟩ : BufTy).Contents (Elt F) → (⟨S64, .f32⟩ : BufTy).Contents (Elt F)),
    StableHlo.binary main_while0b_v74 main_while0b_v73 main_while0b_v75 (maximumf : (⟨S64, .f32⟩ : BufTy).Contents (Elt F) → (⟨S64, .f32⟩ : BufTy).Contents (Elt F) → (⟨S64, .f32⟩ : BufTy).Contents (Elt F)),
    StableHlo.binary main_while0b_v69 main_while0b_v75 main_while0b_v76 (subf : (⟨S64, .f32⟩ : BufTy).Contents (Elt F) → (⟨S64, .f32⟩ : BufTy).Contents (Elt F) → (⟨S64, .f32⟩ : BufTy).Contents (Elt F)),
    StableHlo.unary main_while0b_v76 main_while0b_v77 (Host.exp : (⟨S64, .f32⟩ : BufTy).Contents (Elt F) → (⟨S64, .f32⟩ : BufTy).Contents (Elt F)),
    StableHlo.binary main_while0b_v71 main_while0b_v75 main_while0b_v78 (subf : (⟨S64, .f32⟩ : BufTy).Contents (Elt F) → (⟨S64, .f32⟩ : BufTy).Contents (Elt F) → (⟨S64, .f32⟩ : BufTy).Contents (Elt F)),
    StableHlo.unary main_while0b_v78 main_while0b_v79 (Host.exp : (⟨S64, .f32⟩ : BufTy).Contents (Elt F) → (⟨S64, .f32⟩ : BufTy).Contents (Elt F)),
    StableHlo.binary main_while0b_v77 main_while0b_v79 main_while0b_v80 (addf : (⟨S64, .f32⟩ : BufTy).Contents (Elt F) → (⟨S64, .f32⟩ : BufTy).Contents (Elt F) → (⟨S64, .f32⟩ : BufTy).Contents (Elt F)),
    StableHlo.binary main_while0b_v73 main_while0b_v75 main_while0b_v81 (subf : (⟨S64, .f32⟩ : BufTy).Contents (Elt F) → (⟨S64, .f32⟩ : BufTy).Contents (Elt F) → (⟨S64, .f32⟩ : BufTy).Contents (Elt F)),
    StableHlo.unary main_while0b_v81 main_while0b_v82 (Host.exp : (⟨S64, .f32⟩ : BufTy).Contents (Elt F) → (⟨S64, .f32⟩ : BufTy).Contents (Elt F)),
    StableHlo.binary main_while0b_v80 main_while0b_v82 main_while0b_v83 (addf : (⟨S64, .f32⟩ : BufTy).Contents (Elt F) → (⟨S64, .f32⟩ : BufTy).Contents (Elt F) → (⟨S64, .f32⟩ : BufTy).Contents (Elt F)),
    StableHlo.unary main_while0b_v83 main_while0b_v84 (Host.log : (⟨S64, .f32⟩ : BufTy).Contents (Elt F) → (⟨S64, .f32⟩ : BufTy).Contents (Elt F)),
    StableHlo.binary main_while0b_v84 main_while0b_v75 main_while0b_v85 (addf : (⟨S64, .f32⟩ : BufTy).Contents (Elt F) → (⟨S64, .f32⟩ : BufTy).Contents (Elt F) → (⟨S64, .f32⟩ : BufTy).Contents (Elt F)),
    StableHlo.nullary main_while0b_cst_53 (constant S_ .f32 0xC2C80000#32),
    StableHlo.unary main_while0b_cst_53 main_while0b_v86 (broadcastInDim S64 ![] bcast_S_S64 : (⟨S_, .f32⟩ : BufTy).Contents (Elt F) → (⟨S64, .f32⟩ : BufTy).Contents (Elt F)),
    StableHlo.binary main_while0b_v85 main_while0b_v86 main_while0b_v87 (Host.divf : (⟨S64, .f32⟩ : BufTy).Contents (Elt F) → (⟨S64, .f32⟩ : BufTy).Contents (Elt F) → (⟨S64, .f32⟩ : BufTy).Contents (Elt F)),
    StableHlo.unary main_while0b_v87 main_while0b_v88 (id : (⟨S64, .f32⟩ : BufTy).Contents (Elt F) → (⟨S64, .f32⟩ : BufTy).Contents (Elt F)),
    StableHlo.binary main_while0b_v59 main_while0b_v88 main_while0b_v89 (addf : (⟨S64, .f32⟩ : BufTy).Contents (Elt F) → (⟨S64, .f32⟩ : BufTy).Contents (Elt F) → (⟨S64, .f32⟩ : BufTy).Contents (Elt F)),
    StableHlo.unary main_while0b_v89 main_while0b_v90 (broadcastInDim S64x1x1 ![0] bcast_S64_S64x1x1_0 : (⟨S64, .f32⟩ : BufTy).Contents (Elt F) → (⟨S64x1x1, .f32⟩ : BufTy).Contents (Elt F)),
    StableHlo.nullary main_while0b_c_54 (constantI S_ 32 1#32),
    StableHlo.binary main_while0b_v56 main_while0b_c_54 main_while0b_v91 (addi : (⟨S_, .i32⟩ : BufTy).Contents (Elt F) → (⟨S_, .i32⟩ : BufTy).Contents (Elt F) → (⟨S_, .i32⟩ : BufTy).Contents (Elt F)),
    StableHlo.nullary main_while0b_c_55 (constantI S_ 32 1#32),
    StableHlo.binary main_while0b_v57 main_while0b_c_55 main_while0b_v92 (addi : (⟨S_, .i32⟩ : BufTy).Contents (Elt F) → (⟨S_, .i32⟩ : BufTy).Contents (Elt F) → (⟨S_, .i32⟩ : BufTy).Contents (Elt F)),
    StableHlo.nullary main_while0b_c_56 (constantI S_ 32 0#32),
    StableHlo.binaryIndexed main_v25_3 main_while0b_v90 ![main_while0b_c_56, main_while0b_v91, main_while0b_v92] ⟨S_, .i32⟩ main_while0b_v93 ((fun x u i => Host.dynamicUpdateSlice x u (fun k => (i k (Shape.Idx.first h_S_)).toInt) updateFits_S64x257x257_S64x1x1) : (⟨S64x257x257, .f32⟩ : BufTy).Contents (Elt F) → (⟨S64x1x1, .f32⟩ : BufTy).Contents (Elt F) → (Fin 3 → (⟨S_, .i32⟩ : BufTy).Contents (Elt F)) → (⟨S64x257x257, .f32⟩ : BufTy).Contents (Elt F)) ]
/-- Each operation of `fOps0` touches TensorCore references only. -/
theorem fOps0_sub : (fOps0 : List (HloOp τ sig (Elt F))).Forall fun op => op.bufs ⊆ tcRefs τ sig :=
  ⟨nullary_bufs_sub .., binary_bufs_sub .., nullary_bufs_sub .., binary_bufs_sub .., nullary_bufs_sub .., binary_bufs_sub .., nullary_bufs_sub .., unaryIndexed_bufs_sub .., reshape_bufs_sub .., nullary_bufs_sub .., unaryIndexed_bufs_sub .., reshape_bufs_sub .., nullary_bufs_sub .., binary_bufs_sub .., nullary_bufs_sub .., unaryIndexed_bufs_sub .., reshape_bufs_sub .., nullary_bufs_sub .., binary_bufs_sub .., nullary_bufs_sub .., unaryIndexed_bufs_sub .., reshape_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., unary_bufs_sub .., binary_bufs_sub .., unary_bufs_sub .., binary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., nullary_bufs_sub .., binary_bufs_sub .., nullary_bufs_sub .., binary_bufs_sub .., nullary_bufs_sub .., binaryIndexed_bufs_sub ..⟩
/-- No operation of `fOps0` allocates a buffer. -/
theorem fOps0_fresh : ∀ op ∈ (fOps0 : List (HloOp τ sig (Elt F))), op.fresh = ∅ :=
  List.forall_iff_forall_mem.mp (forall_fresh_of_map rfl)

/-- 2 operations of the forward loop's body, in order: one call of a module-local function. -/
abbrev fOps1 : List (HloOp τ sig (Elt F)) :=
  [ StableHlo.TRef.unary (.of main_while0b_v56 : StableHlo.TRef sig ⟨S_, .i32⟩) (.of main_while0b_call1_v0 : StableHlo.TRef sig ⟨S1, .i32⟩) (broadcastInDim S1 ![] bcast_S_S1),
    StableHlo.TRef.binaryIndexed (.of main_v25_4 : StableHlo.TRef sig ⟨S65536, .i32⟩) (.of main_while0b_call1_v0 : StableHlo.TRef sig ⟨S1, .i32⟩) ![(.of main_v25_1 : StableHlo.TRef sig ⟨S_, .i32⟩)] (.of main_while0b_v94 : StableHlo.TRef sig ⟨S65536, .i32⟩) (fun x u i => Host.dynamicUpdateSlice x u (fun k => (i k (Shape.Idx.first h_S_)).toInt) updateFits_S65536_S1) ]
/-- Each operation of `fOps1` touches TensorCore references only. -/
theorem fOps1_sub : (fOps1 : List (HloOp τ sig (Elt F))).Forall fun op => op.bufs ⊆ tcRefs τ sig :=
  ⟨unary_bufs_sub .., binaryIndexed_bufs_sub ..⟩
/-- No operation of `fOps1` allocates a buffer. -/
theorem fOps1_fresh : ∀ op ∈ (fOps1 : List (HloOp τ sig (Elt F))), op.fresh = ∅ :=
  List.forall_iff_forall_mem.mp (forall_fresh_of_map rfl)

/-- 2 operations of the forward loop's body, in order: one call of a module-local function. -/
abbrev fOps2 : List (HloOp τ sig (Elt F)) :=
  [ StableHlo.TRef.unary (.of main_while0b_v57 : StableHlo.TRef sig ⟨S_, .i32⟩) (.of main_while0b_call2_v0 : StableHlo.TRef sig ⟨S1, .i32⟩) (broadcastInDim S1 ![] bcast_S_S1),
    StableHlo.TRef.binaryIndexed (.of main_v25_5 : StableHlo.TRef sig ⟨S65536, .i32⟩) (.of main_while0b_call2_v0 : StableHlo.TRef sig ⟨S1, .i32⟩) ![(.of main_v25_1 : StableHlo.TRef sig ⟨S_, .i32⟩)] (.of main_while0b_v95 : StableHlo.TRef sig ⟨S65536, .i32⟩) (fun x u i => Host.dynamicUpdateSlice x u (fun k => (i k (Shape.Idx.first h_S_)).toInt) updateFits_S65536_S1) ]
/-- Each operation of `fOps2` touches TensorCore references only. -/
theorem fOps2_sub : (fOps2 : List (HloOp τ sig (Elt F))).Forall fun op => op.bufs ⊆ tcRefs τ sig :=
  ⟨unary_bufs_sub .., binaryIndexed_bufs_sub ..⟩
/-- No operation of `fOps2` allocates a buffer. -/
theorem fOps2_fresh : ∀ op ∈ (fOps2 : List (HloOp τ sig (Elt F))), op.fresh = ∅ :=
  List.forall_iff_forall_mem.mp (forall_fresh_of_map rfl)

/-- 2 operations of the forward loop's body, in order: one call of a module-local function. -/
abbrev fOps3 : List (HloOp τ sig (Elt F)) :=
  [ StableHlo.TRef.unary (.of main_while0b_v62 : StableHlo.TRef sig ⟨S_, .i32⟩) (.of main_while0b_call3_v0 : StableHlo.TRef sig ⟨S1, .i32⟩) (broadcastInDim S1 ![] bcast_S_S1),
    StableHlo.TRef.binaryIndexed (.of main_v25_6 : StableHlo.TRef sig ⟨S65536, .i32⟩) (.of main_while0b_call3_v0 : StableHlo.TRef sig ⟨S1, .i32⟩) ![(.of main_v25_1 : StableHlo.TRef sig ⟨S_, .i32⟩)] (.of main_while0b_v96 : StableHlo.TRef sig ⟨S65536, .i32⟩) (fun x u i => Host.dynamicUpdateSlice x u (fun k => (i k (Shape.Idx.first h_S_)).toInt) updateFits_S65536_S1) ]
/-- Each operation of `fOps3` touches TensorCore references only. -/
theorem fOps3_sub : (fOps3 : List (HloOp τ sig (Elt F))).Forall fun op => op.bufs ⊆ tcRefs τ sig :=
  ⟨unary_bufs_sub .., binaryIndexed_bufs_sub ..⟩
/-- No operation of `fOps3` allocates a buffer. -/
theorem fOps3_fresh : ∀ op ∈ (fOps3 : List (HloOp τ sig (Elt F))), op.fresh = ∅ :=
  List.forall_iff_forall_mem.mp (forall_fresh_of_map rfl)

/-- 2 operations of the forward loop's body, in order: one call of a module-local function. -/
abbrev fOps4 : List (HloOp τ sig (Elt F)) :=
  [ StableHlo.TRef.unary (.of main_while0b_v65 : StableHlo.TRef sig ⟨S_, .i32⟩) (.of main_while0b_call4_v0 : StableHlo.TRef sig ⟨S1, .i32⟩) (broadcastInDim S1 ![] bcast_S_S1),
    StableHlo.TRef.binaryIndexed (.of main_v25_7 : StableHlo.TRef sig ⟨S65536, .i32⟩) (.of main_while0b_call4_v0 : StableHlo.TRef sig ⟨S1, .i32⟩) ![(.of main_v25_1 : StableHlo.TRef sig ⟨S_, .i32⟩)] (.of main_while0b_v97 : StableHlo.TRef sig ⟨S65536, .i32⟩) (fun x u i => Host.dynamicUpdateSlice x u (fun k => (i k (Shape.Idx.first h_S_)).toInt) updateFits_S65536_S1) ]
/-- Each operation of `fOps4` touches TensorCore references only. -/
theorem fOps4_sub : (fOps4 : List (HloOp τ sig (Elt F))).Forall fun op => op.bufs ⊆ tcRefs τ sig :=
  ⟨unary_bufs_sub .., binaryIndexed_bufs_sub ..⟩
/-- No operation of `fOps4` allocates a buffer. -/
theorem fOps4_fresh : ∀ op ∈ (fOps4 : List (HloOp τ sig (Elt F))), op.fresh = ∅ :=
  List.forall_iff_forall_mem.mp (forall_fresh_of_map rfl)

/-- 3 operations of the forward loop's body, in order: one call of a module-local function. -/
abbrev fOps5 : List (HloOp τ sig (Elt F)) :=
  [ StableHlo.TRef.unary (.of main_while0b_v77 : StableHlo.TRef sig ⟨S64, .f32⟩) (.of main_while0b_call5_v0 : StableHlo.TRef sig ⟨S1x64, .f32⟩) (broadcastInDim S1x64 ![1] bcast_S64_S1x64_1),
    StableHlo.TRef.nullary (.of main_while0b_call5_c : StableHlo.TRef sig ⟨S_, .i32⟩) (constantI S_ 32 0#32),
    StableHlo.TRef.binaryIndexed (.of main_v25_8 : StableHlo.TRef sig ⟨S65536x64, .f32⟩) (.of main_while0b_call5_v0 : StableHlo.TRef sig ⟨S1x64, .f32⟩) ![(.of main_v25_1 : StableHlo.TRef sig ⟨S_, .i32⟩), (.of main_while0b_call5_c : StableHlo.TRef sig ⟨S_, .i32⟩)] (.of main_while0b_v98 : StableHlo.TRef sig ⟨S65536x64, .f32⟩) (fun x u i => Host.dynamicUpdateSlice x u (fun k => (i k (Shape.Idx.first h_S_)).toInt) updateFits_S65536x64_S1x64) ]
/-- Each operation of `fOps5` touches TensorCore references only. -/
theorem fOps5_sub : (fOps5 : List (HloOp τ sig (Elt F))).Forall fun op => op.bufs ⊆ tcRefs τ sig :=
  ⟨unary_bufs_sub .., nullary_bufs_sub .., binaryIndexed_bufs_sub ..⟩
/-- No operation of `fOps5` allocates a buffer. -/
theorem fOps5_fresh : ∀ op ∈ (fOps5 : List (HloOp τ sig (Elt F))), op.fresh = ∅ :=
  List.forall_iff_forall_mem.mp (forall_fresh_of_map rfl)

/-- 3 operations of the forward loop's body, in order: one call of a module-local function. -/
abbrev fOps6 : List (HloOp τ sig (Elt F)) :=
  [ StableHlo.TRef.unary (.of main_while0b_v79 : StableHlo.TRef sig ⟨S64, .f32⟩) (.of main_while0b_call6_v0 : StableHlo.TRef sig ⟨S1x64, .f32⟩) (broadcastInDim S1x64 ![1] bcast_S64_S1x64_1),
    StableHlo.TRef.nullary (.of main_while0b_call6_c : StableHlo.TRef sig ⟨S_, .i32⟩) (constantI S_ 32 0#32),
    StableHlo.TRef.binaryIndexed (.of main_v25_9 : StableHlo.TRef sig ⟨S65536x64, .f32⟩) (.of main_while0b_call6_v0 : StableHlo.TRef sig ⟨S1x64, .f32⟩) ![(.of main_v25_1 : StableHlo.TRef sig ⟨S_, .i32⟩), (.of main_while0b_call6_c : StableHlo.TRef sig ⟨S_, .i32⟩)] (.of main_while0b_v99 : StableHlo.TRef sig ⟨S65536x64, .f32⟩) (fun x u i => Host.dynamicUpdateSlice x u (fun k => (i k (Shape.Idx.first h_S_)).toInt) updateFits_S65536x64_S1x64) ]
/-- Each operation of `fOps6` touches TensorCore references only. -/
theorem fOps6_sub : (fOps6 : List (HloOp τ sig (Elt F))).Forall fun op => op.bufs ⊆ tcRefs τ sig :=
  ⟨unary_bufs_sub .., nullary_bufs_sub .., binaryIndexed_bufs_sub ..⟩
/-- No operation of `fOps6` allocates a buffer. -/
theorem fOps6_fresh : ∀ op ∈ (fOps6 : List (HloOp τ sig (Elt F))), op.fresh = ∅ :=
  List.forall_iff_forall_mem.mp (forall_fresh_of_map rfl)

/-- 3 operations of the forward loop's body, in order: one call of a module-local function. -/
abbrev fOps7 : List (HloOp τ sig (Elt F)) :=
  [ StableHlo.TRef.unary (.of main_while0b_v82 : StableHlo.TRef sig ⟨S64, .f32⟩) (.of main_while0b_call7_v0 : StableHlo.TRef sig ⟨S1x64, .f32⟩) (broadcastInDim S1x64 ![1] bcast_S64_S1x64_1),
    StableHlo.TRef.nullary (.of main_while0b_call7_c : StableHlo.TRef sig ⟨S_, .i32⟩) (constantI S_ 32 0#32),
    StableHlo.TRef.binaryIndexed (.of main_v25_10 : StableHlo.TRef sig ⟨S65536x64, .f32⟩) (.of main_while0b_call7_v0 : StableHlo.TRef sig ⟨S1x64, .f32⟩) ![(.of main_v25_1 : StableHlo.TRef sig ⟨S_, .i32⟩), (.of main_while0b_call7_c : StableHlo.TRef sig ⟨S_, .i32⟩)] (.of main_while0b_v100 : StableHlo.TRef sig ⟨S65536x64, .f32⟩) (fun x u i => Host.dynamicUpdateSlice x u (fun k => (i k (Shape.Idx.first h_S_)).toInt) updateFits_S65536x64_S1x64) ]
/-- Each operation of `fOps7` touches TensorCore references only. -/
theorem fOps7_sub : (fOps7 : List (HloOp τ sig (Elt F))).Forall fun op => op.bufs ⊆ tcRefs τ sig :=
  ⟨unary_bufs_sub .., nullary_bufs_sub .., binaryIndexed_bufs_sub ..⟩
/-- No operation of `fOps7` allocates a buffer. -/
theorem fOps7_fresh : ∀ op ∈ (fOps7 : List (HloOp τ sig (Elt F))), op.fresh = ∅ :=
  List.forall_iff_forall_mem.mp (forall_fresh_of_map rfl)

/-- 3 operations of the forward loop's body, in order: one call of a module-local function. -/
abbrev fOps8 : List (HloOp τ sig (Elt F)) :=
  [ StableHlo.TRef.unary (.of main_while0b_v83 : StableHlo.TRef sig ⟨S64, .f32⟩) (.of main_while0b_call8_v0 : StableHlo.TRef sig ⟨S1x64, .f32⟩) (broadcastInDim S1x64 ![1] bcast_S64_S1x64_1),
    StableHlo.TRef.nullary (.of main_while0b_call8_c : StableHlo.TRef sig ⟨S_, .i32⟩) (constantI S_ 32 0#32),
    StableHlo.TRef.binaryIndexed (.of main_v25_11 : StableHlo.TRef sig ⟨S65536x64, .f32⟩) (.of main_while0b_call8_v0 : StableHlo.TRef sig ⟨S1x64, .f32⟩) ![(.of main_v25_1 : StableHlo.TRef sig ⟨S_, .i32⟩), (.of main_while0b_call8_c : StableHlo.TRef sig ⟨S_, .i32⟩)] (.of main_while0b_v101 : StableHlo.TRef sig ⟨S65536x64, .f32⟩) (fun x u i => Host.dynamicUpdateSlice x u (fun k => (i k (Shape.Idx.first h_S_)).toInt) updateFits_S65536x64_S1x64) ]
/-- Each operation of `fOps8` touches TensorCore references only. -/
theorem fOps8_sub : (fOps8 : List (HloOp τ sig (Elt F))).Forall fun op => op.bufs ⊆ tcRefs τ sig :=
  ⟨unary_bufs_sub .., nullary_bufs_sub .., binaryIndexed_bufs_sub ..⟩
/-- No operation of `fOps8` allocates a buffer. -/
theorem fOps8_fresh : ∀ op ∈ (fOps8 : List (HloOp τ sig (Elt F))), op.fresh = ∅ :=
  List.forall_iff_forall_mem.mp (forall_fresh_of_map rfl)

/-- 2 operations of the forward loop's body, in order: one call of a module-local function. -/
abbrev fOps9 : List (HloOp τ sig (Elt F)) :=
  [ StableHlo.TRef.unary (.of main_while0b_v91 : StableHlo.TRef sig ⟨S_, .i32⟩) (.of main_while0b_call9_v0 : StableHlo.TRef sig ⟨S1, .i32⟩) (broadcastInDim S1 ![] bcast_S_S1),
    StableHlo.TRef.binaryIndexed (.of main_v25_12 : StableHlo.TRef sig ⟨S65536, .i32⟩) (.of main_while0b_call9_v0 : StableHlo.TRef sig ⟨S1, .i32⟩) ![(.of main_v25_1 : StableHlo.TRef sig ⟨S_, .i32⟩)] (.of main_while0b_v102 : StableHlo.TRef sig ⟨S65536, .i32⟩) (fun x u i => Host.dynamicUpdateSlice x u (fun k => (i k (Shape.Idx.first h_S_)).toInt) updateFits_S65536_S1) ]
/-- Each operation of `fOps9` touches TensorCore references only. -/
theorem fOps9_sub : (fOps9 : List (HloOp τ sig (Elt F))).Forall fun op => op.bufs ⊆ tcRefs τ sig :=
  ⟨unary_bufs_sub .., binaryIndexed_bufs_sub ..⟩
/-- No operation of `fOps9` allocates a buffer. -/
theorem fOps9_fresh : ∀ op ∈ (fOps9 : List (HloOp τ sig (Elt F))), op.fresh = ∅ :=
  List.forall_iff_forall_mem.mp (forall_fresh_of_map rfl)

/-- 2 operations of the forward loop's body, in order: one call of a module-local function. -/
abbrev fOps10 : List (HloOp τ sig (Elt F)) :=
  [ StableHlo.TRef.unary (.of main_while0b_v92 : StableHlo.TRef sig ⟨S_, .i32⟩) (.of main_while0b_call10_v0 : StableHlo.TRef sig ⟨S1, .i32⟩) (broadcastInDim S1 ![] bcast_S_S1),
    StableHlo.TRef.binaryIndexed (.of main_v25_13 : StableHlo.TRef sig ⟨S65536, .i32⟩) (.of main_while0b_call10_v0 : StableHlo.TRef sig ⟨S1, .i32⟩) ![(.of main_v25_1 : StableHlo.TRef sig ⟨S_, .i32⟩)] (.of main_while0b_v103 : StableHlo.TRef sig ⟨S65536, .i32⟩) (fun x u i => Host.dynamicUpdateSlice x u (fun k => (i k (Shape.Idx.first h_S_)).toInt) updateFits_S65536_S1) ]
/-- Each operation of `fOps10` touches TensorCore references only. -/
theorem fOps10_sub : (fOps10 : List (HloOp τ sig (Elt F))).Forall fun op => op.bufs ⊆ tcRefs τ sig :=
  ⟨unary_bufs_sub .., binaryIndexed_bufs_sub ..⟩
/-- No operation of `fOps10` allocates a buffer. -/
theorem fOps10_fresh : ∀ op ∈ (fOps10 : List (HloOp τ sig (Elt F))), op.fresh = ∅ :=
  List.forall_iff_forall_mem.mp (forall_fresh_of_map rfl)

/-- 15 operations of the forward loop's body, in order. -/
abbrev fOps11 : List (HloOp τ sig (Elt F)) :=
  [ StableHlo.nullary main_while0b_c_57 (constantI S_ 32 1#32),
    StableHlo.binary main_v25_1 main_while0b_c_57 main_while0b_v104 (addi : (⟨S_, .i32⟩ : BufTy).Contents (Elt F) → (⟨S_, .i32⟩ : BufTy).Contents (Elt F) → (⟨S_, .i32⟩ : BufTy).Contents (Elt F)),
    StableHlo.unary main_while0b_v104 main_v25_1 id,
    StableHlo.unary main_while0b_v55 main_v25_2 id,
    StableHlo.unary main_while0b_v93 main_v25_3 id,
    StableHlo.unary main_while0b_v94 main_v25_4 id,
    StableHlo.unary main_while0b_v95 main_v25_5 id,
    StableHlo.unary main_while0b_v96 main_v25_6 id,
    StableHlo.unary main_while0b_v97 main_v25_7 id,
    StableHlo.unary main_while0b_v98 main_v25_8 id,
    StableHlo.unary main_while0b_v99 main_v25_9 id,
    StableHlo.unary main_while0b_v100 main_v25_10 id,
    StableHlo.unary main_while0b_v101 main_v25_11 id,
    StableHlo.unary main_while0b_v102 main_v25_12 id,
    StableHlo.unary main_while0b_v103 main_v25_13 id ]
/-- Each operation of `fOps11` touches TensorCore references only. -/
theorem fOps11_sub : (fOps11 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- No operation of `fOps11` allocates a buffer. -/
theorem fOps11_fresh : ∀ op ∈ (fOps11 : List (HloOp τ sig (Elt F))), op.fresh = ∅ :=
  List.forall_iff_forall_mem.mp (forall_fresh_of_map rfl)

/-- 4 operations of the reverse loop's body, in order. -/
abbrev rOps0 : List (HloOp τ sig (Elt F)) :=
  [ StableHlo.nullary main_while1b_c_40 (constantI S_ 32 65536#32),
    StableHlo.binary main_while1b_c_40 main_v33_10 main_while1b_v55 (subi : (⟨S_, .i32⟩ : BufTy).Contents (Elt F) → (⟨S_, .i32⟩ : BufTy).Contents (Elt F) → (⟨S_, .i32⟩ : BufTy).Contents (Elt F)),
    StableHlo.nullary main_while1b_c_41 (constantI S_ 32 1#32),
    StableHlo.binary main_while1b_v55 main_while1b_c_41 main_while1b_v56 (subi : (⟨S_, .i32⟩ : BufTy).Contents (Elt F) → (⟨S_, .i32⟩ : BufTy).Contents (Elt F) → (⟨S_, .i32⟩ : BufTy).Contents (Elt F)) ]
/-- Each operation of `rOps0` touches TensorCore references only. -/
theorem rOps0_sub : (rOps0 : List (HloOp τ sig (Elt F))).Forall fun op => op.bufs ⊆ tcRefs τ sig :=
  ⟨nullary_bufs_sub .., binary_bufs_sub .., nullary_bufs_sub .., binary_bufs_sub ..⟩
/-- No operation of `rOps0` allocates a buffer. -/
theorem rOps0_fresh : ∀ op ∈ (rOps0 : List (HloOp τ sig (Elt F))), op.fresh = ∅ :=
  List.forall_iff_forall_mem.mp (forall_fresh_of_map rfl)

/-- 2 operations of the reverse loop's body, in order: one call of a module-local function. -/
abbrev rOps1 : List (HloOp τ sig (Elt F)) :=
  [ StableHlo.TRef.unaryIndexed (.of main_v33_0 : StableHlo.TRef sig ⟨S65536, .i32⟩) ![(.of main_while1b_v56 : StableHlo.TRef sig ⟨S_, .i32⟩)] (.of main_while1b_call11_v0 : StableHlo.TRef sig ⟨S1, .i32⟩) (fun x i => Host.dynamicSlice S1 x (fun k => (i k (Shape.Idx.first h_S_)).toInt) sliceFits_S65536_S1),
    StableHlo.TRef.reshape (.of main_while1b_call11_v0 : StableHlo.TRef sig ⟨S1, .i32⟩) (.of main_while1b_v57 : StableHlo.TRef sig ⟨S_, .i32⟩) (rfl : (.i32 : EltTy) = .i32) shapeCasts_S1_S_ ]
/-- Each operation of `rOps1` touches TensorCore references only. -/
theorem rOps1_sub : (rOps1 : List (HloOp τ sig (Elt F))).Forall fun op => op.bufs ⊆ tcRefs τ sig :=
  ⟨unaryIndexed_bufs_sub .., reshape_bufs_sub ..⟩
/-- No operation of `rOps1` allocates a buffer. -/
theorem rOps1_fresh : ∀ op ∈ (rOps1 : List (HloOp τ sig (Elt F))), op.fresh = ∅ :=
  List.forall_iff_forall_mem.mp (forall_fresh_of_map rfl)

/-- 2 operations of the reverse loop's body, in order: one call of a module-local function. -/
abbrev rOps2 : List (HloOp τ sig (Elt F)) :=
  [ StableHlo.TRef.unaryIndexed (.of main_v33_1 : StableHlo.TRef sig ⟨S65536, .i32⟩) ![(.of main_while1b_v56 : StableHlo.TRef sig ⟨S_, .i32⟩)] (.of main_while1b_call12_v0 : StableHlo.TRef sig ⟨S1, .i32⟩) (fun x i => Host.dynamicSlice S1 x (fun k => (i k (Shape.Idx.first h_S_)).toInt) sliceFits_S65536_S1),
    StableHlo.TRef.reshape (.of main_while1b_call12_v0 : StableHlo.TRef sig ⟨S1, .i32⟩) (.of main_while1b_v58 : StableHlo.TRef sig ⟨S_, .i32⟩) (rfl : (.i32 : EltTy) = .i32) shapeCasts_S1_S_ ]
/-- Each operation of `rOps2` touches TensorCore references only. -/
theorem rOps2_sub : (rOps2 : List (HloOp τ sig (Elt F))).Forall fun op => op.bufs ⊆ tcRefs τ sig :=
  ⟨unaryIndexed_bufs_sub .., reshape_bufs_sub ..⟩
/-- No operation of `rOps2` allocates a buffer. -/
theorem rOps2_fresh : ∀ op ∈ (rOps2 : List (HloOp τ sig (Elt F))), op.fresh = ∅ :=
  List.forall_iff_forall_mem.mp (forall_fresh_of_map rfl)

/-- 2 operations of the reverse loop's body, in order: one call of a module-local function. -/
abbrev rOps3 : List (HloOp τ sig (Elt F)) :=
  [ StableHlo.TRef.unaryIndexed (.of main_v33_2 : StableHlo.TRef sig ⟨S65536, .i32⟩) ![(.of main_while1b_v56 : StableHlo.TRef sig ⟨S_, .i32⟩)] (.of main_while1b_call13_v0 : StableHlo.TRef sig ⟨S1, .i32⟩) (fun x i => Host.dynamicSlice S1 x (fun k => (i k (Shape.Idx.first h_S_)).toInt) sliceFits_S65536_S1),
    StableHlo.TRef.reshape (.of main_while1b_call13_v0 : StableHlo.TRef sig ⟨S1, .i32⟩) (.of main_while1b_v59 : StableHlo.TRef sig ⟨S_, .i32⟩) (rfl : (.i32 : EltTy) = .i32) shapeCasts_S1_S_ ]
/-- Each operation of `rOps3` touches TensorCore references only. -/
theorem rOps3_sub : (rOps3 : List (HloOp τ sig (Elt F))).Forall fun op => op.bufs ⊆ tcRefs τ sig :=
  ⟨unaryIndexed_bufs_sub .., reshape_bufs_sub ..⟩
/-- No operation of `rOps3` allocates a buffer. -/
theorem rOps3_fresh : ∀ op ∈ (rOps3 : List (HloOp τ sig (Elt F))), op.fresh = ∅ :=
  List.forall_iff_forall_mem.mp (forall_fresh_of_map rfl)

/-- 2 operations of the reverse loop's body, in order: one call of a module-local function. -/
abbrev rOps4 : List (HloOp τ sig (Elt F)) :=
  [ StableHlo.TRef.unaryIndexed (.of main_v33_3 : StableHlo.TRef sig ⟨S65536, .i32⟩) ![(.of main_while1b_v56 : StableHlo.TRef sig ⟨S_, .i32⟩)] (.of main_while1b_call14_v0 : StableHlo.TRef sig ⟨S1, .i32⟩) (fun x i => Host.dynamicSlice S1 x (fun k => (i k (Shape.Idx.first h_S_)).toInt) sliceFits_S65536_S1),
    StableHlo.TRef.reshape (.of main_while1b_call14_v0 : StableHlo.TRef sig ⟨S1, .i32⟩) (.of main_while1b_v60 : StableHlo.TRef sig ⟨S_, .i32⟩) (rfl : (.i32 : EltTy) = .i32) shapeCasts_S1_S_ ]
/-- Each operation of `rOps4` touches TensorCore references only. -/
theorem rOps4_sub : (rOps4 : List (HloOp τ sig (Elt F))).Forall fun op => op.bufs ⊆ tcRefs τ sig :=
  ⟨unaryIndexed_bufs_sub .., reshape_bufs_sub ..⟩
/-- No operation of `rOps4` allocates a buffer. -/
theorem rOps4_fresh : ∀ op ∈ (rOps4 : List (HloOp τ sig (Elt F))), op.fresh = ∅ :=
  List.forall_iff_forall_mem.mp (forall_fresh_of_map rfl)

/-- 3 operations of the reverse loop's body, in order: one call of a module-local function. -/
abbrev rOps5 : List (HloOp τ sig (Elt F)) :=
  [ StableHlo.TRef.nullary (.of main_while1b_call15_c : StableHlo.TRef sig ⟨S_, .i32⟩) (constantI S_ 32 0#32),
    StableHlo.TRef.unaryIndexed (.of main_v33_4 : StableHlo.TRef sig ⟨S65536x64, .f32⟩) ![(.of main_while1b_v56 : StableHlo.TRef sig ⟨S_, .i32⟩), (.of main_while1b_call15_c : StableHlo.TRef sig ⟨S_, .i32⟩)] (.of main_while1b_call15_v0 : StableHlo.TRef sig ⟨S1x64, .f32⟩) (fun x i => Host.dynamicSlice S1x64 x (fun k => (i k (Shape.Idx.first h_S_)).toInt) sliceFits_S65536x64_S1x64),
    StableHlo.TRef.reshape (.of main_while1b_call15_v0 : StableHlo.TRef sig ⟨S1x64, .f32⟩) (.of main_while1b_v61 : StableHlo.TRef sig ⟨S64, .f32⟩) (rfl : (.f32 : EltTy) = .f32) shapeCasts_S1x64_S64 ]
/-- Each operation of `rOps5` touches TensorCore references only. -/
theorem rOps5_sub : (rOps5 : List (HloOp τ sig (Elt F))).Forall fun op => op.bufs ⊆ tcRefs τ sig :=
  ⟨nullary_bufs_sub .., unaryIndexed_bufs_sub .., reshape_bufs_sub ..⟩
/-- No operation of `rOps5` allocates a buffer. -/
theorem rOps5_fresh : ∀ op ∈ (rOps5 : List (HloOp τ sig (Elt F))), op.fresh = ∅ :=
  List.forall_iff_forall_mem.mp (forall_fresh_of_map rfl)

/-- 3 operations of the reverse loop's body, in order: one call of a module-local function. -/
abbrev rOps6 : List (HloOp τ sig (Elt F)) :=
  [ StableHlo.TRef.nullary (.of main_while1b_call16_c : StableHlo.TRef sig ⟨S_, .i32⟩) (constantI S_ 32 0#32),
    StableHlo.TRef.unaryIndexed (.of main_v33_5 : StableHlo.TRef sig ⟨S65536x64, .f32⟩) ![(.of main_while1b_v56 : StableHlo.TRef sig ⟨S_, .i32⟩), (.of main_while1b_call16_c : StableHlo.TRef sig ⟨S_, .i32⟩)] (.of main_while1b_call16_v0 : StableHlo.TRef sig ⟨S1x64, .f32⟩) (fun x i => Host.dynamicSlice S1x64 x (fun k => (i k (Shape.Idx.first h_S_)).toInt) sliceFits_S65536x64_S1x64),
    StableHlo.TRef.reshape (.of main_while1b_call16_v0 : StableHlo.TRef sig ⟨S1x64, .f32⟩) (.of main_while1b_v62 : StableHlo.TRef sig ⟨S64, .f32⟩) (rfl : (.f32 : EltTy) = .f32) shapeCasts_S1x64_S64 ]
/-- Each operation of `rOps6` touches TensorCore references only. -/
theorem rOps6_sub : (rOps6 : List (HloOp τ sig (Elt F))).Forall fun op => op.bufs ⊆ tcRefs τ sig :=
  ⟨nullary_bufs_sub .., unaryIndexed_bufs_sub .., reshape_bufs_sub ..⟩
/-- No operation of `rOps6` allocates a buffer. -/
theorem rOps6_fresh : ∀ op ∈ (rOps6 : List (HloOp τ sig (Elt F))), op.fresh = ∅ :=
  List.forall_iff_forall_mem.mp (forall_fresh_of_map rfl)

/-- 3 operations of the reverse loop's body, in order: one call of a module-local function. -/
abbrev rOps7 : List (HloOp τ sig (Elt F)) :=
  [ StableHlo.TRef.nullary (.of main_while1b_call17_c : StableHlo.TRef sig ⟨S_, .i32⟩) (constantI S_ 32 0#32),
    StableHlo.TRef.unaryIndexed (.of main_v33_6 : StableHlo.TRef sig ⟨S65536x64, .f32⟩) ![(.of main_while1b_v56 : StableHlo.TRef sig ⟨S_, .i32⟩), (.of main_while1b_call17_c : StableHlo.TRef sig ⟨S_, .i32⟩)] (.of main_while1b_call17_v0 : StableHlo.TRef sig ⟨S1x64, .f32⟩) (fun x i => Host.dynamicSlice S1x64 x (fun k => (i k (Shape.Idx.first h_S_)).toInt) sliceFits_S65536x64_S1x64),
    StableHlo.TRef.reshape (.of main_while1b_call17_v0 : StableHlo.TRef sig ⟨S1x64, .f32⟩) (.of main_while1b_v63 : StableHlo.TRef sig ⟨S64, .f32⟩) (rfl : (.f32 : EltTy) = .f32) shapeCasts_S1x64_S64 ]
/-- Each operation of `rOps7` touches TensorCore references only. -/
theorem rOps7_sub : (rOps7 : List (HloOp τ sig (Elt F))).Forall fun op => op.bufs ⊆ tcRefs τ sig :=
  ⟨nullary_bufs_sub .., unaryIndexed_bufs_sub .., reshape_bufs_sub ..⟩
/-- No operation of `rOps7` allocates a buffer. -/
theorem rOps7_fresh : ∀ op ∈ (rOps7 : List (HloOp τ sig (Elt F))), op.fresh = ∅ :=
  List.forall_iff_forall_mem.mp (forall_fresh_of_map rfl)

/-- 3 operations of the reverse loop's body, in order: one call of a module-local function. -/
abbrev rOps8 : List (HloOp τ sig (Elt F)) :=
  [ StableHlo.TRef.nullary (.of main_while1b_call18_c : StableHlo.TRef sig ⟨S_, .i32⟩) (constantI S_ 32 0#32),
    StableHlo.TRef.unaryIndexed (.of main_v33_7 : StableHlo.TRef sig ⟨S65536x64, .f32⟩) ![(.of main_while1b_v56 : StableHlo.TRef sig ⟨S_, .i32⟩), (.of main_while1b_call18_c : StableHlo.TRef sig ⟨S_, .i32⟩)] (.of main_while1b_call18_v0 : StableHlo.TRef sig ⟨S1x64, .f32⟩) (fun x i => Host.dynamicSlice S1x64 x (fun k => (i k (Shape.Idx.first h_S_)).toInt) sliceFits_S65536x64_S1x64),
    StableHlo.TRef.reshape (.of main_while1b_call18_v0 : StableHlo.TRef sig ⟨S1x64, .f32⟩) (.of main_while1b_v64 : StableHlo.TRef sig ⟨S64, .f32⟩) (rfl : (.f32 : EltTy) = .f32) shapeCasts_S1x64_S64 ]
/-- Each operation of `rOps8` touches TensorCore references only. -/
theorem rOps8_sub : (rOps8 : List (HloOp τ sig (Elt F))).Forall fun op => op.bufs ⊆ tcRefs τ sig :=
  ⟨nullary_bufs_sub .., unaryIndexed_bufs_sub .., reshape_bufs_sub ..⟩
/-- No operation of `rOps8` allocates a buffer. -/
theorem rOps8_fresh : ∀ op ∈ (rOps8 : List (HloOp τ sig (Elt F))), op.fresh = ∅ :=
  List.forall_iff_forall_mem.mp (forall_fresh_of_map rfl)

/-- 2 operations of the reverse loop's body, in order: one call of a module-local function. -/
abbrev rOps9 : List (HloOp τ sig (Elt F)) :=
  [ StableHlo.TRef.unaryIndexed (.of main_v33_8 : StableHlo.TRef sig ⟨S65536, .i32⟩) ![(.of main_while1b_v56 : StableHlo.TRef sig ⟨S_, .i32⟩)] (.of main_while1b_call19_v0 : StableHlo.TRef sig ⟨S1, .i32⟩) (fun x i => Host.dynamicSlice S1 x (fun k => (i k (Shape.Idx.first h_S_)).toInt) sliceFits_S65536_S1),
    StableHlo.TRef.reshape (.of main_while1b_call19_v0 : StableHlo.TRef sig ⟨S1, .i32⟩) (.of main_while1b_v65 : StableHlo.TRef sig ⟨S_, .i32⟩) (rfl : (.i32 : EltTy) = .i32) shapeCasts_S1_S_ ]
/-- Each operation of `rOps9` touches TensorCore references only. -/
theorem rOps9_sub : (rOps9 : List (HloOp τ sig (Elt F))).Forall fun op => op.bufs ⊆ tcRefs τ sig :=
  ⟨unaryIndexed_bufs_sub .., reshape_bufs_sub ..⟩
/-- No operation of `rOps9` allocates a buffer. -/
theorem rOps9_fresh : ∀ op ∈ (rOps9 : List (HloOp τ sig (Elt F))), op.fresh = ∅ :=
  List.forall_iff_forall_mem.mp (forall_fresh_of_map rfl)

/-- 2 operations of the reverse loop's body, in order: one call of a module-local function. -/
abbrev rOps10 : List (HloOp τ sig (Elt F)) :=
  [ StableHlo.TRef.unaryIndexed (.of main_v33_9 : StableHlo.TRef sig ⟨S65536, .i32⟩) ![(.of main_while1b_v56 : StableHlo.TRef sig ⟨S_, .i32⟩)] (.of main_while1b_call20_v0 : StableHlo.TRef sig ⟨S1, .i32⟩) (fun x i => Host.dynamicSlice S1 x (fun k => (i k (Shape.Idx.first h_S_)).toInt) sliceFits_S65536_S1),
    StableHlo.TRef.reshape (.of main_while1b_call20_v0 : StableHlo.TRef sig ⟨S1, .i32⟩) (.of main_while1b_v66 : StableHlo.TRef sig ⟨S_, .i32⟩) (rfl : (.i32 : EltTy) = .i32) shapeCasts_S1_S_ ]
/-- Each operation of `rOps10` touches TensorCore references only. -/
theorem rOps10_sub : (rOps10 : List (HloOp τ sig (Elt F))).Forall fun op => op.bufs ⊆ tcRefs τ sig :=
  ⟨unaryIndexed_bufs_sub .., reshape_bufs_sub ..⟩
/-- No operation of `rOps10` allocates a buffer. -/
theorem rOps10_fresh : ∀ op ∈ (rOps10 : List (HloOp τ sig (Elt F))), op.fresh = ∅ :=
  List.forall_iff_forall_mem.mp (forall_fresh_of_map rfl)

/-- 54 operations of the reverse loop's body, in order. -/
abbrev rOps11 : List (HloOp τ sig (Elt F)) :=
  [ StableHlo.nullary main_while1b_cst_42 (constant S_ .f32 0x00000000#32),
    StableHlo.unary main_while1b_cst_42 main_while1b_v67 (broadcastInDim S64x1x1 ![] bcast_S_S64x1x1 : (⟨S_, .f32⟩ : BufTy).Contents (Elt F) → (⟨S64x1x1, .f32⟩ : BufTy).Contents (Elt F)),
    StableHlo.nullary main_while1b_c_43 (constantI S_ 32 0#32),
    StableHlo.binaryIndexed main_v33_12 main_while1b_v67 ![main_while1b_c_43, main_while1b_v65, main_while1b_v66] ⟨S_, .i32⟩ main_while1b_v68 ((fun x u i => Host.dynamicUpdateSlice x u (fun k => (i k (Shape.Idx.first h_S_)).toInt) updateFits_S64x257x257_S64x1x1) : (⟨S64x257x257, .f32⟩ : BufTy).Contents (Elt F) → (⟨S64x1x1, .f32⟩ : BufTy).Contents (Elt F) → (Fin 3 → (⟨S_, .i32⟩ : BufTy).Contents (Elt F)) → (⟨S64x257x257, .f32⟩ : BufTy).Contents (Elt F)),
    StableHlo.nullary main_while1b_c_44 (constantI S_ 32 0#32),
    StableHlo.unaryIndexed main_v33_12 ![main_while1b_c_44, main_while1b_v65, main_while1b_v66] ⟨S_, .i32⟩ main_while1b_v69 ((fun x i => Host.dynamicSlice S64x1x1 x (fun k => (i k (Shape.Idx.first h_S_)).toInt) sliceFits_S64x257x257_S64x1x1) : (⟨S64x257x257, .f32⟩ : BufTy).Contents (Elt F) → (Fin 3 → (⟨S_, .i32⟩ : BufTy).Contents (Elt F)) → (⟨S64x1x1, .f32⟩ : BufTy).Contents (Elt F)),
    StableHlo.nullary main_while1b_cst_45 (constant S_ .f32 0x00000000#32),
    StableHlo.binary main_while1b_v69 main_while1b_cst_45 main_while1b_v70 ((fun x v => Host.reduceAdd x v reducesTo_S64x1x1_S64_d1_2 h_S_) : (⟨S64x1x1, .f32⟩ : BufTy).Contents (Elt F) → (⟨S_, .f32⟩ : BufTy).Contents (Elt F) → (⟨S64, .f32⟩ : BufTy).Contents (Elt F)),
    StableHlo.unary main_while1b_v70 main_while1b_v71 (id : (⟨S64, .f32⟩ : BufTy).Contents (Elt F) → (⟨S64, .f32⟩ : BufTy).Contents (Elt F)),
    StableHlo.nullary main_while1b_cst_46 (constant S_ .f32 0xC2C80000#32),
    StableHlo.unary main_while1b_cst_46 main_while1b_v72 (broadcastInDim S64 ![] bcast_S_S64 : (⟨S_, .f32⟩ : BufTy).Contents (Elt F) → (⟨S64, .f32⟩ : BufTy).Contents (Elt F)),
    StableHlo.binary main_while1b_v71 main_while1b_v72 main_while1b_v73 (Host.divf : (⟨S64, .f32⟩ : BufTy).Contents (Elt F) → (⟨S64, .f32⟩ : BufTy).Contents (Elt F) → (⟨S64, .f32⟩ : BufTy).Contents (Elt F)),
    StableHlo.binary main_while1b_v73 main_while1b_v64 main_while1b_v74 (Host.divf : (⟨S64, .f32⟩ : BufTy).Contents (Elt F) → (⟨S64, .f32⟩ : BufTy).Contents (Elt F) → (⟨S64, .f32⟩ : BufTy).Contents (Elt F)),
    StableHlo.binary main_while1b_v74 main_while1b_v63 main_while1b_v75 (mulf : (⟨S64, .f32⟩ : BufTy).Contents (Elt F) → (⟨S64, .f32⟩ : BufTy).Contents (Elt F) → (⟨S64, .f32⟩ : BufTy).Contents (Elt F)),
    StableHlo.binary main_while1b_v74 main_while1b_v62 main_while1b_v76 (mulf : (⟨S64, .f32⟩ : BufTy).Contents (Elt F) → (⟨S64, .f32⟩ : BufTy).Contents (Elt F) → (⟨S64, .f32⟩ : BufTy).Contents (Elt F)),
    StableHlo.binary main_while1b_v74 main_while1b_v61 main_while1b_v77 (mulf : (⟨S64, .f32⟩ : BufTy).Contents (Elt F) → (⟨S64, .f32⟩ : BufTy).Contents (Elt F) → (⟨S64, .f32⟩ : BufTy).Contents (Elt F)),
    StableHlo.nullary main_while1b_cst_47 (constant S_ .f32 0xC2C80000#32),
    StableHlo.unary main_while1b_cst_47 main_while1b_v78 (broadcastInDim S64 ![] bcast_S_S64 : (⟨S_, .f32⟩ : BufTy).Contents (Elt F) → (⟨S64, .f32⟩ : BufTy).Contents (Elt F)),
    StableHlo.binary main_while1b_v75 main_while1b_v78 main_while1b_v79 (mulf : (⟨S64, .f32⟩ : BufTy).Contents (Elt F) → (⟨S64, .f32⟩ : BufTy).Contents (Elt F) → (⟨S64, .f32⟩ : BufTy).Contents (Elt F)),
    StableHlo.nullary main_while1b_cst_48 (constant S_ .f32 0xC2C80000#32),
    StableHlo.unary main_while1b_cst_48 main_while1b_v80 (broadcastInDim S64 ![] bcast_S_S64 : (⟨S_, .f32⟩ : BufTy).Contents (Elt F) → (⟨S64, .f32⟩ : BufTy).Contents (Elt F)),
    StableHlo.binary main_while1b_v76 main_while1b_v80 main_while1b_v81 (mulf : (⟨S64, .f32⟩ : BufTy).Contents (Elt F) → (⟨S64, .f32⟩ : BufTy).Contents (Elt F) → (⟨S64, .f32⟩ : BufTy).Contents (Elt F)),
    StableHlo.nullary main_while1b_cst_49 (constant S_ .f32 0xC2C80000#32),
    StableHlo.unary main_while1b_cst_49 main_while1b_v82 (broadcastInDim S64 ![] bcast_S_S64 : (⟨S_, .f32⟩ : BufTy).Contents (Elt F) → (⟨S64, .f32⟩ : BufTy).Contents (Elt F)),
    StableHlo.binary main_while1b_v77 main_while1b_v82 main_while1b_v83 (mulf : (⟨S64, .f32⟩ : BufTy).Contents (Elt F) → (⟨S64, .f32⟩ : BufTy).Contents (Elt F) → (⟨S64, .f32⟩ : BufTy).Contents (Elt F)),
    StableHlo.unary main_while1b_v79 main_while1b_v84 (broadcastInDim S64x1x1 ![0] bcast_S64_S64x1x1_0 : (⟨S64, .f32⟩ : BufTy).Contents (Elt F) → (⟨S64x1x1, .f32⟩ : BufTy).Contents (Elt F)),
    StableHlo.nullary main_while1b_cst_50 (constant S_ .f32 0x00000000#32),
    StableHlo.unary main_while1b_cst_50 main_while1b_v85 (broadcastInDim S64x257x257 ![] bcast_S_S64x257x257 : (⟨S_, .f32⟩ : BufTy).Contents (Elt F) → (⟨S64x257x257, .f32⟩ : BufTy).Contents (Elt F)),
    StableHlo.nullary main_while1b_c_51 (constantI S_ 32 0#32),
    StableHlo.binaryIndexed main_while1b_v85 main_while1b_v84 ![main_while1b_c_51, main_while1b_v60, main_while1b_v58] ⟨S_, .i32⟩ main_while1b_v86 ((fun x u i => Host.dynamicUpdateSlice x u (fun k => (i k (Shape.Idx.first h_S_)).toInt) updateFits_S64x257x257_S64x1x1) : (⟨S64x257x257, .f32⟩ : BufTy).Contents (Elt F) → (⟨S64x1x1, .f32⟩ : BufTy).Contents (Elt F) → (Fin 3 → (⟨S_, .i32⟩ : BufTy).Contents (Elt F)) → (⟨S64x257x257, .f32⟩ : BufTy).Contents (Elt F)),
    StableHlo.binary main_while1b_v68 main_while1b_v86 main_while1b_v87 (addf : (⟨S64x257x257, .f32⟩ : BufTy).Contents (Elt F) → (⟨S64x257x257, .f32⟩ : BufTy).Contents (Elt F) → (⟨S64x257x257, .f32⟩ : BufTy).Contents (Elt F)),
    StableHlo.unary main_while1b_v81 main_while1b_v88 (broadcastInDim S64x1x1 ![0] bcast_S64_S64x1x1_0 : (⟨S64, .f32⟩ : BufTy).Contents (Elt F) → (⟨S64x1x1, .f32⟩ : BufTy).Contents (Elt F)),
    StableHlo.nullary main_while1b_cst_52 (constant S_ .f32 0x00000000#32),
    StableHlo.unary main_while1b_cst_52 main_while1b_v89 (broadcastInDim S64x257x257 ![] bcast_S_S64x257x257 : (⟨S_, .f32⟩ : BufTy).Contents (Elt F) → (⟨S64x257x257, .f32⟩ : BufTy).Contents (Elt F)),
    StableHlo.nullary main_while1b_c_53 (constantI S_ 32 0#32),
    StableHlo.binaryIndexed main_while1b_v89 main_while1b_v88 ![main_while1b_c_53, main_while1b_v57, main_while1b_v59] ⟨S_, .i32⟩ main_while1b_v90 ((fun x u i => Host.dynamicUpdateSlice x u (fun k => (i k (Shape.Idx.first h_S_)).toInt) updateFits_S64x257x257_S64x1x1) : (⟨S64x257x257, .f32⟩ : BufTy).Contents (Elt F) → (⟨S64x1x1, .f32⟩ : BufTy).Contents (Elt F) → (Fin 3 → (⟨S_, .i32⟩ : BufTy).Contents (Elt F)) → (⟨S64x257x257, .f32⟩ : BufTy).Contents (Elt F)),
    StableHlo.binary main_while1b_v87 main_while1b_v90 main_while1b_v91 (addf : (⟨S64x257x257, .f32⟩ : BufTy).Contents (Elt F) → (⟨S64x257x257, .f32⟩ : BufTy).Contents (Elt F) → (⟨S64x257x257, .f32⟩ : BufTy).Contents (Elt F)),
    StableHlo.unary main_while1b_v83 main_while1b_v92 (broadcastInDim S64x1x1 ![0] bcast_S64_S64x1x1_0 : (⟨S64, .f32⟩ : BufTy).Contents (Elt F) → (⟨S64x1x1, .f32⟩ : BufTy).Contents (Elt F)),
    StableHlo.nullary main_while1b_cst_54 (constant S_ .f32 0x00000000#32),
    StableHlo.unary main_while1b_cst_54 main_while1b_v93 (broadcastInDim S64x257x257 ![] bcast_S_S64x257x257 : (⟨S_, .f32⟩ : BufTy).Contents (Elt F) → (⟨S64x257x257, .f32⟩ : BufTy).Contents (Elt F)),
    StableHlo.nullary main_while1b_c_55 (constantI S_ 32 0#32),
    StableHlo.binaryIndexed main_while1b_v93 main_while1b_v92 ![main_while1b_c_55, main_while1b_v57, main_while1b_v58] ⟨S_, .i32⟩ main_while1b_v94 ((fun x u i => Host.dynamicUpdateSlice x u (fun k => (i k (Shape.Idx.first h_S_)).toInt) updateFits_S64x257x257_S64x1x1) : (⟨S64x257x257, .f32⟩ : BufTy).Contents (Elt F) → (⟨S64x1x1, .f32⟩ : BufTy).Contents (Elt F) → (Fin 3 → (⟨S_, .i32⟩ : BufTy).Contents (Elt F)) → (⟨S64x257x257, .f32⟩ : BufTy).Contents (Elt F)),
    StableHlo.binary main_while1b_v91 main_while1b_v94 main_while1b_v95 (addf : (⟨S64x257x257, .f32⟩ : BufTy).Contents (Elt F) → (⟨S64x257x257, .f32⟩ : BufTy).Contents (Elt F) → (⟨S64x257x257, .f32⟩ : BufTy).Contents (Elt F)),
    StableHlo.unary main_while1b_v70 main_while1b_v96 (broadcastInDim S64x1x1 ![0] bcast_S64_S64x1x1_0 : (⟨S64, .f32⟩ : BufTy).Contents (Elt F) → (⟨S64x1x1, .f32⟩ : BufTy).Contents (Elt F)),
    StableHlo.nullary main_while1b_cst_56 (constant S_ .f32 0x00000000#32),
    StableHlo.unary main_while1b_cst_56 main_while1b_v97 (broadcastInDim S64x256x256 ![] bcast_S_S64x256x256 : (⟨S_, .f32⟩ : BufTy).Contents (Elt F) → (⟨S64x256x256, .f32⟩ : BufTy).Contents (Elt F)),
    StableHlo.nullary main_while1b_c_57 (constantI S_ 32 0#32),
    StableHlo.binaryIndexed main_while1b_v97 main_while1b_v96 ![main_while1b_c_57, main_while1b_v57, main_while1b_v58] ⟨S_, .i32⟩ main_while1b_v98 ((fun x u i => Host.dynamicUpdateSlice x u (fun k => (i k (Shape.Idx.first h_S_)).toInt) updateFits_S64x256x256_S64x1x1) : (⟨S64x256x256, .f32⟩ : BufTy).Contents (Elt F) → (⟨S64x1x1, .f32⟩ : BufTy).Contents (Elt F) → (Fin 3 → (⟨S_, .i32⟩ : BufTy).Contents (Elt F)) → (⟨S64x256x256, .f32⟩ : BufTy).Contents (Elt F)),
    StableHlo.binary main_v33_11 main_while1b_v98 main_while1b_v99 (addf : (⟨S64x256x256, .f32⟩ : BufTy).Contents (Elt F) → (⟨S64x256x256, .f32⟩ : BufTy).Contents (Elt F) → (⟨S64x256x256, .f32⟩ : BufTy).Contents (Elt F)),
    StableHlo.nullary main_while1b_c_58 (constantI S_ 32 1#32),
    StableHlo.binary main_v33_10 main_while1b_c_58 main_while1b_v100 (addi : (⟨S_, .i32⟩ : BufTy).Contents (Elt F) → (⟨S_, .i32⟩ : BufTy).Contents (Elt F) → (⟨S_, .i32⟩ : BufTy).Contents (Elt F)),
    StableHlo.unary main_while1b_v100 main_v33_10 id,
    StableHlo.unary main_while1b_v99 main_v33_11 id,
    StableHlo.unary main_while1b_v95 main_v33_12 id ]
/-- Each operation of `rOps11` touches TensorCore references only. -/
theorem rOps11_sub : (rOps11 : List (HloOp τ sig (Elt F))).Forall fun op => op.bufs ⊆ tcRefs τ sig :=
  ⟨nullary_bufs_sub .., unary_bufs_sub .., nullary_bufs_sub .., binaryIndexed_bufs_sub .., nullary_bufs_sub .., unaryIndexed_bufs_sub .., nullary_bufs_sub .., binary_bufs_sub .., unary_bufs_sub .., nullary_bufs_sub .., unary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., nullary_bufs_sub .., binaryIndexed_bufs_sub .., binary_bufs_sub .., unary_bufs_sub .., nullary_bufs_sub .., unary_bufs_sub .., nullary_bufs_sub .., binaryIndexed_bufs_sub .., binary_bufs_sub .., unary_bufs_sub .., nullary_bufs_sub .., unary_bufs_sub .., nullary_bufs_sub .., binaryIndexed_bufs_sub .., binary_bufs_sub .., unary_bufs_sub .., nullary_bufs_sub .., unary_bufs_sub .., nullary_bufs_sub .., binaryIndexed_bufs_sub .., binary_bufs_sub .., nullary_bufs_sub .., binary_bufs_sub .., unary_bufs_sub .., unary_bufs_sub .., unary_bufs_sub ..⟩
/-- No operation of `rOps11` allocates a buffer. -/
theorem rOps11_fresh : ∀ op ∈ (rOps11 : List (HloOp τ sig (Elt F))), op.fresh = ∅ :=
  List.forall_iff_forall_mem.mp (forall_fresh_of_map rfl)

/-- @main's stretches before the forward loop. -/
abbrev preI : List (List (HloOp τ sig (Elt F))) := [mOps0, mOps1, mOps2]
/-- The stretches of `preI` touch TensorCore references only and allocate nothing. -/
theorem preI_plain : Plain (preI (F := F)) := .cons mOps0_sub (hf := mOps0_fresh) (.cons mOps1_sub (hf := mOps1_fresh) (.cons mOps2_sub (hf := mOps2_fresh) (.nil)))

/-- @main's stretches between the two loops. -/
abbrev midI : List (List (HloOp τ sig (Elt F))) := [mOps3]
/-- The stretches of `midI` touch TensorCore references only and allocate nothing. -/
theorem midI_plain : Plain (midI (F := F)) := .cons mOps3_sub (hf := mOps3_fresh) (.nil)

/-- @main's stretches after the reverse loop. -/
abbrev postI : List (List (HloOp τ sig (Elt F))) := [mOps4]
/-- The stretches of `postI` touch TensorCore references only and allocate nothing. -/
theorem postI_plain : Plain (postI (F := F)) := .cons mOps4_sub (hf := mOps4_fresh) (.nil)

/-- The forward loop's body. -/
abbrev fwdI : List (List (HloOp τ sig (Elt F))) := [fOps0, fOps1, fOps2, fOps3, fOps4, fOps5, fOps6, fOps7, fOps8, fOps9, fOps10, fOps11]
/-- The stretches of `fwdI` touch TensorCore references only and allocate nothing. -/
theorem fwdI_plain : Plain (fwdI (F := F)) := .cons fOps0_sub (hf := fOps0_fresh) (.cons fOps1_sub (hf := fOps1_fresh) (.cons fOps2_sub (hf := fOps2_fresh) (.cons fOps3_sub (hf := fOps3_fresh) (.cons fOps4_sub (hf := fOps4_fresh) (.cons fOps5_sub (hf := fOps5_fresh) (.cons fOps6_sub (hf := fOps6_fresh) (.cons fOps7_sub (hf := fOps7_fresh) (.cons fOps8_sub (hf := fOps8_fresh) (.cons fOps9_sub (hf := fOps9_fresh) (.cons fOps10_sub (hf := fOps10_fresh) (.cons fOps11_sub (hf := fOps11_fresh) (.nil))))))))))))

/-- The reverse loop's body. -/
abbrev revI : List (List (HloOp τ sig (Elt F))) := [rOps0, rOps1, rOps2, rOps3, rOps4, rOps5, rOps6, rOps7, rOps8, rOps9, rOps10, rOps11]
/-- The stretches of `revI` touch TensorCore references only and allocate nothing. -/
theorem revI_plain : Plain (revI (F := F)) := .cons rOps0_sub (hf := rOps0_fresh) (.cons rOps1_sub (hf := rOps1_fresh) (.cons rOps2_sub (hf := rOps2_fresh) (.cons rOps3_sub (hf := rOps3_fresh) (.cons rOps4_sub (hf := rOps4_fresh) (.cons rOps5_sub (hf := rOps5_fresh) (.cons rOps6_sub (hf := rOps6_fresh) (.cons rOps7_sub (hf := rOps7_fresh) (.cons rOps8_sub (hf := rOps8_fresh) (.cons rOps9_sub (hf := rOps9_fresh) (.cons rOps10_sub (hf := rOps10_fresh) (.cons rOps11_sub (hf := rOps11_fresh) (.nil))))))))))))

/-- @main is the chain of its stretches and its two loops. -/
theorem main_chain (c : Dev nD) : main (F := F) c = (Pipeline.chain
  [ seq mOps0,
    seq mOps1,
    seq mOps2,
    HostLoop.enter 0,
    seq mOps3,
    HostLoop.enter 1,
    seq mOps4 ] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons, Pipeline.chain_cons, chain_seq_cons, Pipeline.chain_cons, chain_seq_cons]
  chain_rfl

/-- The forward loop's body is the chain of its stretches. -/
theorem fwd_chain : main_while0_body (F := F) = (Pipeline.chain
  [ seq fOps0,
    seq fOps1,
    seq fOps2,
    seq fOps3,
    seq fOps4,
    seq fOps5,
    seq fOps6,
    seq fOps7,
    seq fOps8,
    seq fOps9,
    seq fOps10,
    seq fOps11 ] : Prog (TpuEff nD τ sig (Elt F) (HostLoop.Sig (Pipeline.Sig Λ₀ (Fin 0) fun p => (pcfgs (F := F) p).Adm) 2) .tc) PUnit) := by
  rewrite [chain_seq_cons, Pipeline.chain_cons, Pipeline.chain_cons, Pipeline.chain_cons, Pipeline.chain_cons, Pipeline.chain_cons, Pipeline.chain_cons, Pipeline.chain_cons, Pipeline.chain_cons, Pipeline.chain_cons, Pipeline.chain_cons, chain_seq_cons]
  chain_rfl

/-- The reverse loop's body is the chain of its stretches. -/
theorem rev_chain : main_while1_body (F := F) = (Pipeline.chain
  [ seq rOps0,
    seq rOps1,
    seq rOps2,
    seq rOps3,
    seq rOps4,
    seq rOps5,
    seq rOps6,
    seq rOps7,
    seq rOps8,
    seq rOps9,
    seq rOps10,
    seq rOps11 ] : Prog (TpuEff nD τ sig (Elt F) (HostLoop.Sig (Pipeline.Sig Λ₀ (Fin 0) fun p => (pcfgs (F := F) p).Adm) 2) .tc) PUnit) := by
  rewrite [chain_seq_cons, Pipeline.chain_cons, Pipeline.chain_cons, Pipeline.chain_cons, Pipeline.chain_cons, Pipeline.chain_cons, Pipeline.chain_cons, Pipeline.chain_cons, Pipeline.chain_cons, Pipeline.chain_cons, Pipeline.chain_cons, chain_seq_cons]
  chain_rfl

/-- The forward loop's condition: the bound, and the counter compared with it. -/
abbrev fCond : List (HloOp τ sig (Elt F)) :=
  [ StableHlo.nullary main_while0c_c_41 (constantI S_ 32 65536#32),
    StableHlo.binary main_v25_1 main_while0c_c_41 main_while0c_v55 (cmpi .slt : (⟨S_, .i32⟩ : BufTy).Contents (Elt F) → (⟨S_, .i32⟩ : BufTy).Contents (Elt F) → (⟨S_, .i1⟩ : BufTy).Contents (Elt F)) ]

/-- The reverse loop's condition: the bound, and the counter compared with it. -/
abbrev rCond : List (HloOp τ sig (Elt F)) :=
  [ StableHlo.nullary main_while1c_c_40 (constantI S_ 32 65536#32),
    StableHlo.binary main_v33_10 main_while1c_c_40 main_while1c_v55 (cmpi .slt : (⟨S_, .i32⟩ : BufTy).Contents (Elt F) → (⟨S_, .i32⟩ : BufTy).Contents (Elt F) → (⟨S_, .i1⟩ : BufTy).Contents (Elt F)) ]

end Cert.ReferenceIdeal.Hand

end
-- ==== Proof.RefRun.lean ====
/-
  The reference program's run: both loops' counters count, so each condition holds for exactly 65536 trips, and every weakly
  fair execution terminates with every unscoped buffer at the fold of the stretches and the trips (`TwoLoops.final`).
-/
module

public import proofs.«01_k».proof.Proof.RefOps

@[expose] public section

set_option maxRecDepth 4096

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- One trip of the forward loop steps its counter. -/
theorem fwd_ctr (V : Valuation τ sig (Elt F)) :
    afterL fwdI (after fCond V) (Proc.devRef .tc main_v25_1) = addi (V (Proc.devRef .tc main_v25_1)) (constantI S_ 32 1#32) := by
  simp only [afterL_cons, afterL_nil]
  after_reads_simp
  rfl

/-- One trip of the forward loop steps its second counter, the cell's number. -/
theorem fwd_cell (V : Valuation τ sig (Elt F)) :
    afterL fwdI (after fCond V) (Proc.devRef .tc main_v25_2) = addi (V (Proc.devRef .tc main_v25_2)) (constantI S_ 32 1#32) := by
  simp only [afterL_cons, afterL_nil]
  after_reads_simp
  rfl

/-- One trip of the reverse loop steps its counter. -/
theorem rev_ctr (V : Valuation τ sig (Elt F)) :
    afterL revI (after rCond V) (Proc.devRef .tc main_v33_10) = addi (V (Proc.devRef .tc main_v33_10)) (constantI S_ 32 1#32) := by
  simp only [afterL_cons, afterL_nil]
  after_reads_simp
  rfl

/-- Before trip `k` the forward loop's counter is `k`. -/
theorem fwd_ctr_at {W₀ : Dev nD → Valuation τ sig (Elt F)} (c : Dev nD)
    (h : W₀ c (Proc.devRef .tc main_v25_1) = fun _ => (0#32 : BitVec 32)) :
    ∀ k, atTrip fCond fwdI W₀ k c (Proc.devRef .tc main_v25_1) = fun _ => Scf.iv 0#32 1#32 k
  | 0 => by rw [atTrip_zero, h, Scf.iv_zero]
  | k + 1 => by
    rw [atTrip_succ, fwd_ctr, fwd_ctr_at c h k, Scf.iv_succ]
    rfl

/-- Before trip `k` the cell's number is `k`. -/
theorem fwd_cell_at {W₀ : Dev nD → Valuation τ sig (Elt F)} (c : Dev nD)
    (h : W₀ c (Proc.devRef .tc main_v25_2) = fun _ => (0#32 : BitVec 32)) :
    ∀ k, atTrip fCond fwdI W₀ k c (Proc.devRef .tc main_v25_2) = fun _ => Scf.iv 0#32 1#32 k
  | 0 => by rw [atTrip_zero, h, Scf.iv_zero]
  | k + 1 => by
    rw [atTrip_succ, fwd_cell, fwd_cell_at c h k, Scf.iv_succ]
    rfl

/-- Before trip `k` the reverse loop's counter is `k`. -/
theorem rev_ctr_at {W₀ : Dev nD → Valuation τ sig (Elt F)} (c : Dev nD)
    (h : W₀ c (Proc.devRef .tc main_v33_10) = fun _ => (0#32 : BitVec 32)) :
    ∀ k, atTrip rCond revI W₀ k c (Proc.devRef .tc main_v33_10) = fun _ => Scf.iv 0#32 1#32 k
  | 0 => by rw [atTrip_zero, h, Scf.iv_zero]
  | k + 1 => by
    rw [atTrip_succ, rev_ctr, rev_ctr_at c h k, Scf.iv_succ]
    rfl

-- the thread in the operation rule is a plain definition that unification has to unfold
set_option backward.isDefEq.respectTransparency.types false in
/-- The forward loop runs on exactly while its counter is below 65536. -/
theorem fwd_cond {W₀ : Dev nD → Valuation τ sig (Elt F)}
    (h : ∀ c, W₀ c (Proc.devRef .tc main_v25_1) = fun _ => (0#32 : BitVec 32)) :
    CondSpec (pcfgs (F := F)) defs₀ loops (main_while0_cond (F := F)) fCond fwdI W₀ 65536 := by
  intro k hk c bd
  have hctr := fwd_ctr_at c (h c) k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip fCond fwdI W₀ k c) main_v25_1 HostLoop.idx0)
        (HloOp.result _ (atTrip fCond fwdI W₀ k c) main_while0c_c_41 HostLoop.idx0) = 1#1) (k < 65536)
    rw [nullary_result_ne _ _ _ _ (by decide), nullary_result, hctr]
    exact Scf.cmpi_slt_iv_ub_iff (lb := 0#32) (ub := 65536#32) (st := 1#32) (by decide) (show k ≤ Scf.trips 0#32 65536#32 1#32 from hk)
  isplitl [Hb]; · iexact Hb
  rw [after_cons, after_cons, after_nil]; iexact Hh

-- as above
set_option backward.isDefEq.respectTransparency.types false in
/-- The reverse loop runs on exactly while its counter is below 65536. -/
theorem rev_cond {W₀ : Dev nD → Valuation τ sig (Elt F)}
    (h : ∀ c, W₀ c (Proc.devRef .tc main_v33_10) = fun _ => (0#32 : BitVec 32)) :
    CondSpec (pcfgs (F := F)) defs₀ loops (main_while1_cond (F := F)) rCond revI W₀ 65536 := by
  intro k hk c bd
  have hctr := rev_ctr_at c (h c) k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip rCond revI W₀ k c) main_v33_10 HostLoop.idx0)
        (HloOp.result _ (atTrip rCond revI W₀ k c) main_while1c_c_40 HostLoop.idx0) = 1#1) (k < 65536)
    rw [nullary_result_ne _ _ _ _ (by decide), nullary_result, hctr]
    exact Scf.cmpi_slt_iv_ub_iff (lb := 0#32) (ub := 65536#32) (st := 1#32) (by decide) (show k ≤ Scf.trips 0#32 65536#32 1#32 from hk)
  isplitl [Hb]; · iexact Hb
  rw [after_cons, after_cons, after_nil]; iexact Hh

variable (m : (ℓ : Loc nD τ sig) → Buf (Elt F) ℓ) (ρ : Dev nD → PrngReg)

/-- The buffers when the forward loop is entered. -/
abbrev atFwd (c : Dev nD) : Valuation τ sig (Elt F) := entryContents preI m c
/-- The buffers when the forward loop has run. -/
abbrev doneFwd (c : Dev nD) : Valuation τ sig (Elt F) := after fCond (atTrip fCond fwdI (atFwd m) 65536 c)
/-- The buffers when the reverse loop is entered. -/
abbrev atRev (c : Dev nD) : Valuation τ sig (Elt F) := afterL midI (doneFwd m c)
/-- The buffers when the reverse loop has run. -/
abbrev doneRev (c : Dev nD) : Valuation τ sig (Elt F) := after rCond (atTrip rCond revI (atRev m) 65536 c)
/-- The buffers at the end. -/
abbrev atEnd (c : Dev nD) : Valuation τ sig (Elt F) := afterL postI (doneRev m c)

/-- At the forward loop's entry both its counters are zero. -/
theorem fwd_entry (V : Valuation τ sig (Elt F)) : afterL preI V (Proc.devRef .tc main_v25_1) = (fun _ => (0#32 : BitVec 32))
    ∧ afterL preI V (Proc.devRef .tc main_v25_2) = (fun _ => (0#32 : BitVec 32)) := by
  constructor <;> (simp only [afterL_cons, afterL_nil]; after_reads_simp; rfl)

/-- At the reverse loop's entry its counter is zero. -/
theorem rev_entry (V : Valuation τ sig (Elt F)) : afterL midI V (Proc.devRef .tc main_v33_10) = (fun _ => (0#32 : BitVec 32)) := by
  simp only [afterL_cons, afterL_nil]; after_reads_simp; rfl

/-- On every device, for any float values, from any memory with zero counters: every weakly fair execution terminates with
    every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = atEnd m c (Proc.devRef .tc b)) :=
  TwoLoops.run (pcs := pcfgs (F := F)) (defs₀ := defs₀) (loops := loops) (l₀ := 0) (l₁ := 1) (cond₀ := main_while0_cond) (cond₁ := main_while1_cond)
    (body₀ := main_while0_body) (body₁ := main_while1_body) main rfl rfl
    (preI := preI) (bodyI₀ := fwdI) (midI := midI) (bodyI₁ := revI) (postI := postI) (condOps₀ := fCond) (condOps₁ := rCond)
    preI_plain fwdI_plain midI_plain revI_plain postI_plain
    (fun c => by rw [main_chain]; rfl) (by rw [fwd_chain]; rfl) (by rw [rev_chain]; rfl) (n₀ := 65536) (n₁ := 65536) m ρ
    (fwd_cond fun c => (fwd_entry _).1) (rev_cond fun c => rev_entry _)

end Cert.ReferenceIdeal.Hand

end
-- ==== Proof.RefFrame.lean ====
/-
  The reference program's frame: no stretch and no trip writes an argument array, and the program has no semaphore.
-/
module

public import proofs.«01_k».proof.Proof.RefRun
public import Idealize.ShloMosaic.Lib.Quiescent

@[expose] public section

set_option maxRecDepth 4096

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open Idealize.ShloMosaic.StableHlo

variable {F : FTy → Type} [FloatOps F]

/-- The arguments are written by nothing: by no stretch of @main and by no trip of either loop. -/
theorem keeps_args (r : Ref sig .tc) (hr : r = main_arg0 ∨ r = main_arg1) (V : Valuation τ sig (Elt F)) :
    afterL preI V (Proc.devRef .tc r) = V (Proc.devRef .tc r)
    ∧ afterL midI V (Proc.devRef .tc r) = V (Proc.devRef .tc r)
    ∧ afterL postI V (Proc.devRef .tc r) = V (Proc.devRef .tc r)
    ∧ afterL fwdI V (Proc.devRef .tc r) = V (Proc.devRef .tc r)
    ∧ afterL revI V (Proc.devRef .tc r) = V (Proc.devRef .tc r)
    ∧ after fCond V (Proc.devRef .tc r) = V (Proc.devRef .tc r)
    ∧ after rCond V (Proc.devRef .tc r) = V (Proc.devRef .tc r) := by
  rcases hr with rfl | rfl
  all_goals
    refine ⟨?_, ?_, ?_, ?_, ?_, ?_, ?_⟩
    all_goals
      try simp only [afterL_cons, afterL_nil]
      after_reads_simp

/-- No number of trips of a loop whose condition and body leave a buffer alone changes it. -/
theorem atTrip_keeps {condOps : List (HloOp τ sig (Elt F))} {bodyI : List (List (HloOp τ sig (Elt F)))} {r : Ref sig .tc}
    (hc : ∀ V : Valuation τ sig (Elt F), after condOps V (Proc.devRef .tc r) = V (Proc.devRef .tc r))
    (hb : ∀ V : Valuation τ sig (Elt F), afterL bodyI V (Proc.devRef .tc r) = V (Proc.devRef .tc r))
    (W₀ : Dev nD → Valuation τ sig (Elt F)) (c : Dev nD) :
    ∀ k, atTrip condOps bodyI W₀ k c (Proc.devRef .tc r) = W₀ c (Proc.devRef .tc r)
  | 0 => rfl
  | k + 1 => by rw [atTrip_succ, hb, hc, atTrip_keeps hc hb W₀ c k]

variable (m : (ℓ : Loc nD τ sig) → Buf (Elt F) ℓ) (ρ : Dev nD → PrngReg)

/-- At the end of the run an argument array is as launched. -/
theorem atEnd_arg (r : Ref sig .tc) (hr : r = main_arg0 ∨ r = main_arg1) (c : Dev nD) :
    atEnd m c (Proc.devRef .tc r) = m ((c.tc : Thread nD τ).loc r) := by
  have h := fun V => keeps_args (F := F) r hr V
  unfold atEnd doneRev
  rw [(h _).2.2.1, (h _).2.2.2.2.2.2, atTrip_keeps (fun V => (h V).2.2.2.2.2.2) (fun V => (h V).2.2.2.2.1)]
  unfold atRev doneFwd
  rw [(h _).2.1, (h _).2.2.2.2.2.1, atTrip_keeps (fun V => (h V).2.2.2.2.2.1) (fun V => (h V).2.2.2.1)]
  exact (h _).1

/-- The run with the result at the fold, the arguments unchanged and every counter zero. -/
theorem run_values : θ_run (defs (F := F)) (onTc (τ := τ) (main (F := F))) ⟨m, fun _ => 0, ρ⟩ (fun r => (∀ c : Dev nD,
      r.2.mem ((c.tc : Thread nD τ).loc main_v54) = atEnd m c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨h c main_v54 rfl, (h c main_arg0 rfl).trans (atEnd_arg m _ (.inl rfl) c),
    (h c main_arg1 rfl).trans (atEnd_arg m _ (.inr rfl) c)⟩, sem_eq_zero_of_no_sems rfl _⟩) (run_fold m ρ)

end Cert.ReferenceIdeal.Hand

end
-- ==== Proof.SoftMin.lean ====
/-
  The soft minimum of three extended reals, as the kernel writes it and as the reference writes it, and the gradient that
  each passes on. No program is mentioned here.
-/
module

public import Idealize.ShloMosaic.PureOps.Ideal

@[expose] public section

noncomputable section

namespace Cert.SoftDtw

open Idealize.ShloMosaic

/-- The kernel's soft minimum, at smoothing 1/100: the minimum is taken out of the exponentials. -/
def sm (a b c : EReal) : EReal :=
  min (min a b) c - ((1 / 100 : ℝ) : EReal)
    * Ideal.log (Ideal.exp ((min (min a b) c - a) * ((100 : ℝ) : EReal)) + Ideal.exp ((min (min a b) c - b) * ((100 : ℝ) : EReal))
      + Ideal.exp ((min (min a b) c - c) * ((100 : ℝ) : EReal)))

/-- The greatest of the three scaled arguments of the reference's soft minimum. -/
def smMax (a b c : EReal) : EReal := max (max (a * ((-100 : ℝ) : EReal)) (b * ((-100 : ℝ) : EReal))) (c * ((-100 : ℝ) : EReal))

/-- The weight of one argument in the reference's soft minimum, before the division by their sum. -/
def smExp (a b c v : EReal) : EReal := Ideal.exp (v * ((-100 : ℝ) : EReal) - smMax a b c)

/-- The sum of the three weights. -/
def smSum (a b c : EReal) : EReal := smExp a b c a + smExp a b c b + smExp a b c c

/-- The reference's soft minimum. -/
def smR (a b c : EReal) : EReal := Ideal.div (Ideal.log (smSum a b c) + smMax a b c) ((-100 : ℝ) : EReal)

/-- What the reference's reverse pass hands to the argument `v` of a soft minimum whose result has gradient `E`. -/
def passR (a b c v E : EReal) : EReal :=
  Ideal.div (Ideal.div E ((-100 : ℝ) : EReal)) (smSum a b c) * smExp a b c v * ((-100 : ℝ) : EReal)

/-- What the kernel's backward sweep hands from a cell of value `R`, cost `D` and gradient `E` to a neighbour of value `v`. -/
def passK (R D v E : EReal) : EReal := Ideal.exp (min (R - v - D) 0 * ((100 : ℝ) : EReal)) * E

/-- An exponential is not negative. -/
theorem exp_nonneg (x : EReal) : 0 ≤ Ideal.exp x := by
  induction x with
  | bot => simp
  | top => simp
  | coe r => rw [Ideal.exp_coe]; exact_mod_cast (Real.exp_pos r).le

/-- The exponential of a scaled distance from the real minimum is real, and one at the minimum. -/
theorem sub_exp (μ : ℝ) (v : EReal) (hv : v ≠ ⊥) (hle : (μ : EReal) ≤ v) :
    ∃ e : ℝ, 0 ≤ e ∧ Ideal.exp (((μ : EReal) - v) * ((100 : ℝ) : EReal)) = e ∧ (v = μ → e = 1)
      ∧ (∀ r : ℝ, v = r → e = Real.exp ((μ - r) * 100)) := by
  induction v with
  | bot => exact absurd rfl hv
  | top => exact ⟨0, le_rfl, by
      rw [show (μ : EReal) - ⊤ = ⊥ from rfl, EReal.bot_mul_coe_of_pos (by norm_num)]; simp, by
      intro h; simp at h, by intro r h; simp at h⟩
  | coe r => exact ⟨Real.exp ((μ - r) * 100), (Real.exp_pos _).le, by
      rw [← EReal.coe_sub, ← EReal.coe_mul, Ideal.exp_coe], by
      intro h; have : r = μ := by exact_mod_cast h
      simp [this], by intro r' h; have : r = r' := by exact_mod_cast h
                      rw [this]⟩

/-- The difference of two scaled values is the scaled difference. -/
theorem scaled_sub (μ : ℝ) (v : EReal) (hv : v ≠ ⊥) :
    v * ((-100 : ℝ) : EReal) - (μ : EReal) * ((-100 : ℝ) : EReal) = ((μ : EReal) - v) * ((100 : ℝ) : EReal) := by
  induction v with
  | bot => exact absurd rfl hv
  | top =>
    rw [show (μ : EReal) - ⊤ = ⊥ from rfl, EReal.bot_mul_coe_of_pos (by norm_num), EReal.top_mul_coe_of_neg (by norm_num), ← EReal.coe_mul,
      sub_eq_add_neg, EReal.bot_add]
  | coe r => rw [← EReal.coe_mul, ← EReal.coe_mul, ← EReal.coe_sub, ← EReal.coe_sub, ← EReal.coe_mul]; congr 1; ring

/-- The larger of two values scaled by -100 is the smaller one scaled. -/
theorem max_scaled (a b : EReal) :
    max (a * ((-100 : ℝ) : EReal)) (b * ((-100 : ℝ) : EReal)) = min a b * ((-100 : ℝ) : EReal) := by
  have anti : ∀ x y : EReal, x ≤ y → y * ((-100 : ℝ) : EReal) ≤ x * ((-100 : ℝ) : EReal) := by
    intro x y h
    have e : ∀ z : EReal, z * ((-100 : ℝ) : EReal) = -(z * ((100 : ℝ) : EReal)) := by
      intro z; rw [EReal.coe_neg, mul_neg]
    rw [e, e, EReal.neg_le_neg_iff]
    exact mul_le_mul_of_nonneg_right h (by exact_mod_cast (by norm_num : (0:ℝ) ≤ 100))
  rcases le_total a b with h | h
  · rw [min_eq_left h, max_eq_left (anti _ _ h)]
  · rw [min_eq_right h, max_eq_right (anti _ _ h)]

/-- The largest scaled value is the minimum scaled. -/
theorem smMax_eq (a b c : EReal) : smMax a b c = min (min a b) c * ((-100 : ℝ) : EReal) := by
  rw [smMax, max_scaled, max_scaled]

/-- Three arguments, none of them `⊥`: either all are `⊤` or their minimum is real. -/
theorem min_cases {a b c : EReal} (ha : a ≠ ⊥) (hb : b ≠ ⊥) (hc : c ≠ ⊥) :
    (a = ⊤ ∧ b = ⊤ ∧ c = ⊤) ∨ ∃ μ : ℝ, min (min a b) c = μ ∧ (μ : EReal) ≤ a ∧ (μ : EReal) ≤ b ∧ (μ : EReal) ≤ c
      ∧ (a = μ ∨ b = μ ∨ c = μ) := by
  have hm : min (min a b) c ≠ ⊥ := by
    rcases min_choice (min a b) c with h | h <;> rw [h]
    · rcases min_choice a b with h | h <;> rw [h] <;> assumption
    · assumption
  by_cases ht : min (min a b) c = ⊤
  · left
    have h : ∀ {x : EReal}, min (min a b) c ≤ x → x = ⊤ := fun {x} h => top_le_iff.1 (ht ▸ h)
    exact ⟨h ((min_le_left _ _).trans (min_le_left _ _)), h ((min_le_left _ _).trans (min_le_right _ _)), h (min_le_right _ _)⟩
  · right
    refine ⟨(min (min a b) c).toReal, (EReal.coe_toReal ht hm).symm, ?_, ?_, ?_, ?_⟩
    · rw [EReal.coe_toReal ht hm]; exact (min_le_left _ _).trans (min_le_left _ _)
    · rw [EReal.coe_toReal ht hm]; exact (min_le_left _ _).trans (min_le_right _ _)
    · rw [EReal.coe_toReal ht hm]; exact min_le_right _ _
    · rw [EReal.coe_toReal ht hm]
      rcases min_choice (min a b) c with h | h
      · rcases min_choice a b with h' | h'
        · left; rw [h, h']
        · right; left; rw [h, h']
      · right; right; rw [h]

/-- The kernel's soft minimum of three ⊤ is ⊤. -/
theorem sm_top : sm ⊤ ⊤ ⊤ = ⊤ := by
  have : (⊤ : EReal) - ⊤ = ⊥ := rfl
  simp only [sm, min_self, this, EReal.bot_mul_coe_of_pos (show (0:ℝ) < 100 by norm_num), Ideal.exp_bot, add_zero]
  rw [← EReal.coe_zero, Ideal.log_coe, if_pos le_rfl, EReal.coe_mul_bot_of_pos (by norm_num)]
  rfl

/-- The reference's soft minimum of three ⊤ is ⊤. -/
theorem smR_top : smR ⊤ ⊤ ⊤ = ⊤ := by
  have h : (⊤ : EReal) * ((-100 : ℝ) : EReal) = ⊥ := EReal.top_mul_coe_of_neg (by norm_num)
  have : (⊥ : EReal) - ⊥ = ⊥ := rfl
  simp only [smR, smSum, smExp, smMax, h, max_self, this, Ideal.exp_bot, add_zero]
  rw [← EReal.coe_zero, Ideal.log_coe, if_pos le_rfl, Ideal.div, if_neg (by exact_mod_cast (by norm_num)), EReal.bot_add,
    ← EReal.coe_inv, EReal.bot_mul_coe_of_neg (by norm_num)]

/-- The data of a soft minimum with a real minimum `μ`: its three weights and their sum `s`, all real. -/
theorem sm_data {a b c : EReal} (ha : a ≠ ⊥) (hb : b ≠ ⊥) (hc : c ≠ ⊥) (μ : ℝ) (hμ : min (min a b) c = μ)
    (la : (μ : EReal) ≤ a) (lb : (μ : EReal) ≤ b) (lc : (μ : EReal) ≤ c) (hone : a = μ ∨ b = μ ∨ c = μ) :
    ∃ s : ℝ, 0 < s ∧ sm a b c = ((μ - Real.log s / 100 : ℝ) : EReal) ∧ smSum a b c = s
      ∧ smR a b c = ((μ - Real.log s / 100 : ℝ) : EReal)
      ∧ ∀ v : ℝ, (a = v ∨ b = v ∨ c = v) → smExp a b c v = (Real.exp ((μ - v) * 100) : ℝ) ∧ Real.exp ((μ - v) * 100) ≤ s := by
  obtain ⟨ea, na, xa, oa, ra⟩ := sub_exp μ a ha la
  obtain ⟨eb, nb, xb, ob, rb⟩ := sub_exp μ b hb lb
  obtain ⟨ec, nc, xc, oc, rc⟩ := sub_exp μ c hc lc
  have hs : 0 < ea + eb + ec := by
    rcases hone with h | h | h
    · rw [oa h]; linarith
    · rw [ob h]; linarith
    · rw [oc h]; linarith
  have hexp : ∀ v : EReal, v ≠ ⊥ → smExp a b c v = Ideal.exp (((μ : EReal) - v) * ((100 : ℝ) : EReal)) := by
    intro v hv; rw [smExp, smMax_eq, hμ, scaled_sub μ v hv]
  have hsum : smSum a b c = ((ea + eb + ec : ℝ) : EReal) := by
    rw [smSum, hexp a ha, hexp b hb, hexp c hc, xa, xb, xc]; norm_cast
  refine ⟨ea + eb + ec, hs, ?_, hsum, ?_, ?_⟩
  · rw [sm, hμ, xa, xb, xc, ← EReal.coe_add, ← EReal.coe_add, Ideal.log_coe, if_neg (not_le.2 hs), ← EReal.coe_mul,
      ← EReal.coe_sub]
    congr 1; ring
  · rw [smR, hsum, smMax_eq, hμ, Ideal.log_coe, if_neg (not_le.2 hs), ← EReal.coe_mul, ← EReal.coe_add, Ideal.div,
      if_neg (by exact_mod_cast (by norm_num)), ← EReal.coe_inv, ← EReal.coe_mul]
    congr 1; ring
  · intro v hv
    refine ⟨?_, ?_⟩
    · rw [hexp v (EReal.coe_ne_bot v), ← EReal.coe_sub, ← EReal.coe_mul, Ideal.exp_coe]
    · rcases hv with h | h | h
      · rw [← ra v h]; linarith
      · rw [← rb v h]; linarith
      · rw [← rc v h]; linarith

/-- The two soft minima agree wherever no argument is `⊥`. -/
theorem smR_eq_sm {a b c : EReal} (ha : a ≠ ⊥) (hb : b ≠ ⊥) (hc : c ≠ ⊥) : smR a b c = sm a b c := by
  rcases min_cases ha hb hc with ⟨rfl, rfl, rfl⟩ | ⟨μ, hμ, la, lb, lc, ho⟩
  · rw [sm_top, smR_top]
  · obtain ⟨s, -, h1, -, h2, -⟩ := sm_data ha hb hc μ hμ la lb lc ho
    rw [h1, h2]

/-- A soft minimum of arguments none of which is `⊥` is not `⊥`. -/
theorem sm_ne_bot {a b c : EReal} (ha : a ≠ ⊥) (hb : b ≠ ⊥) (hc : c ≠ ⊥) : sm a b c ≠ ⊥ := by
  rcases min_cases ha hb hc with ⟨rfl, rfl, rfl⟩ | ⟨μ, hμ, la, lb, lc, ho⟩
  · rw [sm_top]; exact (by simp)
  · obtain ⟨s, -, h1, -, -, -⟩ := sm_data ha hb hc μ hμ la lb lc ho
    rw [h1]; exact EReal.coe_ne_bot _

/-- A soft minimum with a real argument, none of them `⊥`, is real. -/
theorem sm_real {a b c : EReal} (ha : a ≠ ⊥) (hb : b ≠ ⊥) (hc : c ≠ ⊥) (v : ℝ) (hv : a = v ∨ b = v ∨ c = v) :
    ∃ r : ℝ, sm a b c = r := by
  rcases min_cases ha hb hc with ⟨rfl, rfl, rfl⟩ | ⟨μ, hμ, la, lb, lc, ho⟩
  · rcases hv with h | h | h <;> exact absurd h.symm (EReal.coe_ne_top _)
  · obtain ⟨s, -, h1, -, -, -⟩ := sm_data ha hb hc μ hμ la lb lc ho
    exact ⟨_, h1⟩

/-- The soft minimum of a zero and two `⊤` is zero. -/
theorem sm_zero_top_top : sm 0 ⊤ ⊤ = 0 := by
  have h : min (min (0 : EReal) ⊤) ⊤ = ((0 : ℝ) : EReal) := by simp
  rw [sm, h]
  have e : ((0 : ℝ) : EReal) - ⊤ = ⊥ := rfl
  have e0 : (((0 : ℝ) : EReal) - 0) * ((100 : ℝ) : EReal) = ((0 : ℝ) : EReal) := by simp
  rw [e, e0, EReal.bot_mul_coe_of_pos (by norm_num), Ideal.exp_bot, Ideal.exp_coe, Real.exp_zero]
  simp only [add_zero]
  rw [Ideal.log_coe, if_neg (by norm_num), Real.log_one]
  simp

/-- With real values, the kernel and the reference pass the same gradient on, and it is real. -/
theorem pass_eq {a b c : EReal} (ha : a ≠ ⊥) (hb : b ≠ ⊥) (hc : c ≠ ⊥) (D v E : ℝ) (hv : a = v ∨ b = v ∨ c = v) :
    passK ((D : EReal) + sm a b c) D v E = passR a b c v E ∧ ∃ r : ℝ, passR a b c v E = r := by
  rcases min_cases ha hb hc with ⟨rfl, rfl, rfl⟩ | ⟨μ, hμ, la, lb, lc, ho⟩
  · rcases hv with h | h | h <;> exact absurd h.symm (EReal.coe_ne_top _)
  obtain ⟨s, hs, h1, h2, -, h3⟩ := sm_data ha hb hc μ hμ la lb lc ho
  obtain ⟨h4, h5⟩ := h3 v hv
  have hR : passR a b c v E = ((E / s * Real.exp ((μ - v) * 100) : ℝ) : EReal) := by
    rw [passR, h2, h4, Ideal.div, if_neg (by exact_mod_cast hs.ne'), Ideal.div, if_neg (by exact_mod_cast (by norm_num)),
      ← EReal.coe_inv, ← EReal.coe_inv, ← EReal.coe_mul, ← EReal.coe_mul, ← EReal.coe_mul, ← EReal.coe_mul]
    congr 1; field_simp
  refine ⟨?_, _, hR⟩
  have hlog : (μ - v) * 100 ≤ Real.log s := (Real.le_log_iff_exp_le hs).2 h5
  have hmin : min ((D : EReal) + sm a b c - v - D) 0 = ((μ - v - Real.log s / 100 : ℝ) : EReal) := by
    rw [h1, ← EReal.coe_add, ← EReal.coe_sub, ← EReal.coe_sub, min_eq_left (by
      rw [← EReal.coe_zero, EReal.coe_le_coe_iff]; linarith)]
    congr 1; ring
  rw [hR, passK, hmin, ← EReal.coe_mul, Ideal.exp_coe, ← EReal.coe_mul]
  congr 1
  rw [show (μ - v - Real.log s / 100) * 100 = (μ - v) * 100 - Real.log s by ring, Real.exp_sub, Real.exp_log hs]
  field_simp

/-- What the kernel passes on is not negative. -/
theorem passK_nonneg (R D v E : EReal) (hE : 0 ≤ E) : 0 ≤ passK R D v E :=
  EReal.mul_nonneg (exp_nonneg _) hE

/-- What the reference passes on is not negative. -/
theorem passR_nonneg (a b c v E : EReal) (hE : 0 ≤ E) : 0 ≤ passR a b c v E := by
  have h100 : ((-100 : ℝ) : EReal) ≤ 0 := by exact_mod_cast (by norm_num : (-100 : ℝ) ≤ 0)
  have hs : 0 ≤ smSum a b c := add_nonneg (add_nonneg (exp_nonneg _) (exp_nonneg _)) (exp_nonneg _)
  have h1 : Ideal.div E ((-100 : ℝ) : EReal) ≤ 0 := by
    rw [Ideal.div, if_neg (by exact_mod_cast (by norm_num)), ← EReal.coe_inv, EReal.mul_nonpos_iff]
    exact Or.inl ⟨hE, by exact_mod_cast (by norm_num : ((-100 : ℝ)⁻¹) ≤ 0)⟩
  have h2 : Ideal.div (Ideal.div E ((-100 : ℝ) : EReal)) (smSum a b c) ≤ 0 := by
    rw [Ideal.div]
    split
    · rw [if_neg (not_lt.2 h1)]; exact bot_le
    · rw [EReal.mul_nonpos_iff]; exact Or.inr ⟨h1, EReal.inv_nonneg_of_nonneg hs⟩
  have h3 : Ideal.div (Ideal.div E ((-100 : ℝ) : EReal)) (smSum a b c) * smExp a b c v ≤ 0 := by
    rw [EReal.mul_nonpos_iff]; exact Or.inr ⟨h2, exp_nonneg _⟩
  rw [passR, EReal.mul_nonneg_iff]
  exact Or.inr ⟨h3, h100⟩

end Cert.SoftDtw

end
-- ==== Proof.SoftDtw.lean ====
/-
  Soft dynamic time warping of two sequences of 256 extended reals: the table of values, the gradient of its last entry by
  each cell's cost, and the reverse pass over the cells one by one that computes this gradient. No program is mentioned here.
-/
module

public import proofs.«01_k».proof.Proof.SoftMin

@[expose] public section

noncomputable section

namespace Cert.SoftDtw

open Idealize.ShloMosaic

/-- The squared distance of target `i` and input `j`. -/
def cost (t x : ℕ → EReal) (i j : ℕ) : EReal := (t i - x j) * (t i - x j)

/-- The table of soft-DTW values with its borders: entry `(i + 1, j + 1)` belongs to cell `(i, j)`. -/
def tab (D : ℕ → ℕ → EReal) : ℕ → ℕ → EReal
  | 0, 0 => 0
  | 0, _ + 1 => ⊤
  | _ + 1, 0 => ⊤
  | i + 1, j + 1 => D i j + sm (tab D i j) (tab D i (j + 1)) (tab D (i + 1) j)

/-- The gradient at cell `(i, j)`, where `U p q`, `L p q` and `G p q` pass the gradient of cell `(p, q)` to the cell above
it, to its left and diagonally before it. -/
def grad (U L G : ℕ → ℕ → EReal → EReal) (i j : ℕ) : EReal :=
  (if i = 255 ∧ j = 255 then 1 else 0) + (if _h : i < 255 then U (i + 1) j (grad U L G (i + 1) j) else 0)
    + (if _h : j < 255 then L i (j + 1) (grad U L G i (j + 1)) else 0)
    + (if _h : i < 255 ∧ j < 255 then G (i + 1) (j + 1) (grad U L G (i + 1) (j + 1)) else 0)
termination_by (255 - i) + (255 - j)
decreasing_by all_goals omega

/-- The gradient at a cell from those of the cells after it. -/
theorem grad_eq (U L G : ℕ → ℕ → EReal → EReal) (i j : ℕ) :
    grad U L G i j = (if i = 255 ∧ j = 255 then 1 else 0) + (if i < 255 then U (i + 1) j (grad U L G (i + 1) j) else 0)
      + (if j < 255 then L i (j + 1) (grad U L G i (j + 1)) else 0)
      + (if i < 255 ∧ j < 255 then G (i + 1) (j + 1) (grad U L G (i + 1) (j + 1)) else 0) := by
  conv_lhs => rw [grad]
  simp only [dite_eq_ite]

/-- A cost is not negative. -/
theorem cost_nonneg (t x : ℕ → EReal) (i j : ℕ) : 0 ≤ cost t x i j := by
  rw [cost, EReal.mul_nonneg_iff]
  rcases le_total 0 (t i - x j) with h | h
  · exact Or.inl ⟨h, h⟩
  · exact Or.inr ⟨h, h⟩

/-- A cost is not ⊥. -/
theorem cost_ne_bot (t x : ℕ → EReal) (i j : ℕ) : cost t x i j ≠ ⊥ := by
  intro h; have := cost_nonneg t x i j; rw [h] at this; exact absurd this (by simp)

/-- A difference is real or its square is ⊤. -/
theorem sub_cases (a b : EReal) : (∃ r : ℝ, a - b = r) ∨ (a - b) * (a - b) = ⊤ := by
  generalize a - b = z
  induction z with
  | bot => right; rfl
  | top => right; rfl
  | coe r => exact Or.inl ⟨r, rfl⟩

/-- A target that is not real makes its whole row of costs `⊤`. -/
theorem cost_row (t x : ℕ → EReal) (i : ℕ) (h : ∀ r : ℝ, t i ≠ r) (j : ℕ) : cost t x i j = ⊤ := by
  rcases sub_cases (t i) (x j) with ⟨r, hr⟩ | h'
  · exfalso
    revert hr h
    generalize t i = a; generalize x j = b
    intro h hr
    induction a with
    | bot => rw [sub_eq_add_neg, EReal.bot_add] at hr; exact absurd hr.symm (EReal.coe_ne_bot r)
    | top => induction b with
      | bot => exact absurd hr.symm (EReal.coe_ne_top r)
      | top => exact absurd hr.symm (EReal.coe_ne_bot r)
      | coe s => exact absurd hr.symm (EReal.coe_ne_top r)
    | coe s => exact h s rfl
  · exact h'

/-- An input that is not real makes its whole column of costs `⊤`. -/
theorem cost_col (t x : ℕ → EReal) (j : ℕ) (h : ∀ r : ℝ, x j ≠ r) (i : ℕ) : cost t x i j = ⊤ := by
  rcases sub_cases (t i) (x j) with ⟨r, hr⟩ | h'
  · exfalso
    revert hr h
    generalize t i = a; generalize x j = b
    intro h hr
    induction b with
    | top => rw [sub_eq_add_neg, EReal.neg_top, EReal.add_bot] at hr; exact absurd hr.symm (EReal.coe_ne_bot r)
    | bot => induction a with
      | bot => exact absurd hr.symm (EReal.coe_ne_bot r)
      | top => exact absurd hr.symm (EReal.coe_ne_top r)
      | coe s => exact absurd hr.symm (EReal.coe_ne_top r)
    | coe s => exact h s rfl
  · exact h'

/-- Real sequences have real costs. -/
theorem cost_real (t x : ℕ → EReal) (ht : ∀ i, ∃ r : ℝ, t i = r) (hx : ∀ j, ∃ r : ℝ, x j = r) (i j : ℕ) :
    ∃ r : ℝ, cost t x i j = r := by
  obtain ⟨a, ha⟩ := ht i; obtain ⟨b, hb⟩ := hx j
  exact ⟨(a - b) * (a - b), by rw [cost, ha, hb, ← EReal.coe_sub, ← EReal.coe_mul]⟩

/-- No table entry is ⊥. -/
theorem tab_ne_bot (D : ℕ → ℕ → EReal) (hD : ∀ i j, D i j ≠ ⊥) : ∀ i j, tab D i j ≠ ⊥
  | 0, 0 => by simp [tab]
  | 0, _ + 1 => by simp [tab]
  | _ + 1, 0 => by simp [tab]
  | i + 1, j + 1 => by
    rw [tab, Ne, EReal.add_eq_bot_iff, not_or]
    exact ⟨hD i j, sm_ne_bot (tab_ne_bot D hD i j) (tab_ne_bot D hD i (j + 1)) (tab_ne_bot D hD (i + 1) j)⟩

/-- Real costs give a real table inside the borders. -/
theorem tab_real (D : ℕ → ℕ → EReal) (hD : ∀ i j, ∃ r : ℝ, D i j = r) : ∀ i j, ∃ r : ℝ, tab D (i + 1) (j + 1) = r := by
  have hb : ∀ i j, D i j ≠ ⊥ := fun i j => by obtain ⟨r, h⟩ := hD i j; rw [h]; exact EReal.coe_ne_bot r
  have key : ∀ i j, (∃ v : ℝ, tab D i j = v ∨ tab D i (j + 1) = v ∨ tab D (i + 1) j = v) → ∃ r : ℝ, tab D (i + 1) (j + 1) = r := by
    rintro i j ⟨v, hv⟩
    obtain ⟨d, hd⟩ := hD i j
    obtain ⟨s, hs⟩ := sm_real (tab_ne_bot D hb i j) (tab_ne_bot D hb i (j + 1)) (tab_ne_bot D hb (i + 1) j) v hv
    exact ⟨d + s, by rw [tab, hd, hs, EReal.coe_add]⟩
  intro i
  induction i with
  | zero =>
    intro j
    induction j with
    | zero => exact key 0 0 ⟨0, Or.inl (by rw [tab]; rfl)⟩
    | succ j ih => obtain ⟨r, hr⟩ := ih; exact key 0 (j + 1) ⟨r, Or.inr (Or.inr hr)⟩
  | succ i ih =>
    intro j
    obtain ⟨r, hr⟩ := ih j
    exact key (i + 1) j ⟨r, Or.inr (Or.inl hr)⟩

/-- Adding ⊤ to anything but ⊥ gives ⊤. -/
theorem add_top (a : EReal) (h : a ≠ ⊥) : a + ⊤ = ⊤ := EReal.add_top_of_ne_bot h

/-- A row of costs all `⊤` makes every table entry from it on `⊤`. -/
theorem tab_row_top (D : ℕ → ℕ → EReal) (hD : ∀ i j, D i j ≠ ⊥) (i₀ : ℕ) (h : ∀ j, D i₀ j = ⊤) :
    ∀ i, i₀ ≤ i → ∀ j, tab D (i + 1) (j + 1) = ⊤ := by
  intro i hi
  induction i, hi using Nat.le_induction with
  | base =>
    intro j
    rw [tab, h j, add_comm]
    exact add_top _ (sm_ne_bot (tab_ne_bot D hD _ _) (tab_ne_bot D hD _ _) (tab_ne_bot D hD _ _))
  | succ i hi ih =>
    intro j
    induction j with
    | zero => rw [tab, ih 0, show tab D (i + 1) 0 = ⊤ by rw [tab], show tab D (i + 1 + 1) 0 = ⊤ by rw [tab], sm_top,
        add_top _ (hD _ _)]
    | succ j ihj => rw [tab, ih j, ih (j + 1), ihj, sm_top, add_top _ (hD _ _)]

/-- A column of costs all `⊤` makes every table entry from it on `⊤`. -/
theorem tab_col_top (D : ℕ → ℕ → EReal) (hD : ∀ i j, D i j ≠ ⊥) (j₀ : ℕ) (h : ∀ i, D i j₀ = ⊤) :
    ∀ j, j₀ ≤ j → ∀ i, tab D (i + 1) (j + 1) = ⊤ := by
  intro j hj
  induction j, hj using Nat.le_induction with
  | base =>
    intro i
    rw [tab, h i, add_comm]
    exact add_top _ (sm_ne_bot (tab_ne_bot D hD _ _) (tab_ne_bot D hD _ _) (tab_ne_bot D hD _ _))
  | succ j hj ih =>
    intro i
    induction i with
    | zero => rw [tab, ih 0, show tab D 0 (j + 1) = ⊤ by rw [tab], show tab D 0 (j + 1 + 1) = ⊤ by rw [tab], sm_top,
        add_top _ (hD _ _)]
    | succ i ihi => rw [tab, ih i, ih (i + 1), ihi, sm_top, add_top _ (hD _ _)]

/-- What the reference hands up, left and diagonally from a cell. -/
def upR (D : ℕ → ℕ → EReal) (p q : ℕ) (E : EReal) : EReal :=
  passR (tab D p q) (tab D p (q + 1)) (tab D (p + 1) q) (tab D p (q + 1)) E
/-- What the reference hands to the left. -/
def leftR (D : ℕ → ℕ → EReal) (p q : ℕ) (E : EReal) : EReal :=
  passR (tab D p q) (tab D p (q + 1)) (tab D (p + 1) q) (tab D (p + 1) q) E
/-- What the reference hands diagonally. -/
def diagR (D : ℕ → ℕ → EReal) (p q : ℕ) (E : EReal) : EReal :=
  passR (tab D p q) (tab D p (q + 1)) (tab D (p + 1) q) (tab D p q) E
/-- What the kernel hands up. -/
def upK (D : ℕ → ℕ → EReal) (p q : ℕ) (E : EReal) : EReal := passK (tab D (p + 1) (q + 1)) (D p q) (tab D p (q + 1)) E
/-- What the kernel hands to the left. -/
def leftK (D : ℕ → ℕ → EReal) (p q : ℕ) (E : EReal) : EReal := passK (tab D (p + 1) (q + 1)) (D p q) (tab D (p + 1) q) E
/-- What the kernel hands diagonally. -/
def diagK (D : ℕ → ℕ → EReal) (p q : ℕ) (E : EReal) : EReal := passK (tab D (p + 1) (q + 1)) (D p q) (tab D p q) E

/-- The reference's gradients. -/
def gradR (D : ℕ → ℕ → EReal) : ℕ → ℕ → EReal := grad (upR D) (leftR D) (diagR D)
/-- The kernel's gradients. -/
def gradK (D : ℕ → ℕ → EReal) : ℕ → ℕ → EReal := grad (upK D) (leftK D) (diagK D)

/-- Gradients are not negative if what is passed on is not. -/
theorem grad_nonneg (U L G : ℕ → ℕ → EReal → EReal) (hU : ∀ p q E, 0 ≤ E → 0 ≤ U p q E) (hL : ∀ p q E, 0 ≤ E → 0 ≤ L p q E)
    (hG : ∀ p q E, 0 ≤ E → 0 ≤ G p q E) (i j : ℕ) : 0 ≤ grad U L G i j := by
  rw [grad_eq]
  refine add_nonneg (add_nonneg (add_nonneg ?_ ?_) ?_) ?_
  · split
    · exact zero_le_one
    · exact le_rfl
  · split
    · exact hU _ _ _ (grad_nonneg U L G hU hL hG (i + 1) j)
    · exact le_rfl
  · split
    · exact hL _ _ _ (grad_nonneg U L G hU hL hG i (j + 1))
    · exact le_rfl
  · split
    · exact hG _ _ _ (grad_nonneg U L G hU hL hG (i + 1) (j + 1))
    · exact le_rfl
termination_by (255 - i) + (255 - j)
decreasing_by all_goals omega

/-- The reference's gradients are not negative. -/
theorem gradR_nonneg (D : ℕ → ℕ → EReal) (i j : ℕ) : 0 ≤ gradR D i j :=
  grad_nonneg _ _ _ (fun _ _ _ h => passR_nonneg _ _ _ _ _ h) (fun _ _ _ h => passR_nonneg _ _ _ _ _ h)
    (fun _ _ _ h => passR_nonneg _ _ _ _ _ h) i j

/-- The kernel's gradients are not negative. -/
theorem gradK_nonneg (D : ℕ → ℕ → EReal) (i j : ℕ) : 0 ≤ gradK D i j :=
  grad_nonneg _ _ _ (fun _ _ _ h => passK_nonneg _ _ _ _ h) (fun _ _ _ h => passK_nonneg _ _ _ _ h)
    (fun _ _ _ h => passK_nonneg _ _ _ _ h) i j

/-- With real costs the two gradients agree and are real. -/
theorem gradK_eq_gradR (D : ℕ → ℕ → EReal) (hD : ∀ i j, ∃ r : ℝ, D i j = r) (i j : ℕ) :
    gradK D i j = gradR D i j ∧ ∃ r : ℝ, gradR D i j = r := by
  have hb : ∀ i j, D i j ≠ ⊥ := fun i j => by obtain ⟨r, h⟩ := hD i j; rw [h]; exact EReal.coe_ne_bot r
  have step : ∀ (p q : ℕ) (v E : EReal), (tab D p q = v ∨ tab D p (q + 1) = v ∨ tab D (p + 1) q = v) → (∃ r : ℝ, v = r) → (∃ r : ℝ, E = r) →
      passK (tab D (p + 1) (q + 1)) (D p q) v E = passR (tab D p q) (tab D p (q + 1)) (tab D (p + 1) q) v E
        ∧ ∃ r : ℝ, passR (tab D p q) (tab D p (q + 1)) (tab D (p + 1) q) v E = r := by
    rintro p q v E hv ⟨v, rfl⟩ ⟨E, rfl⟩
    obtain ⟨d, hd⟩ := hD p q
    rw [tab, hd]
    exact pass_eq (tab_ne_bot D hb _ _) (tab_ne_bot D hb _ _) (tab_ne_bot D hb _ _) d v E hv
  have hU : ∀ h : i < 255, upK D (i + 1) j (gradK D (i + 1) j) = upR D (i + 1) j (gradR D (i + 1) j)
      ∧ ∃ r : ℝ, upR D (i + 1) j (gradR D (i + 1) j) = r := by
    intro h
    obtain ⟨e, r⟩ := gradK_eq_gradR D hD (i + 1) j
    rw [e]
    exact step (i + 1) j _ _ (Or.inr (Or.inl rfl)) (tab_real D hD i j) r
  have hL : ∀ h : j < 255, leftK D i (j + 1) (gradK D i (j + 1)) = leftR D i (j + 1) (gradR D i (j + 1))
      ∧ ∃ r : ℝ, leftR D i (j + 1) (gradR D i (j + 1)) = r := by
    intro h
    obtain ⟨e, r⟩ := gradK_eq_gradR D hD i (j + 1)
    rw [e]
    exact step i (j + 1) _ _ (Or.inr (Or.inr rfl)) (tab_real D hD i j) r
  have hG : ∀ h : i < 255 ∧ j < 255, diagK D (i + 1) (j + 1) (gradK D (i + 1) (j + 1)) = diagR D (i + 1) (j + 1) (gradR D (i + 1) (j + 1))
      ∧ ∃ r : ℝ, diagR D (i + 1) (j + 1) (gradR D (i + 1) (j + 1)) = r := by
    intro h
    obtain ⟨e, r⟩ := gradK_eq_gradR D hD (i + 1) (j + 1)
    rw [e]
    exact step (i + 1) (j + 1) _ _ (Or.inl rfl) (tab_real D hD i j) r
  have ite_real : ∀ (P : Prop) [Decidable P] (f : EReal), (P → ∃ r : ℝ, f = r) → ∃ r : ℝ, (if P then f else 0) = r := by
    intro P _ f hf
    by_cases h : P
    · rw [if_pos h]; exact hf h
    · rw [if_neg h]; exact ⟨0, rfl⟩
  have e : gradK D i j = gradR D i j := by
    rw [gradK, gradR, grad_eq (upK D) (leftK D) (diagK D) i j, grad_eq (upR D) (leftR D) (diagR D) i j]
    congr 1
    · congr 1
      · congr 1
        by_cases h : i < 255
        · rw [if_pos h, if_pos h]; exact (hU h).1
        · rw [if_neg h, if_neg h]
      · by_cases h : j < 255
        · rw [if_pos h, if_pos h]; exact (hL h).1
        · rw [if_neg h, if_neg h]
    · by_cases h : i < 255 ∧ j < 255
      · rw [if_pos h, if_pos h]; exact (hG h).1
      · rw [if_neg h, if_neg h]
  refine ⟨e, ?_⟩
  rw [gradR, grad_eq]
  obtain ⟨a, ha⟩ : ∃ r : ℝ, (if i = 255 ∧ j = 255 then (1 : EReal) else 0) = r := by
    split
    · exact ⟨1, rfl⟩
    · exact ⟨0, rfl⟩
  obtain ⟨b, hb'⟩ := ite_real (i < 255) (upR D (i + 1) j (gradR D (i + 1) j)) (fun h => (hU h).2)
  obtain ⟨c, hc⟩ := ite_real (j < 255) (leftR D i (j + 1) (gradR D i (j + 1))) (fun h => (hL h).2)
  obtain ⟨d, hd⟩ := ite_real (i < 255 ∧ j < 255) (diagR D (i + 1) (j + 1) (gradR D (i + 1) (j + 1))) (fun h => (hG h).2)
  simp only [gradR] at hb' hc hd
  exact ⟨a + b + c + d, by rw [ha, hb', hc, hd]; norm_cast⟩
termination_by (255 - i) + (255 - j)
decreasing_by all_goals omega

/-- The reference's reverse pass after `n` cells, the last one first: the gradients still to be passed on by table entry, and
the gradients found by cell. -/
def passes (U L G : ℕ → ℕ → EReal → EReal) : ℕ → (ℕ → ℕ → EReal) × (ℕ → ℕ → EReal)
  | 0 => (fun i j => if i = 256 ∧ j = 256 then 1 else 0, fun _ _ => 0)
  | n + 1 =>
    let A := (passes U L G n).1
    let p := (65535 - n) / 256
    let q := (65535 - n) % 256
    let cb := A (p + 1) (q + 1)
    (fun i j => (((if i = p + 1 ∧ j = q + 1 then 0 else A i j) + (if i = p + 1 ∧ j = q then L p q cb else 0))
        + (if i = p ∧ j = q + 1 then U p q cb else 0)) + (if i = p ∧ j = q then G p q cb else 0),
      fun i j => (passes U L G n).2 i j + (if i = p ∧ j = q then cb else 0))

/-- The reverse pass after n cells: the cells passed hold their gradients, and every other table entry holds the sum of what has arrived. -/
theorem passes_inv (U L G : ℕ → ℕ → EReal → EReal) : ∀ n, n ≤ 65536 → ∀ i j, i < 256 → j < 256 →
    (passes U L G n).2 i j = (if 65536 - n ≤ 256 * i + j then grad U L G i j else 0)
    ∧ (256 * i + j < 65536 - n → (passes U L G n).1 (i + 1) (j + 1)
      = (if i = 255 ∧ j = 255 then 1 else 0)
        + (if i < 255 ∧ 65536 - n ≤ 256 * (i + 1) + j then U (i + 1) j (grad U L G (i + 1) j) else 0)
        + (if j < 255 ∧ 65536 - n ≤ 256 * i + (j + 1) then L i (j + 1) (grad U L G i (j + 1)) else 0)
        + (if (i < 255 ∧ j < 255) ∧ 65536 - n ≤ 256 * (i + 1) + (j + 1) then G (i + 1) (j + 1) (grad U L G (i + 1) (j + 1)) else 0))
  | 0, _, i, j, hi, hj => by
    refine ⟨?_, fun _ => ?_⟩
    · rw [if_neg (by omega)]; rfl
    · rw [if_neg (show ¬(i < 255 ∧ 65536 - 0 ≤ 256 * (i + 1) + j) by omega),
        if_neg (show ¬(j < 255 ∧ 65536 - 0 ≤ 256 * i + (j + 1)) by omega),
        if_neg (show ¬((i < 255 ∧ j < 255) ∧ 65536 - 0 ≤ 256 * (i + 1) + (j + 1)) by omega), add_zero, add_zero, add_zero]
      show (if i + 1 = 256 ∧ j + 1 = 256 then (1 : EReal) else 0) = _
      simp only [show (i + 1 = 256) = (i = 255) from by simp, show (j + 1 = 256) = (j = 255) from by simp]
  | n + 1, hn, i, j, hi, hj => by
    have hp : (65535 - n) / 256 < 256 := by omega
    have hq : (65535 - n) % 256 < 256 := by omega
    have hk : 256 * ((65535 - n) / 256) + (65535 - n) % 256 = 65535 - n := by omega
    generalize hpe : (65535 - n) / 256 = p at hp hk
    generalize hqe : (65535 - n) % 256 = q at hq hk
    have hcb : (passes U L G n).1 (p + 1) (q + 1) = grad U L G p q := by
      rw [(passes_inv U L G n (by omega) p q hp hq).2 (by omega), grad_eq U L G p q]
      have c1 : (p < 255 ∧ 65536 - n ≤ 256 * (p + 1) + q) ↔ p < 255 := by omega
      have c2 : (q < 255 ∧ 65536 - n ≤ 256 * p + (q + 1)) ↔ q < 255 := by omega
      have c3 : ((p < 255 ∧ q < 255) ∧ 65536 - n ≤ 256 * (p + 1) + (q + 1)) ↔ (p < 255 ∧ q < 255) := by omega
      simp only [c1, c2, c3]
    obtain ⟨i1, i2⟩ := passes_inv U L G n (by omega) i j hi hj
    refine ⟨?_, fun hlt => ?_⟩
    · show (passes U L G n).2 i j + (if i = (65535 - n) / 256 ∧ j = (65535 - n) % 256 then
        (passes U L G n).1 ((65535 - n) / 256 + 1) ((65535 - n) % 256 + 1) else 0) = _
      rw [hpe, hqe, hcb, i1]
      by_cases h : i = p ∧ j = q
      · rw [if_pos h, if_neg (by omega), if_pos (by omega), zero_add, h.1, h.2]
      · rw [if_neg h, add_zero]
        have : (65536 - n ≤ 256 * i + j) ↔ (65536 - (n + 1) ≤ 256 * i + j) := by
          constructor
          · omega
          · intro h'; by_contra h''; exact h (by omega)
        simp only [this]
    · show (((if i + 1 = (65535 - n) / 256 + 1 ∧ j + 1 = (65535 - n) % 256 + 1 then 0 else (passes U L G n).1 (i + 1) (j + 1))
        + (if i + 1 = (65535 - n) / 256 + 1 ∧ j + 1 = (65535 - n) % 256 then L ((65535 - n) / 256) ((65535 - n) % 256)
            ((passes U L G n).1 ((65535 - n) / 256 + 1) ((65535 - n) % 256 + 1)) else 0))
        + (if i + 1 = (65535 - n) / 256 ∧ j + 1 = (65535 - n) % 256 + 1 then U ((65535 - n) / 256) ((65535 - n) % 256)
            ((passes U L G n).1 ((65535 - n) / 256 + 1) ((65535 - n) % 256 + 1)) else 0))
        + (if i + 1 = (65535 - n) / 256 ∧ j + 1 = (65535 - n) % 256 then G ((65535 - n) / 256) ((65535 - n) % 256)
            ((passes U L G n).1 ((65535 - n) / 256 + 1) ((65535 - n) % 256 + 1)) else 0) = _
      rw [hpe, hqe, hcb, if_neg (by omega), i2 (by omega)]
      have eU : (if i < 255 ∧ 65536 - (n + 1) ≤ 256 * (i + 1) + j then U (i + 1) j (grad U L G (i + 1) j) else 0)
          = (if i < 255 ∧ 65536 - n ≤ 256 * (i + 1) + j then U (i + 1) j (grad U L G (i + 1) j) else 0)
            + (if i + 1 = p ∧ j + 1 = q + 1 then U p q (grad U L G p q) else 0) := by
        by_cases h : i + 1 = p ∧ j + 1 = q + 1
        · obtain ⟨rfl, h2⟩ := h; obtain rfl : j = q := by omega
          rw [if_pos (by omega), if_neg (by omega), if_pos (by omega), zero_add]
        · rw [if_neg h, add_zero]
          have : (i < 255 ∧ 65536 - (n + 1) ≤ 256 * (i + 1) + j) ↔ (i < 255 ∧ 65536 - n ≤ 256 * (i + 1) + j) := by omega
          simp only [this]
      have eL : (if j < 255 ∧ 65536 - (n + 1) ≤ 256 * i + (j + 1) then L i (j + 1) (grad U L G i (j + 1)) else 0)
          = (if j < 255 ∧ 65536 - n ≤ 256 * i + (j + 1) then L i (j + 1) (grad U L G i (j + 1)) else 0)
            + (if i + 1 = p + 1 ∧ j + 1 = q then L p q (grad U L G p q) else 0) := by
        by_cases h : i + 1 = p + 1 ∧ j + 1 = q
        · obtain ⟨h1, rfl⟩ := h; obtain rfl : i = p := by omega
          rw [if_pos (by omega), if_neg (by omega), if_pos (by omega), zero_add]
        · rw [if_neg h, add_zero]
          have : (j < 255 ∧ 65536 - (n + 1) ≤ 256 * i + (j + 1)) ↔ (j < 255 ∧ 65536 - n ≤ 256 * i + (j + 1)) := by omega
          simp only [this]
      have eG : (if (i < 255 ∧ j < 255) ∧ 65536 - (n + 1) ≤ 256 * (i + 1) + (j + 1) then G (i + 1) (j + 1) (grad U L G (i + 1) (j + 1)) else 0)
          = (if (i < 255 ∧ j < 255) ∧ 65536 - n ≤ 256 * (i + 1) + (j + 1) then G (i + 1) (j + 1) (grad U L G (i + 1) (j + 1)) else 0)
            + (if i + 1 = p ∧ j + 1 = q then G p q (grad U L G p q) else 0) := by
        by_cases h : i + 1 = p ∧ j + 1 = q
        · obtain ⟨rfl, rfl⟩ := h
          rw [if_pos (by omega), if_neg (by omega), if_pos (by omega), zero_add]
        · rw [if_neg h, add_zero]
          have : ((i < 255 ∧ j < 255) ∧ 65536 - (n + 1) ≤ 256 * (i + 1) + (j + 1)) ↔ ((i < 255 ∧ j < 255) ∧ 65536 - n ≤ 256 * (i + 1) + (j + 1)) := by omega
          simp only [this]
      rw [eU, eL, eG]
      ac_rfl

/-- The reverse pass over all cells finds the gradient of every cell. -/
theorem passes_grad (U L G : ℕ → ℕ → EReal → EReal) (i j : ℕ) (hi : i < 256) (hj : j < 256) :
    (passes U L G 65536).2 i j = grad U L G i j := by
  rw [(passes_inv U L G 65536 le_rfl i j hi hj).1, if_pos (by omega)]

end Cert.SoftDtw

end
-- ==== Proof.KerRoll.lean ====
/-
  The kernel's vectors read at a batch and a lane, at the extended reals: the lane shifts, the window of inputs of an
  anti-diagonal, and the lane masks.
-/
module

public import proofs.«01_k».proof.Proof.KerBody
public import proofs.«01_k».proof.Proof.SoftDtw
public import Idealize.ShloMosaic.Lib.ValueIdx
public import Idealize.ShloMosaic.Lib.ValueIdxCoords
public import Idealize.ShloMosaic.Lib.WordCmp
public import Idealize.ShloMosaic.Lib.IdealHost
public import Idealize.ShloMosaic.Lib.KernelVsHost
public import Idealize.ShloMosaic.Lib.Pipeline.Value

@[expose] public section

noncomputable section

namespace Cert.KernelIdeal.Hand

open Cert.KernelIdeal Cert.KernelIdeal.Gen Cert.SoftDtw
open Idealize.ShloMosaic Idealize.ShloMosaic.ValueIdx Idealize.ShloMosaic.WordCmp

/-- The named constant of the borders is ⊤. -/
theorem named_inf : (Named.named (F := Ideal) κ "inf" (φ := .f32) 0x4CBEBC20#32 : EReal) = ⊤ := by
  simp [Named.named, κ]

/-- The named smoothing constant is 1/100. -/
theorem named_gamma : (Named.named (F := Ideal) κ "gamma" (φ := .f32) 0x3C23D70A#32 : EReal) = ((1 / 100 : ℝ) : EReal) := by
  simp [Named.named, κ]

/-- The literal for a hundred. -/
theorem bits_hundred : Ideal.ofBits .f32 0x42C80000#32 = ((100 : ℝ) : EReal) := by
  simp [Ideal.ofBits, Ideal.ieee, -EReal.coe_mul]; norm_num

/-- The literal for one over the squared length. -/
theorem bits_scale : Ideal.ofBits .f32 0x37800000#32 = ((1 / 65536 : ℝ) : EReal) := by
  simp [Ideal.ofBits, Ideal.ieee, -EReal.coe_mul]; norm_num

/-- A row shifted up by one lane, read past lane 0. -/
theorem shiftUp_apply {α : Type} (r : S32x256.Idx → α) (b : Fin 32) (i : Fin 256) (hi : 0 < i.val) :
    concatenate S32x256 1 [⟨S32x1, extractStridedSlice S32x1 ![0, 255] r slices_S32x256_o0_255_S32x1⟩,
      ⟨S32x255, extractStridedSlice S32x255 ![0, 0] r slices_S32x256_o0_0_S32x255⟩] concatenates_S32x1_S32x255_S32x256_d1 (ix2 b i)
      = r (ix2 b ⟨i.val - 1, by omega⟩) := by
  refine (concatenate_pair_apply_right (t := S32x256) (s₁ := S32x1) (s₂ := S32x255) 1 _ _ _ (ix2 b i) rfl rfl (ix2 (n0 := 32) (n1 := 255) b ⟨i.val - 1, by omega⟩) ?_ ?_).trans ?_
  · intro a ha; fin_cases a
    · rfl
    · exact absurd rfl ha
  · show i.val - 1 + 1 = i.val; omega
  · refine extractStridedSlice_apply _ _ _ _ _ ?_
    intro a; fin_cases a
    · show b.val = 0 + b.val; omega
    · show i.val - 1 = 0 + (i.val - 1); omega

/-- A row shifted down by one lane, read before lane 255. -/
theorem shiftDown_apply {α : Type} (r : S32x256.Idx → α) (b : Fin 32) (i : Fin 256) (hi : i.val < 255) :
    concatenate S32x256 1 [⟨S32x255, extractStridedSlice S32x255 ![0, 1] r slices_S32x256_o0_1_S32x255⟩,
      ⟨S32x1, extractStridedSlice S32x1 ![0, 0] r slices_S32x256_o0_0_S32x1⟩] concatenates_S32x255_S32x1_S32x256_d1 (ix2 b i)
      = r (ix2 b ⟨i.val + 1, by omega⟩) := by
  refine (concatenate_pair_apply_left (t := S32x256) (s₁ := S32x255) (s₂ := S32x1) 1 _ _ _ (ix2 b i) rfl (ix2 (n0 := 32) (n1 := 255) b ⟨i.val, hi⟩) ?_).trans ?_
  · intro a; fin_cases a <;> rfl
  · refine extractStridedSlice_apply _ _ _ _ _ ?_
    intro a; fin_cases a
    · show b.val = 0 + b.val; omega
    · show i.val + 1 = 1 + i.val; omega

/-- The window of an anti-diagonal at a lane. -/
theorem window_apply {α : Type} (x : S32x768.Idx → α) (d : ℕ) (hd : d ≤ 511) (b : Fin 32) (i : Fin 256) :
    extractStridedSlice S32x256 ![0, 0] (dynamicRotate 1 (BitVec.ofNat 32 d) none x rotates_S32x768_d1) slices_S32x768_o0_0_S32x256 (ix2 b i)
      = x (ix2 b ⟨(i.val + 768 - d) % 768, Nat.mod_lt _ (by norm_num)⟩) := by
  have h768 : i.val < 768 := by have := i.isLt; omega
  refine (extractStridedSlice_apply _ _ _ _ (ix2 b (⟨i.val, h768⟩ : Fin 768)) ?_).trans ?_
  · intro a; fin_cases a
    · show b.val = 0 + b.val; omega
    · show i.val = 0 + i.val; omega
  · refine dynamicRotate_apply _ _ _ _ _ _ ?_
    intro a; fin_cases a
    · rfl
    · show (i.val + 768 - d) % 768 = (i.val + 768 - (BitVec.ofNat 32 d).toNat % 768) % 768
      rw [BitVec.toNat_ofNat, Nat.mod_eq_of_lt (show d < 2 ^ 32 by omega), Nat.mod_eq_of_lt (show d < 768 by omega)]

/-- A stored row viewed as a row. -/
theorem dropOne_apply {α : Type} (v : S1x32x256.Idx → α) (b : Fin 32) (i : Fin 256) :
    shapeCast S32x256 v shapeCasts_S1x32x256_S32x256 (ix2 b i) = v (ix3 0 b i) := by
  refine (shapeCast_dropUnit_apply (n := 2) ![32, 256] v _ (ix2 b i)).trans (congrArg v ?_)
  funext a; fin_cases a <;> rfl

/-- A row as it is stored. -/
theorem addOne_apply {α : Type} (v : S32x256.Idx → α) (b : Fin 32) (i : Fin 256) :
    shapeCast S1x32x256 v shapeCasts_S32x256_S1x32x256 (ix3 0 b i) = v (ix2 b i) := by
  refine (shapeCast_addUnit_apply (n := 2) ![32, 256] v _ (ix3 0 b i)).trans (congrArg v ?_)
  funext a; fin_cases a <;> rfl

/-- The lane numbers hold the lane's number. -/
theorem lanes_apply (b : Fin 32) (i : Fin 256) : lanes (ix2 b i) = BitVec.ofNat 32 i.val :=
  iota_single_apply .tc S32x256 32 1 iota_S32x256_d1_w32 (ix2 b i)

/-- A small number's word reads as the number. -/
theorem toInt_ofNat_small (a : ℕ) (h : a < 1024) : (BitVec.ofNat 32 a).toInt = a := by
  exact toInt_ofNat_of_lt (by norm_num; omega)

/-- The difference of two small numbers' words reads as their difference. -/
theorem toInt_sub_small (a k : ℕ) (h : a < 1024) (hk : k < 1024) :
    (Scalar.subi (BitVec.ofNat 32 a) (BitVec.ofNat 32 k)).toInt = (a : ℤ) - k := by
  show (BitVec.ofNat 32 a - BitVec.ofNat 32 k).toInt = _
  rw [BitVec.toInt_sub, toInt_ofNat_small a h, toInt_ofNat_small k hk]
  simp [Int.bmod]; omega

/-- The signed "at most" of two small numbers' words. -/
theorem sle_word (i d : ℕ) (hi : i < 1024) (hd : d < 1024) :
    IntOp.cmpi .sle (BitVec.ofNat 32 i) (BitVec.ofNat 32 d) = BitVec.ofBool (decide (i ≤ d)) := by
  rw [cmpi_sle_eq, toInt_ofNat_small i hi, toInt_ofNat_small d hd]; congr 2; simp

/-- The signed "at least" of two small numbers' words. -/
theorem sge_word (i d k : ℕ) (hi : i < 1024) (hd : d < 1024) (hk : k < 1024) :
    IntOp.cmpi .sge (BitVec.ofNat 32 i) (Scalar.subi (BitVec.ofNat 32 d) (BitVec.ofNat 32 k)) = BitVec.ofBool (decide (d ≤ i + k)) := by
  rw [cmpi_sge_eq, toInt_ofNat_small i hi, toInt_sub_small d k hd hk]; congr 1
  simp only [decide_eq_decide]; omega

/-- The signed "less than" of two small numbers' words. -/
theorem slt_word (i d : ℕ) (hi : i < 1024) (hd : d < 1024) :
    IntOp.cmpi .slt (BitVec.ofNat 32 i) (BitVec.ofNat 32 d) = BitVec.ofBool (decide (i < d)) := by
  rw [cmpi_slt_eq, toInt_ofNat_small i hi, toInt_ofNat_small d hd]; congr 2; simp

/-- The equality of two small numbers' words. -/
theorem eq_word (i d : ℕ) (hi : i < 1024) (hd : d < 1024) :
    IntOp.cmpi .eq (BitVec.ofNat 32 i) (BitVec.ofNat 32 d) = BitVec.ofBool (decide (i = d)) := by
  rw [cmpi_eq_ofNat (by omega) (by omega)]

end Cert.KernelIdeal.Hand

end
-- ==== Proof.KerStep.lean ====
/-
  One forward and one backward step of the kernel, read at a batch and a lane, at the extended reals.
-/
module

public import proofs.«01_k».proof.Proof.KerRoll

@[expose] public section

noncomputable section

namespace Cert.KernelIdeal.Hand

open Cert.KernelIdeal Cert.KernelIdeal.Gen Cert.SoftDtw
open Idealize.ShloMosaic Idealize.ShloMosaic.ValueIdx Idealize.ShloMosaic.WordCmp

/-- A row shifted up by one lane, "inf" at lane 0. -/
theorem pay5_apply (r : FVec Ideal S32x256 .f32) (b : Fin 32) (i : Fin 256) :
    k0_pay5 lanes r (ix2 b i) = if h : i.val = 0 then (⊤ : EReal) else r (ix2 b ⟨i.val - 1, by omega⟩) := by
  have hi := i.isLt
  show Scalar.select (IntOp.cmpi .eq (lanes (ix2 b i)) (BitVec.ofNat 32 0)) (Named.named (F := Ideal) κ "inf" (φ := .f32) 0x4CBEBC20#32)
    (concatenate S32x256 1 [⟨S32x1, extractStridedSlice S32x1 ![0, 255] r slices_S32x256_o0_255_S32x1⟩,
      ⟨S32x255, extractStridedSlice S32x255 ![0, 0] r slices_S32x256_o0_0_S32x255⟩] concatenates_S32x1_S32x255_S32x256_d1 (ix2 b i)) = _
  rw [lanes_apply, eq_word _ _ (by omega) (by omega), select_ofBool, named_inf]
  by_cases h : i.val = 0
  · simp [h]
  · rw [dif_neg h, shiftUp_apply r b i (by omega)]; simp [h]

/-- A row shifted down by one lane, zero at lane 255. -/
theorem pay41_apply (r : FVec Ideal S32x256 .f32) (b : Fin 32) (i : Fin 256) :
    k0_pay41 lanes r (ix2 b i) = if h : i.val = 255 then (0 : EReal) else r (ix2 b ⟨i.val + 1, by omega⟩) := by
  have hi := i.isLt
  show Scalar.select (IntOp.cmpi .eq (lanes (ix2 b i)) (BitVec.ofNat 32 255)) (Ideal.ofBits .f32 0x00000000#32)
    (concatenate S32x256 1 [⟨S32x255, extractStridedSlice S32x255 ![0, 1] r slices_S32x256_o0_1_S32x255⟩,
      ⟨S32x1, extractStridedSlice S32x1 ![0, 0] r slices_S32x256_o0_0_S32x1⟩] concatenates_S32x255_S32x1_S32x256_d1 (ix2 b i)) = _
  rw [lanes_apply, eq_word _ _ (by omega) (by omega), select_ofBool, Ideal.ofBits_zero_f32]
  by_cases h : i.val = 255
  · simp [h]
  · rw [dif_neg h, shiftDown_apply r b i (by omega)]; simp [h]

/-- The new row of a forward step. -/
theorem pay9_apply (ts : FVec Ideal S32x256 .f32) (xw : FVec Ideal S32x768 .f32) (r s : FVec Ideal S32x256 .f32) (d : ℕ) (hd : d ≤ 510)
    (b : Fin 32) (i : Fin 256) :
    k0_pay9 lanes ts xw r s (BitVec.ofNat 32 d) (ix2 b i)
      = if i.val ≤ d ∧ d ≤ i.val + 255 then
          (ts (ix2 b i) - xw (ix2 b ⟨(i.val + 768 - d) % 768, Nat.mod_lt _ (by norm_num)⟩))
            * (ts (ix2 b i) - xw (ix2 b ⟨(i.val + 768 - d) % 768, Nat.mod_lt _ (by norm_num)⟩))
            + sm (s (ix2 b i)) (k0_pay5 lanes r (ix2 b i)) (r (ix2 b i))
        else (⊤ : EReal) := by
  have hi := i.isLt
  have hw := window_apply xw d (by omega) b i
  show Scalar.select (IntOp.andi (IntOp.cmpi .sle (lanes (ix2 b i)) (BitVec.ofNat 32 d))
      (IntOp.cmpi .sge (lanes (ix2 b i)) (Scalar.subi (BitVec.ofNat 32 d) (BitVec.ofNat 32 255))))
    ((ts (ix2 b i) - extractStridedSlice S32x256 ![0, 0] (dynamicRotate 1 (BitVec.ofNat 32 d) none xw rotates_S32x768_d1) slices_S32x768_o0_0_S32x256 (ix2 b i))
      * (ts (ix2 b i) - extractStridedSlice S32x256 ![0, 0] (dynamicRotate 1 (BitVec.ofNat 32 d) none xw rotates_S32x768_d1) slices_S32x768_o0_0_S32x256 (ix2 b i))
      + (min (min (s (ix2 b i)) (k0_pay5 lanes r (ix2 b i))) (r (ix2 b i)) - Named.named (F := Ideal) κ "gamma" (φ := .f32) 0x3C23D70A#32
        * Ideal.log (Ideal.exp ((min (min (s (ix2 b i)) (k0_pay5 lanes r (ix2 b i))) (r (ix2 b i)) - s (ix2 b i)) * Ideal.ofBits .f32 0x42C80000#32)
          + Ideal.exp ((min (min (s (ix2 b i)) (k0_pay5 lanes r (ix2 b i))) (r (ix2 b i)) - k0_pay5 lanes r (ix2 b i)) * Ideal.ofBits .f32 0x42C80000#32)
          + Ideal.exp ((min (min (s (ix2 b i)) (k0_pay5 lanes r (ix2 b i))) (r (ix2 b i)) - r (ix2 b i)) * Ideal.ofBits .f32 0x42C80000#32))))
    (Named.named (F := Ideal) κ "inf" (φ := .f32) 0x4CBEBC20#32) = _
  rw [hw, lanes_apply, sle_word _ _ (by omega) (by omega), sge_word _ _ _ (by omega) (by omega) (by omega), andi_ofBool, select_ofBool,
    named_inf, named_gamma, bits_hundred]
  by_cases h : i.val ≤ d ∧ d ≤ i.val + 255
  · rw [if_pos h]; simp only [h.1, h.2, decide_true, Bool.and_self, if_true]; rfl
  · rw [if_neg h, if_neg]; simpa using h

/-- The new gradients of a backward step. -/
theorem bStep_apply (ts tsh : FVec Ideal S32x256 .f32) (xw : FVec Ideal S32x768 .f32) (d : ℕ) (hd : d ≤ 509)
    (rc rn1 rn2 : Vec Ideal S1x32x256 .f32) (p : Back Ideal) (b : Fin 32) (i : Fin 256) :
    (bStep lanes ts tsh xw (BitVec.ofNat 32 d) rc rn1 rn2 p).1 (ix2 b i)
      = ((if h : (i.val ≤ d ∧ d ≤ i.val + 255) ∧ i.val < 255 then
            passK (rn1 (ix3 0 b ⟨i.val + 1, by omega⟩))
              ((tsh (ix2 b i) - xw (ix2 b ⟨(i.val + 768 - d) % 768, Nat.mod_lt _ (by norm_num)⟩))
                * (tsh (ix2 b i) - xw (ix2 b ⟨(i.val + 768 - d) % 768, Nat.mod_lt _ (by norm_num)⟩)))
              (rc (ix3 0 b i)) (k0_pay41 lanes p.1 (ix2 b i))
          else 0)
        + (if (i.val ≤ d ∧ d ≤ i.val + 255) ∧ d ≤ i.val + 254 then
            passK (rn1 (ix3 0 b i)) ((ts (ix2 b i) - p.2.2.1 (ix2 b i)) * (ts (ix2 b i) - p.2.2.1 (ix2 b i)))
              (rc (ix3 0 b i)) (p.1 (ix2 b i))
          else 0)
        + (if h : ((i.val ≤ d ∧ d ≤ i.val + 255) ∧ i.val < 255) ∧ d ≤ i.val + 254 then
            passK (rn2 (ix3 0 b ⟨i.val + 1, by omega⟩)) ((tsh (ix2 b i) - p.2.2.1 (ix2 b i)) * (tsh (ix2 b i) - p.2.2.1 (ix2 b i)))
              (rc (ix3 0 b i)) (p.2.1 (ix2 b i))
          else 0) : EReal) := by
  have hi := i.isLt
  have hw := window_apply xw d (by omega) b i
  show Scalar.select (IntOp.andi (IntOp.andi (IntOp.cmpi .sle (lanes (ix2 b i)) (BitVec.ofNat 32 d))
        (IntOp.cmpi .sge (lanes (ix2 b i)) (Scalar.subi (BitVec.ofNat 32 d) (BitVec.ofNat 32 255))))
        (IntOp.cmpi .slt (lanes (ix2 b i)) (BitVec.ofNat 32 255)))
      (Ideal.exp (min (concatenate S32x256 1 [⟨S32x255, extractStridedSlice S32x255 ![0, 1] (shapeCast S32x256 rn1 shapeCasts_S1x32x256_S32x256) slices_S32x256_o0_1_S32x255⟩,
          ⟨S32x1, extractStridedSlice S32x1 ![0, 0] (shapeCast S32x256 rn1 shapeCasts_S1x32x256_S32x256) slices_S32x256_o0_0_S32x1⟩] concatenates_S32x255_S32x1_S32x256_d1 (ix2 b i)
          - shapeCast S32x256 rc shapeCasts_S1x32x256_S32x256 (ix2 b i)
          - (tsh (ix2 b i) - extractStridedSlice S32x256 ![0, 0] (dynamicRotate 1 (BitVec.ofNat 32 d) none xw rotates_S32x768_d1) slices_S32x768_o0_0_S32x256 (ix2 b i))
            * (tsh (ix2 b i) - extractStridedSlice S32x256 ![0, 0] (dynamicRotate 1 (BitVec.ofNat 32 d) none xw rotates_S32x768_d1) slices_S32x768_o0_0_S32x256 (ix2 b i)))
          (Ideal.ofBits .f32 0x00000000#32) * Ideal.ofBits .f32 0x42C80000#32) * k0_pay41 lanes p.1 (ix2 b i))
      (Ideal.ofBits .f32 0x00000000#32)
    + Scalar.select (IntOp.andi (IntOp.andi (IntOp.cmpi .sle (lanes (ix2 b i)) (BitVec.ofNat 32 d))
        (IntOp.cmpi .sge (lanes (ix2 b i)) (Scalar.subi (BitVec.ofNat 32 d) (BitVec.ofNat 32 255))))
        (IntOp.cmpi .sge (lanes (ix2 b i)) (Scalar.subi (BitVec.ofNat 32 d) (BitVec.ofNat 32 254))))
      (Ideal.exp (min (shapeCast S32x256 rn1 shapeCasts_S1x32x256_S32x256 (ix2 b i) - shapeCast S32x256 rc shapeCasts_S1x32x256_S32x256 (ix2 b i)
          - (ts (ix2 b i) - p.2.2.1 (ix2 b i)) * (ts (ix2 b i) - p.2.2.1 (ix2 b i)))
          (Ideal.ofBits .f32 0x00000000#32) * Ideal.ofBits .f32 0x42C80000#32) * p.1 (ix2 b i))
      (Ideal.ofBits .f32 0x00000000#32)
    + Scalar.select (IntOp.andi (IntOp.andi (IntOp.andi (IntOp.cmpi .sle (lanes (ix2 b i)) (BitVec.ofNat 32 d))
        (IntOp.cmpi .sge (lanes (ix2 b i)) (Scalar.subi (BitVec.ofNat 32 d) (BitVec.ofNat 32 255))))
        (IntOp.cmpi .slt (lanes (ix2 b i)) (BitVec.ofNat 32 255)))
        (IntOp.cmpi .sge (lanes (ix2 b i)) (Scalar.subi (BitVec.ofNat 32 d) (BitVec.ofNat 32 254))))
      (Ideal.exp (min (concatenate S32x256 1 [⟨S32x255, extractStridedSlice S32x255 ![0, 1] (shapeCast S32x256 rn2 shapeCasts_S1x32x256_S32x256) slices_S32x256_o0_1_S32x255⟩,
          ⟨S32x1, extractStridedSlice S32x1 ![0, 0] (shapeCast S32x256 rn2 shapeCasts_S1x32x256_S32x256) slices_S32x256_o0_0_S32x1⟩] concatenates_S32x255_S32x1_S32x256_d1 (ix2 b i)
          - shapeCast S32x256 rc shapeCasts_S1x32x256_S32x256 (ix2 b i)
          - (tsh (ix2 b i) - p.2.2.1 (ix2 b i)) * (tsh (ix2 b i) - p.2.2.1 (ix2 b i)))
          (Ideal.ofBits .f32 0x00000000#32) * Ideal.ofBits .f32 0x42C80000#32) * p.2.1 (ix2 b i))
      (Ideal.ofBits .f32 0x00000000#32) = _
  rw [hw, lanes_apply, sle_word _ _ (by omega) (by omega), sge_word _ _ _ (by omega) (by omega) (by omega),
    sge_word _ _ _ (by omega) (by omega) (by omega), slt_word _ _ (by omega) (by omega)]
  simp only [andi_ofBool, select_ofBool, bits_hundred, Ideal.ofBits_zero_f32, Bool.and_eq_true, decide_eq_true_eq]
  congr 1
  · congr 1
    · by_cases h : (i.val ≤ d ∧ d ≤ i.val + 255) ∧ i.val < 255
      · rw [if_pos h, dif_pos h, shiftDown_apply _ b i h.2, dropOne_apply, dropOne_apply]; rfl
      · rw [if_neg h, dif_neg h]
    · by_cases h : (i.val ≤ d ∧ d ≤ i.val + 255) ∧ d ≤ i.val + 254
      · rw [if_pos h, if_pos h, dropOne_apply, dropOne_apply]; rfl
      · rw [if_neg h, if_neg h]
  · by_cases h : ((i.val ≤ d ∧ d ≤ i.val + 255) ∧ i.val < 255) ∧ d ≤ i.val + 254
    · rw [if_pos h, dif_pos h, shiftDown_apply _ b i h.1.2, dropOne_apply, dropOne_apply]; rfl
    · rw [if_neg h, dif_neg h]

/-- The running temporal sum of a backward step. -/
theorem bStep_acc (ts tsh : FVec Ideal S32x256 .f32) (xw : FVec Ideal S32x768 .f32) (d : ℕ) (hd : d ≤ 509)
    (rc rn1 rn2 : Vec Ideal S1x32x256 .f32) (p : Back Ideal) (b : Fin 32) (i : Fin 256) :
    (bStep lanes ts tsh xw (BitVec.ofNat 32 d) rc rn1 rn2 p).2.2.2 (ix3 0 b i)
      = (p.2.2.2 (ix3 0 b i) + (bStep lanes ts tsh xw (BitVec.ofNat 32 d) rc rn1 rn2 p).1 (ix2 b i)
          * ((((2 * (i.val : ℝ) - d) * (2 * (i.val : ℝ) - d) * (1 / 65536) : ℝ) : EReal)) : EReal) := by
  have hi := i.isLt
  generalize he : (bStep lanes ts tsh xw (BitVec.ofNat 32 d) rc rn1 rn2 p).1 = e
  have key : (bStep lanes ts tsh xw (BitVec.ofNat 32 d) rc rn1 rn2 p).2.2.2 = k0_pay44 lanes (BitVec.ofNat 32 d) e 2#32 p.2.2.2 := by
    rw [← he]; rfl
  rw [key]
  unfold k0_pay44
  refine (addOne_apply _ b i).trans ?_
  show shapeCast S32x256 p.2.2.2 shapeCasts_S1x32x256_S32x256 (ix2 b i)
    + e (ix2 b i) * ((((((BitVec.ofNat 32 2 * lanes (ix2 b i) - BitVec.ofNat 32 d).toInt : ℤ) : ℝ)) : EReal)
        * (((((BitVec.ofNat 32 2 * lanes (ix2 b i) - BitVec.ofNat 32 d).toInt : ℤ) : ℝ)) : EReal) * Ideal.ofBits .f32 0x37800000#32) = _
  rw [dropOne_apply, lanes_apply, bits_scale]
  have hint : (BitVec.ofNat 32 2 * BitVec.ofNat 32 i.val - BitVec.ofNat 32 d).toInt = 2 * (i.val : ℤ) - d := by
    have h1 : BitVec.ofNat 32 2 * BitVec.ofNat 32 i.val = BitVec.ofNat 32 (2 * i.val) := by
      apply BitVec.eq_of_toNat_eq; simp
    rw [h1]
    have := toInt_sub_small (2 * i.val) d (by omega) (by omega)
    push_cast at this
    exact this
  rw [hint, ← EReal.coe_mul, ← EReal.coe_mul]
  push_cast
  rfl

end Cert.KernelIdeal.Hand

end
-- ==== Proof.KerValue.lean ====
/-
  What the kernel's sweeps hold at the extended reals: on every anti-diagonal the soft-DTW values and the gradients of the
  cells that lie on it.
-/
module

public import proofs.«01_k».proof.Proof.KerStep

@[expose] public section

noncomputable section

namespace Cert.KernelIdeal.Hand

open Cert.KernelIdeal Cert.KernelIdeal.Gen Cert.SoftDtw
open Idealize.ShloMosaic Idealize.ShloMosaic.ValueIdx Idealize.ShloMosaic.WordCmp

/-- The values on anti-diagonal `d`, lane by lane: `⊤` where the lane has no cell on it. -/
def diagRow (D : ℕ → ℕ → EReal) (d i : ℕ) : EReal := if i ≤ d ∧ d ≤ i + 255 then tab D (i + 1) (d - i + 1) else ⊤

/-- The gradients on anti-diagonal `d`, lane by lane: zero where the lane has no cell on it. -/
def diagGrad (D : ℕ → ℕ → EReal) (d i : ℕ) : EReal := if i ≤ d ∧ d ≤ i + 255 then gradK D i (d - i) else 0

/-- The diagonal neighbour: the row two diagonals back, one lane up, with its border. -/
theorem diagRow_diag (D : ℕ → ℕ → EReal) (d i : ℕ) (h : i ≤ d + 1 ∧ d + 1 ≤ i + 255) :
    (if i = 0 ∨ d = 0 then ⊤ else diagRow D (d - 1) (i - 1)) = tab D i (d + 1 - i) := by
  obtain _ | i := i
  · rw [if_pos (Or.inl rfl), show d + 1 - 0 = d + 1 by omega, tab]
  · obtain h1 | h1 : d = i ∨ i + 1 ≤ d := by omega
    · subst h1
      rw [show d + 1 - (d + 1) = 0 by omega, tab]
      by_cases h0 : d = 0
      · rw [if_pos (Or.inr h0)]
      · rw [if_neg (by omega), diagRow, if_neg (by omega)]
    · rw [if_neg (by omega), diagRow, if_pos (by omega)]
      congr 1; omega

/-- The upper neighbour: the row one diagonal back, one lane up, with its border. -/
theorem diagRow_up (D : ℕ → ℕ → EReal) (d i : ℕ) (h : i ≤ d + 1 ∧ d + 1 ≤ i + 255) :
    (if i = 0 then ⊤ else diagRow D d (i - 1)) = tab D i (d + 1 - i + 1) := by
  obtain _ | i := i
  · rw [if_pos rfl, tab]
  · rw [if_neg (by omega), diagRow, if_pos (by omega)]
    congr 1; omega

/-- The left neighbour: the row one diagonal back, the same lane, with its border. -/
theorem diagRow_left (D : ℕ → ℕ → EReal) (d i : ℕ) (h : i ≤ d + 1 ∧ d + 1 ≤ i + 255) :
    diagRow D d i = tab D (i + 1) (d + 1 - i) := by
  obtain h1 | h1 : i = d + 1 ∨ i ≤ d := by omega
  · rw [diagRow, if_neg (by omega), h1, show d + 1 - (d + 1) = 0 by omega, tab]
  · rw [diagRow, if_pos (by omega)]
    congr 1; omega

variable (t : Vec Ideal S32x256 .f32) (x : Vec Ideal S32x768 .f32) (ts xs : Fin 32 → ℕ → EReal)

/-- The targets as loaded. -/
theorem pay96_apply (b : Fin 32) (i : Fin 256) : k0_pay96 t (ix2 b i) = t (ix2 b i) :=
  shapeCast_apply t _ _ _ rfl

/-- The laid-out inputs as loaded. -/
theorem pay100_apply (b : Fin 32) (i : Fin 768) : k0_pay100 x (ix2 b i) = x (ix2 b i) :=
  shapeCast_apply x _ _ _ rfl

/-- The targets moved up one lane. -/
theorem pay98_apply (b : Fin 32) (i : Fin 256) (hi : i.val < 255) : k0_pay98 t (ix2 b i) = t (ix2 b ⟨i.val + 1, by omega⟩) :=
  (shiftDown_apply (k0_pay96 t) b i hi).trans (pay96_apply t b _)

/-- Diagonal zero's row: the first cell's cost in lane zero, ⊤ elsewhere. -/
theorem pay102_apply (b : Fin 32) (i : Fin 256) : k0_pay102 t x (ix2 b i)
    = if i.val = 0 then (t (ix2 b i) - x (ix2 b ⟨i.val, by omega⟩)) * (t (ix2 b i) - x (ix2 b ⟨i.val, by omega⟩)) else (⊤ : EReal) := by
  have hi := i.isLt
  have e : extractStridedSlice S32x256 ![0, 0] (k0_pay100 x) slices_S32x768_o0_0_S32x256 (ix2 b i) = x (ix2 b ⟨i.val, by omega⟩) := by
    refine (extractStridedSlice_apply _ _ _ _ (ix2 (n0 := 32) (n1 := 768) b ⟨i.val, by omega⟩) ?_).trans (pay100_apply x b _)
    intro a; fin_cases a
    · show b.val = 0 + b.val; omega
    · show i.val = 0 + i.val; omega
  show Scalar.select (IntOp.cmpi .eq (lanes (ix2 b i)) (BitVec.ofNat 32 0))
    ((k0_pay96 t (ix2 b i) - extractStridedSlice S32x256 ![0, 0] (k0_pay100 x) slices_S32x768_o0_0_S32x256 (ix2 b i))
      * (k0_pay96 t (ix2 b i) - extractStridedSlice S32x256 ![0, 0] (k0_pay100 x) slices_S32x768_o0_0_S32x256 (ix2 b i)))
    (Named.named (F := Ideal) κ "inf" (φ := .f32) 0x4CBEBC20#32) = _
  rw [e, pay96_apply, lanes_apply, eq_word _ _ (by omega) (by omega), select_ofBool, named_inf]
  by_cases h : i.val = 0
  · simp [h]
  · simp [h]

/-- The row of borders is ⊤. -/
theorem pay106_apply (b : Fin 32) (i : Fin 256) : k0_pay106 (F := Ideal) (ix2 b i) = (⊤ : EReal) := named_inf

variable (ht : ∀ b (i : Fin 256), t (ix2 b i) = ts b i.val)
  (hx : ∀ b j, j < 256 → x (ix2 b ⟨(768 - j) % 768, Nat.mod_lt _ (by norm_num)⟩) = xs b j)

include hx in
/-- The window of diagonal d holds in lane i the sample d - i. -/
theorem window_value (d : ℕ) (b : Fin 32) (i : Fin 256) (h : i.val ≤ d ∧ d ≤ i.val + 255) :
    x (ix2 b ⟨(i.val + 768 - d) % 768, Nat.mod_lt _ (by norm_num)⟩) = xs b (d - i.val) := by
  have hi := i.isLt
  rw [← hx b (d - i.val) (by omega)]
  congr 1
  simp only [show i.val + 768 - d = 768 - (d - i.val) by omega]

include ht hx in
/-- Each forward row holds the values of its anti-diagonal. -/
theorem chunkRow_value : ∀ d, d ≤ 510 → ∀ b (i : Fin 256),
    ((chunkRow t x d).1 (ix2 b i) : EReal) = diagRow (cost (ts b) (xs b)) d i.val
    ∧ ((chunkRow t x d).2 (ix2 b i) : EReal) = if i.val = 0 ∨ d = 0 then ⊤ else diagRow (cost (ts b) (xs b)) (d - 1) (i.val - 1)
  | 0, _, b, i => by
    refine ⟨?_, ?_⟩
    · show k0_pay102 t x (ix2 b i) = _
      rw [pay102_apply]
      by_cases h : i.val = 0
      · have hxx : x (ix2 b ⟨i.val, by omega⟩) = xs b 0 := by
          rw [← hx b 0 (by norm_num)]; congr 1; simp only [h]
        rw [if_pos h, hxx, ht, h, diagRow, if_pos (by omega), tab, tab, tab, tab, sm_zero_top_top, add_zero, cost]
      · rw [if_neg h, diagRow, if_neg (by omega)]
    · rw [if_pos (Or.inr rfl)]; exact pay106_apply b i
  | d + 1, hd, b, i => by
    have hi := i.isLt
    have ih := chunkRow_value d (by omega) b
    have hup : k0_pay5 lanes (chunkRow t x d).1 (ix2 b i) = if i.val = 0 then (⊤ : EReal) else diagRow (cost (ts b) (xs b)) d (i.val - 1) := by
      rw [pay5_apply]
      by_cases h : i.val = 0
      · rw [dif_pos h, if_pos h]
      · rw [dif_neg h, if_neg h, (ih ⟨i.val - 1, by omega⟩).1]
    refine ⟨?_, ?_⟩
    · show k0_pay9 lanes (k0_pay96 t) (k0_pay100 x) (chunkRow t x d).1 (chunkRow t x d).2 (BitVec.ofNat 32 (d + 1)) (ix2 b i) = _
      rw [pay9_apply _ _ _ _ (d + 1) hd, diagRow]
      by_cases h : i.val ≤ d + 1 ∧ d + 1 ≤ i.val + 255
      · rw [if_pos h, if_pos h, pay96_apply, pay100_apply, window_value x xs hx (d + 1) b i h, hup, (ih i).1, (ih i).2, diagRow_diag _ d _ h,
          diagRow_up _ d _ h, diagRow_left _ d _ h, ht, tab, cost]
      · rw [if_neg h, if_neg h]
    · show k0_pay5 lanes (chunkRow t x d).1 (ix2 b i) = _
      rw [hup]
      by_cases h : i.val = 0
      · rw [if_pos h, if_pos (Or.inl h)]
      · rw [if_neg h, if_neg (by omega)]; rfl

include ht hx in
/-- The scratch row stored for diagonal d is that diagonal of the table. -/
theorem chunkStored_value (d : ℕ) (hd : d ≤ 510) (b : Fin 32) (i : Fin 256) :
    (chunkStored t x d (ix3 0 b i) : EReal) = diagRow (cost (ts b) (xs b)) d i.val := by
  rw [chunkStored, if_pos hd]
  exact (addOne_apply _ b i).trans (chunkRow_value t x ts xs ht hx d hd b i).1

/-- The weight of a lane in the temporal sum of an anti-diagonal. -/
def laneWeight (d i : ℕ) : EReal := (((2 * (i : ℝ) - d) * (2 * (i : ℝ) - d) * (1 / 65536) : ℝ) : EReal)

include ht hx in
/-- The backward sweep holds the gradients of its anti-diagonal and of the one after it, and the temporal sum so far. -/
theorem chunkBack_value : ∀ n, n ≤ 510 → ∀ b (i : Fin 256),
    ((chunkBack t x n).1 (ix2 b i) : EReal) = diagGrad (cost (ts b) (xs b)) (510 - n) i.val
    ∧ ((chunkBack t x n).2.1 (ix2 b i) : EReal) = (if i.val = 255 then 0 else diagGrad (cost (ts b) (xs b)) (511 - n) (i.val + 1))
    ∧ ((chunkBack t x n).2.2.1 (ix2 b i) : EReal) = x (ix2 b ⟨(i.val + 768 - (510 - n)) % 768, Nat.mod_lt _ (by norm_num)⟩)
    ∧ ((chunkBack t x n).2.2.2 (ix3 0 b i) : EReal)
      = ∑ k ∈ Finset.range n, diagGrad (cost (ts b) (xs b)) (509 - k) i.val * laneWeight (509 - k) i.val
  | 0, _, b, i => by
    have hi := i.isLt
    refine ⟨?_, ?_, ?_, ?_⟩
    · show Scalar.select (IntOp.cmpi .eq (lanes (ix2 b i)) (BitVec.ofNat 32 255)) (Ideal.ofBits .f32 0x3F800000#32) (Ideal.ofBits .f32 0x00000000#32) = _
      rw [lanes_apply, eq_word _ _ (by omega) (by omega), select_ofBool, Ideal.ofBits_zero_f32, Ideal.ofBits_one_f32, diagGrad]
      by_cases h : i.val = 255
      · rw [if_pos (show i.val ≤ 510 - 0 ∧ 510 - 0 ≤ i.val + 255 by omega), h, gradK, grad_eq]; simp
      · rw [if_neg (show ¬(i.val ≤ 510 - 0 ∧ 510 - 0 ≤ i.val + 255) by omega)]; simp [h]
    · show Ideal.ofBits .f32 0x00000000#32 = _
      rw [Ideal.ofBits_zero_f32]
      by_cases h : i.val = 255
      · rw [if_pos h]
      · rw [if_neg h, diagGrad, if_neg (by omega)]
    · exact (window_apply (k0_pay100 x) 510 (by norm_num) b i).trans (pay100_apply x b _)
    · rw [Finset.range_zero, Finset.sum_empty]
      exact (addOne_apply (k0_pay112 (F := Ideal)) b i).trans Ideal.ofBits_zero_f32
  | n + 1, hn, b, i => by
    have hi := i.isLt
    have ih := chunkBack_value n (by omega) b
    have hd : 509 - n ≤ 509 := by omega
    have e1 : 510 - (n + 1) = 509 - n := by omega
    have e2 : 511 - (n + 1) = 510 - n := by omega
    rw [e1, e2]
    have h41 : k0_pay41 lanes (chunkBack t x n).1 (ix2 b i) = if i.val = 255 then (0 : EReal) else diagGrad (cost (ts b) (xs b)) (510 - n) (i.val + 1) := by
      rw [pay41_apply]
      by_cases h : i.val = 255
      · rw [dif_pos h, if_pos h]
      · rw [dif_neg h, if_neg h, (ih ⟨i.val + 1, by omega⟩).1]
    have hnew : ((chunkBack t x (n + 1)).1 (ix2 b i) : EReal) = diagGrad (cost (ts b) (xs b)) (509 - n) i.val := by
      show (bStep lanes (k0_pay96 t) (k0_pay98 t) (k0_pay100 x) (BitVec.ofNat 32 (509 - n)) (chunkStored t x (509 - n)) (chunkStored t x (510 - n))
        (chunkStored t x (511 - n)) (chunkBack t x n)).1 (ix2 b i) = _
      rw [bStep_apply _ _ _ _ hd, diagGrad]
      by_cases hv : i.val ≤ 509 - n ∧ 509 - n ≤ i.val + 255
      swap
      · rw [if_neg hv, dif_neg (fun h => hv h.1), if_neg (fun h => hv h.1), dif_neg (fun h => hv h.1.1), add_zero, add_zero]
      rw [if_pos hv, gradK, grad_eq, if_neg (show ¬(i.val = 255 ∧ 509 - n - i.val = 255) by omega), zero_add, chunkStored_value t x ts xs ht hx (509 - n) (by omega)]
      have hrc : diagRow (cost (ts b) (xs b)) (509 - n) i.val = tab (cost (ts b) (xs b)) (i.val + 1) (509 - n - i.val + 1) := by
        rw [diagRow, if_pos hv]
      rw [hrc]
      generalize hj : 509 - n - i.val = j
      congr 1
      · congr 1
        · by_cases h : i.val < 255
          · rw [dif_pos ⟨hv, h⟩, if_pos h, chunkStored_value t x ts xs ht hx (510 - n) (by omega), h41, if_neg (by omega), pay98_apply t b i h, ht,
              pay100_apply, window_value x xs hx (509 - n) b i hv, diagRow, if_pos (by show i.val + 1 ≤ 510 - n ∧ 510 - n ≤ i.val + 1 + 255; omega),
              diagGrad, if_pos (by omega), hj, upK, cost, gradK]
            simp only [show 510 - n - (i.val + 1) = j by omega]
          · rw [dif_neg (fun h' => h h'.2), if_neg h]
        · by_cases h : 509 - n ≤ i.val + 254
          · rw [if_pos ⟨hv, h⟩, if_pos (by omega), chunkStored_value t x ts xs ht hx (510 - n) (by omega), pay96_apply, ht, (ih i).2.2.1,
              window_value x xs hx (510 - n) b i (by omega), (ih i).1, diagRow, if_pos (by omega), diagGrad, if_pos (by omega), leftK, cost, gradK]
            simp only [show 510 - n - i.val = j + 1 by omega]
          · rw [if_neg (fun h' => h h'.2), if_neg (by omega)]
      · by_cases h : i.val < 255 ∧ 509 - n ≤ i.val + 254
        · rw [dif_pos ⟨⟨hv, h.1⟩, h.2⟩, if_pos (by omega), chunkStored_value t x ts xs ht hx (511 - n) (by omega), pay98_apply t b i h.1, ht, (ih i).2.2.1,
            window_value x xs hx (510 - n) b i (by omega), (ih i).2.1, if_neg (by omega), diagRow,
            if_pos (by show i.val + 1 ≤ 511 - n ∧ 511 - n ≤ i.val + 1 + 255; omega), diagGrad, if_pos (by omega), diagK, cost, gradK]
          simp only [show 510 - n - i.val = j + 1 by omega, show 511 - n - (i.val + 1) = j + 1 by omega]
        · rw [dif_neg (fun h' => h ⟨h'.1.2, h'.2⟩), if_neg (by omega)]
    refine ⟨hnew, h41, ?_, ?_⟩
    · exact (window_apply (k0_pay100 x) (509 - n) (by omega) b i).trans (pay100_apply x b _)
    · rw [Finset.sum_range_succ, ← (ih i).2.2.2, ← hnew]
      refine (bStep_acc (k0_pay96 t) (k0_pay98 t) (k0_pay100 x) (509 - n) hd (chunkStored t x (509 - n)) (chunkStored t x (510 - n))
        (chunkStored t x (511 - n)) (chunkBack t x n) b i).trans ?_
      rfl

include ht hx in
/-- The temporal sum at the end of the backward sweep. -/
theorem chunkBack_acc (b : Fin 32) (i : Fin 256) : ((chunkBack t x 510).2.2.2 (ix3 0 b i) : EReal)
    = ∑ k ∈ Finset.range 510, diagGrad (cost (ts b) (xs b)) (509 - k) i.val * laneWeight (509 - k) i.val :=
  (chunkBack_value t x ts xs ht hx 510 le_rfl b i).2.2.2

end Cert.KernelIdeal.Hand

end
-- ==== Proof.KerHost.lean ====
/-
  What the kernel's region is handed: the targets as they are, and the inputs laid out backwards, so that anti-diagonal `d`
  finds the input of column `d − i` under lane `i`.
-/
module

public import proofs.«01_k».proof.Proof.KerFrame
public import proofs.«01_k».proof.Proof.KerRoll
public import Idealize.ShloMosaic.Lib.Routing.OpsSet
public import Idealize.ShloMosaic.Lib.StableHlo.RunRead

@[expose] public section

noncomputable section

namespace Cert.KernelIdeal.Hand

open Cert.KernelIdeal Cert.KernelIdeal.Gen
open Idealize.ShloMosaic hiding ix2 ix3
open Idealize.ShloMosaic.ValueIdx Idealize.ShloMosaic.WordCmp

/-- Where the padded row takes element `(b, k)` of the reversed inputs: column `255 + k`. -/
theorem lands_at (idx : IVec S1 32) (hidx : ∀ i, idx i = 255#32) (k : S64x256.Idx) (b : Fin 64) (c : Fin 768) :
    scatter_S64x768_S1_S64x256_01_n_1_0.resultIdx? k idx = some (ix2 b c) ↔ (k 0).val = b.val ∧ 255 + (k 1).val = c.val := by
  have e := Routing.resultIdx?_ix2 (R := 64) (C := 768) scatter_S64x768_S1_S64x256_01_n_1_0 k idx b c
  refine e.trans ?_
  have hs0 : scatter_S64x768_S1_S64x256_01_n_1_0.start k idx 0 = 0 := rfl
  have hs1 : scatter_S64x768_S1_S64x256_01_n_1_0.start k idx 1 = 255 := by
    unfold ScatterDims.start
    rw [dif_pos (by decide), hidx]; rfl
  have hw0 : scatter_S64x768_S1_S64x256_01_n_1_0.window k 0 = (k 0).val := rfl
  have hw1 : scatter_S64x768_S1_S64x256_01_n_1_0.window k 1 = (k 1).val := rfl
  rw [hs0, hs1, hw0, hw1]
  omega

/-- The reversed inputs in a padded row. -/
def padded {α : Type} (z : S64x768.Idx → α) (a : S64x256x1.Idx → α) : S64x768.Idx → α :=
  Host.scatter scatter_S64x768_S1_S64x256_01_n_1_0 (fun _ b => b) z (broadcastInDim S1 ![] bcast_S_S1 (constantI S_ 32 255#32))
    (Host.reverse [1] (shapeCast S64x256 a shapeCasts_S64x256x1_S64x256))

/-- The region's inputs over the argument `a`: the padded row rolled by 510 columns. -/
def laidOut {α : Type} (z : S64x768.Idx → α) (a : S64x256x1.Idx → α) : S64x768.Idx → α :=
  concatenate S64x768 1
    [⟨S64x258, extractStridedSlice S64x258 ![0, 510] (padded z a) slices_S64x768_S64x258_0_510⟩,
     ⟨S64x510, extractStridedSlice S64x510 ![0, 0] (padded z a) slices_S64x768_S64x510_0_0⟩] concatenates_S64x258_S64x510_S64x768_d1

/-- An argument without its last axis. -/
theorem dropLast_apply {α : Type} (a : S64x256x1.Idx → α) (b : Fin 64) (i : Fin 256) :
    shapeCast S64x256 a shapeCasts_S64x256x1_S64x256 (ix2 b i) = a (ix3 b i 0) := by
  refine shapeCast_apply a _ _ (ix3 (n0 := 64) (n1 := 256) (n2 := 1) b i 0) ?_
  refine (Shape.rowMajor_val_three (d := ![64, 256, 1]) _).trans (Eq.trans ?_ (Shape.rowMajor_val_two (d := ![64, 256]) _).symm)
  show (b.val * 256 + i.val) * 1 + 0 = b.val * 256 + i.val
  omega

/-- The padded row at column `510 − j`: input `j`. -/
theorem padded_apply {α : Type} (z : S64x768.Idx → α) (a : S64x256x1.Idx → α) (b : Fin 64) (j : ℕ) (hj : j < 256) :
    padded z a (ix2 b ⟨510 - j, by omega⟩) = a (ix3 b ⟨j, hj⟩ 0) := by
  have hrev : ∀ k : S64x256.Idx, (k 0).val = b.val → 255 + (k 1).val = 510 - j →
      Host.reverse [1] (shapeCast S64x256 a shapeCasts_S64x256x1_S64x256) k = a (ix3 b ⟨j, hj⟩ 0) := fun k h0 h1 => by
    have e : (fun x => if x ∈ ([1] : List (Fin S64x256.rank)) then (k x).rev else k x) = ix2 (n0 := 64) (n1 := 256) b ⟨j, hj⟩ := by
      funext x; fin_cases x
      · exact Fin.ext h0
      · refine Fin.ext ?_
        show 256 - ((k 1).val + 1) = j
        omega
    exact (congrArg (shapeCast S64x256 a shapeCasts_S64x256x1_S64x256) e).trans (dropLast_apply a b ⟨j, hj⟩)
  refine Routing.scatter_set_hit _ _ _ _ _ _ (fun k hk => ?_) (ix2 (n0 := 64) (n1 := 256) b ⟨255 - j, by omega⟩) ?_
  · have h := (lands_at _ (fun _ => rfl) k b ⟨510 - j, by omega⟩).1 hk
    exact hrev k h.1 h.2
  · refine (lands_at _ (fun _ => rfl) _ b ⟨510 - j, by omega⟩).2 ⟨rfl, ?_⟩
    show 255 + (255 - j) = 510 - j
    omega

/-- The input laid out for the windows: sample j of a batch lies j places before the row's end, cyclically. -/
theorem laidOut_apply {α : Type} (z : S64x768.Idx → α) (a : S64x256x1.Idx → α) (b : Fin 64) (j : ℕ) (hj : j < 256) :
    laidOut z a (ix2 b ⟨(768 - j) % 768, Nat.mod_lt _ (by norm_num)⟩) = a (ix3 b ⟨j, hj⟩ 0) := by
  unfold laidOut
  by_cases h : j = 0
  · refine (concatenate_pair_apply_left (t := S64x768) (s₁ := S64x258) (s₂ := S64x510) 1 _ _ _ _ rfl (ix2 (n0 := 64) (n1 := 258) b ⟨0, by norm_num⟩) ?_).trans ?_
    · intro x; subst h; fin_cases x <;> rfl
    · refine (extractStridedSlice_apply _ _ _ _ (ix2 (n0 := 64) (n1 := 768) b ⟨510 - j, by omega⟩) ?_).trans (padded_apply z a b j hj)
      intro x; subst h; fin_cases x
      · show b.val = 0 + b.val; omega
      · rfl
  · refine (concatenate_pair_apply_right (t := S64x768) (s₁ := S64x258) (s₂ := S64x510) 1 _ _ _ _ rfl rfl (ix2 (n0 := 64) (n1 := 510) b ⟨510 - j, by omega⟩) ?_ ?_).trans ?_
    · intro x hx; fin_cases x
      · rfl
      · exact absurd rfl hx
    · show 510 - j + 258 = (768 - j) % 768
      omega
    · refine (extractStridedSlice_apply _ _ _ _ (ix2 (n0 := 64) (n1 := 768) b ⟨510 - j, by omega⟩) ?_).trans (padded_apply z a b j hj)
      intro x; fin_cases x
      · show b.val = 0 + b.val; omega
      · show 510 - j = 0 + (510 - j); omega

variable (m : (l : Loc nD τ sig) → Buf (Elt Ideal) l)

/-- The region's targets. -/
theorem regT_apply (c : Dev nD) (b : Fin 64) (i : Fin 256) :
    regT m c (ix2 b i) = (m ((c.tc : Thread nD τ).loc main_arg1) : S64x256x1.Idx → EReal) (ix3 b i 0) := by
  refine Eq.trans ?_ (dropLast_apply (m ((c.tc : Thread nD τ).loc main_arg1) : S64x256x1.Idx → EReal) b i)
  refine congrFun (?_ : regT m c = _) _
  unfold regT V V0
  simp only [hostOps0, List.flatten_cons, List.flatten_nil, List.append_nil]
  after_reads_simp
  rfl

/-- The region's inputs. -/
theorem regX_apply (c : Dev nD) (b : Fin 64) (j : ℕ) (hj : j < 256) :
    regX m c (ix2 b ⟨(768 - j) % 768, Nat.mod_lt _ (by norm_num)⟩) = (m ((c.tc : Thread nD τ).loc main_arg0) : S64x256x1.Idx → EReal) (ix3 b ⟨j, hj⟩ 0) := by
  refine Eq.trans ?_ (laidOut_apply (broadcastInDim S64x768 ![] bcast_S_S64x768 (constant (F := Ideal) S_ .f32 0x00000000#32)) (m ((c.tc : Thread nD τ).loc main_arg0) : S64x256x1.Idx → EReal) b j hj)
  refine congrFun (?_ : regX m c = _) _
  unfold regX V V0
  rw [List.flatten_cons, List.flatten_nil, List.append_nil, ← List.take_append_drop 10 (hostOps0 : List (HloOp τ sig (Elt Ideal))), StableHlo.after_append]
  have e0 : StableHlo.after (List.take 10 hostOps0) (fun b => m (c, b)) (Proc.devRef .tc main_call0_call0_v0)
      = extractStridedSlice S64x258 ![0, 510] (padded (broadcastInDim S64x768 ![] bcast_S_S64x768 (constant (F := Ideal) S_ .f32 0x00000000#32)) (m ((c.tc : Thread nD τ).loc main_arg0) : S64x256x1.Idx → EReal)) slices_S64x768_S64x258_0_510 := by
    simp only [hostOps0, List.take]
    after_reads_simp
    simp -implicitDefEqProofs only [StableHlo.TRef.toBuf, StableHlo.TRef.ofBuf, cast_cast, cast_eq]
    unfold padded
    rfl
  have e1 : StableHlo.after (List.take 10 hostOps0) (fun b => m (c, b)) (Proc.devRef .tc main_call0_call0_v1)
      = extractStridedSlice S64x510 ![0, 0] (padded (broadcastInDim S64x768 ![] bcast_S_S64x768 (constant (F := Ideal) S_ .f32 0x00000000#32)) (m ((c.tc : Thread nD τ).loc main_arg0) : S64x256x1.Idx → EReal)) slices_S64x768_S64x510_0_0 := by
    simp only [hostOps0, List.take]
    after_reads_simp
    simp -implicitDefEqProofs only [StableHlo.TRef.toBuf, StableHlo.TRef.ofBuf, cast_cast, cast_eq]
    unfold padded
    rfl
  generalize StableHlo.after (List.take 10 hostOps0) (fun b => m (c, b)) = W at *
  have e2 : StableHlo.after (List.drop 10 hostOps0) W (Proc.devRef .tc main_call0_v6)
      = concatenate S64x768 1 [⟨S64x258, (W (Proc.devRef .tc main_call0_call0_v0) : S64x258.Idx → EReal)⟩, ⟨S64x510, (W (Proc.devRef .tc main_call0_call0_v1) : S64x510.Idx → EReal)⟩] concatenates_S64x258_S64x510_S64x768_d1 := by
    simp only [hostOps0, List.drop]
    after_reads_simp
    rfl
  exact e2.trans (by rw [e0, e1]; rfl)

end Cert.KernelIdeal.Hand

end
-- ==== Proof.Loss.lean ====
/-
  The loss of a batch of sequences at the extended reals: half the mean of the soft-DTW values plus half the mean of the
  weighted gradients. It is the same with the kernel's gradients as with the reference's.
-/
module

public import proofs.«01_k».proof.Proof.SoftDtw
public import Idealize.ShloMosaic.Lib.ValueIdxCore

@[expose] public section

noncomputable section

namespace Cert.SoftDtw

open Idealize.ShloMosaic
open Idealize.ShloMosaic.ValueIdx (ix3)

/-- The weight of a cell in the temporal sum: its squared distance from the main diagonal over the squared length. -/
def weight (i j : ℕ) : EReal := ((((i : ℝ) - j) * ((i : ℝ) - j) * (1 / 65536) : ℝ) : EReal)

/-- A batch's sequence in an argument. -/
def seq (a : (⟨3, ![64, 256, 1]⟩ : Shape).Idx → EReal) (b : Fin 64) (i : ℕ) : EReal := if h : i < 256 then a (ix3 b ⟨i, h⟩ 0) else 0

/-- A sequence at a place inside it. -/
theorem seq_of_lt (a : (⟨3, ![64, 256, 1]⟩ : Shape).Idx → EReal) (b : Fin 64) (i : ℕ) (h : i < 256) : seq a b i = a (ix3 b ⟨i, h⟩ 0) := dif_pos h

/-- The sum of the batches' soft-DTW values. -/
def shapeSum (D : Fin 64 → ℕ → ℕ → EReal) : EReal := ∑ b, tab (D b) 256 256

/-- The sum of all cells' weighted gradients. -/
def timeSum (G : Fin 64 → ℕ → ℕ → EReal) : EReal := ∑ b, ∑ i ∈ Finset.range 256, ∑ j ∈ Finset.range 256, G b i j * weight i j

/-- The loss of both sums. -/
def loss (A B : EReal) : EReal :=
  Ideal.ofBits .f32 0x3F000000#32 * Ideal.div A (Ideal.ofBits .f32 0x42800000#32) + Ideal.ofBits .f32 0x3F000000#32 * Ideal.div B (Ideal.ofBits .f32 0x42800000#32)

/-- The literal for one half. -/
theorem ofBits_half : Ideal.ofBits .f32 0x3F000000#32 = ((1 / 2 : ℝ) : EReal) := by
  simp [Ideal.ofBits, Ideal.ieee, -EReal.coe_mul]; norm_num

/-- The literal for the number of batches. -/
theorem ofBits_batch : Ideal.ofBits .f32 0x42800000#32 = ((64 : ℝ) : EReal) := by
  simp [Ideal.ofBits, Ideal.ieee, -EReal.coe_mul]; norm_num

/-- The weights are not negative. -/
theorem weight_nonneg (i j : ℕ) : 0 ≤ weight i j :=
  EReal.coe_nonneg.2 (mul_nonneg (mul_self_nonneg _) (by norm_num))

/-- The temporal sum of gradients that are not negative is not negative. -/
theorem timeSum_nonneg (G : Fin 64 → ℕ → ℕ → EReal) (h : ∀ b i j, 0 ≤ G b i j) : 0 ≤ timeSum G :=
  Finset.sum_nonneg fun b _ => Finset.sum_nonneg fun i _ => Finset.sum_nonneg fun j _ => mul_nonneg (h b i j) (weight_nonneg i j)

/-- Dividing by the number of batches multiplies by its inverse. -/
theorem div_batch (B : EReal) : Ideal.div B (Ideal.ofBits .f32 0x42800000#32) = B * ((1 / 64 : ℝ) : EReal) := by
  rw [ofBits_batch, Ideal.div, if_neg (by simp), ← EReal.coe_inv]
  norm_num

/-- A loss whose first sum is infinite is infinite. -/
theorem loss_top (B : EReal) (h : 0 ≤ B) : loss ⊤ B = ⊤ := by
  rw [loss, div_batch, div_batch, ofBits_half, EReal.top_mul_coe_of_pos (by norm_num), EReal.coe_mul_top_of_pos (by norm_num)]
  refine EReal.top_add_of_ne_bot fun e => ?_
  have hB : 0 ≤ ((1 / 2 : ℝ) : EReal) * (B * ((1 / 64 : ℝ) : EReal)) :=
    mul_nonneg (EReal.coe_nonneg.2 (by norm_num)) (mul_nonneg h (EReal.coe_nonneg.2 (by norm_num)))
  rw [e] at hB
  exact absurd hB (by simp)

/-- A sum of terms none of which is ⊥ is not ⊥. -/
theorem sum_ne_bot {ι : Type*} (s : Finset ι) (f : ι → EReal) (h : ∀ i ∈ s, f i ≠ ⊥) : ∑ i ∈ s, f i ≠ ⊥ := by
  classical
  induction s using Finset.induction_on with
  | empty => simp
  | insert a s ha ih =>
    rw [Finset.sum_insert ha]
    exact EReal.add_ne_bot_iff.2 ⟨h a (Finset.mem_insert_self a s), ih fun i hi => h i (Finset.mem_insert_of_mem hi)⟩

/-- One infinite soft-DTW value makes their sum infinite. -/
theorem shapeSum_top (D : Fin 64 → ℕ → ℕ → EReal) (hD : ∀ b i j, D b i j ≠ ⊥) (b : Fin 64) (hb : tab (D b) 256 256 = ⊤) : shapeSum D = ⊤ := by
  rw [shapeSum, ← Finset.add_sum_erase _ _ (Finset.mem_univ b), hb]
  exact EReal.top_add_of_ne_bot (sum_ne_bot _ _ fun i _ => tab_ne_bot (D i) (hD i) 256 256)

/-- The loss is the same with either gradient. -/
theorem loss_eq (t x : Fin 64 → ℕ → EReal) (ht : ∀ b i, 256 ≤ i → t b i = 0) (hx : ∀ b j, 256 ≤ j → x b j = 0) :
    loss (shapeSum fun b => cost (t b) (x b)) (timeSum fun b => gradK (cost (t b) (x b)))
      = loss (shapeSum fun b => cost (t b) (x b)) (timeSum fun b => gradR (cost (t b) (x b))) := by
  by_cases h : ∀ b, (∀ i, ∃ r : ℝ, t b i = r) ∧ ∀ j, ∃ r : ℝ, x b j = r
  · have e : (fun b => gradK (cost (t b) (x b))) = fun b => gradR (cost (t b) (x b)) := by
      funext b i j
      exact (gradK_eq_gradR _ (cost_real _ _ (h b).1 (h b).2) i j).1
    rw [e]
  · have htop : shapeSum (fun b => cost (t b) (x b)) = ⊤ := by
      push Not at h
      obtain ⟨b, hb⟩ := h
      refine shapeSum_top _ (fun b i j => cost_ne_bot _ _ i j) b ?_
      by_cases h1 : ∀ i, ∃ r : ℝ, t b i = r
      · obtain ⟨j, hj⟩ := hb h1
        have hlt : j < 256 := by
          by_contra hn
          exact hj 0 (by rw [hx b j (by omega)]; rfl)
        exact tab_col_top _ (fun i j => cost_ne_bot _ _ i j) j (cost_col _ _ j hj) 255 (by omega) 255
      · push Not at h1
        obtain ⟨i, hi⟩ := h1
        have hlt : i < 256 := by
          by_contra hn
          exact hi 0 (by rw [ht b i (by omega)]; rfl)
        exact tab_row_top _ (fun i j => cost_ne_bot _ _ i j) i (cost_row _ _ i hi) 255 (by omega) 255
    rw [htop, loss_top _ (timeSum_nonneg _ fun b i j => gradK_nonneg _ i j), loss_top _ (timeSum_nonneg _ fun b i j => gradR_nonneg _ i j)]

/-- A sequence outside its places is zero. -/
theorem seq_out (a : (⟨3, ![64, 256, 1]⟩ : Shape).Idx → EReal) (b : Fin 64) (i : ℕ) (h : 256 ≤ i) : seq a b i = 0 := dif_neg (by omega)

end Cert.SoftDtw

end
-- ==== Proof.KerSums.lean ====
/-
  The kernel's result at the extended reals: the loss of the soft-DTW values and of the gradients, summed over all batches.
-/
module

public import proofs.«01_k».proof.Proof.KerValue
public import proofs.«01_k».proof.Proof.KerHost
public import proofs.«01_k».proof.Proof.Loss
public import Idealize.ShloMosaic.Lib.Pointwise.Reduce

@[expose] public section

noncomputable section

namespace Cert.KernelIdeal.Hand

open Cert.KernelIdeal Cert.KernelIdeal.Gen Cert.SoftDtw
open Idealize.ShloMosaic hiding ix2 ix3
open Idealize.ShloMosaic.ValueIdx Idealize.ShloMosaic.WordCmp

/-- A lane's sum over the anti-diagonals is its sum over the cells of its row. -/
theorem lane_sum (D : ℕ → ℕ → EReal) (i : ℕ) (hi : i < 256) :
    ∑ k ∈ Finset.range 510, diagGrad D (509 - k) i * laneWeight (509 - k) i = ∑ j ∈ Finset.range 256, gradK D i j * weight i j := by
  have h1 := Finset.sum_range_reflect (fun d => diagGrad D d i * laneWeight d i) 510
  have h2 : ∑ k ∈ Finset.range 510, diagGrad D (509 - k) i * laneWeight (509 - k) i = ∑ d ∈ Finset.range 511, diagGrad D d i * laneWeight d i := by
    refine h1.trans ?_
    rw [Finset.sum_range_succ _ 510]
    have h0 : diagGrad D 510 i * laneWeight 510 i = 0 := by
      by_cases h : i = 255
      · have hw : laneWeight 510 i = 0 := by
          rw [h, laneWeight, ← EReal.coe_zero]; congr 1; norm_num
        rw [hw, mul_zero]
      · rw [diagGrad, if_neg (by omega), zero_mul]
    rw [h0, add_zero]
  rw [h2, ← Finset.sum_subset (s₁ := Finset.Ico i (i + 256)) (fun d hd => Finset.mem_range.2 (by have := (Finset.mem_Ico.1 hd).2; omega))
    (fun d _ hd => by
      have hn : ¬(i ≤ d ∧ d ≤ i + 255) := fun h => hd (Finset.mem_Ico.2 (by omega))
      rw [diagGrad, if_neg hn, zero_mul])]
  rw [Finset.sum_Ico_eq_sum_range, Nat.add_sub_cancel_left]
  refine Finset.sum_congr rfl fun j hj => ?_
  have hj := Finset.mem_range.1 hj
  rw [diagGrad, if_pos (by omega), Nat.add_sub_cancel_left, laneWeight, weight]
  congr 2
  push_cast; ring

variable (t : Vec Ideal S32x256 .f32) (x : Vec Ideal S32x768 .f32) (ts xs : Fin 32 → ℕ → EReal)

/-- The sum of a row with a leading axis. -/
theorem total_apply (v : FVec Ideal S1x32x256 .f32) :
    extractAt ![0, 0, 0] (shapeCast S1x1x1 (multiReduction .add [1, 2] S1 v 0x00000000#32 reduces_S1x32x256_S1 (.inl rfl) rfl) shapeCasts_S1_S1x1x1) inpos_S1x1x1_p0_0_0
      = ∑ b : Fin 32, ∑ i : Fin 256, (v (ix3 0 b i) : EReal) := by
  refine (shapeCast_apply _ _ _ (ValueIdx.ix1 (n := 1) 0) rfl).trans ?_
  refine (Ideal.reduceAdd_r3_a12 reduces_S1x32x256_S1 v _).trans ?_
  refine Finset.sum_congr rfl fun b _ => Finset.sum_congr rfl fun i _ => congrArg v ?_
  funext a; fin_cases a <;> rfl

/-- The sum of a column with a leading axis. -/
theorem totalColumn_apply (v : FVec Ideal S1x32x1 .f32) :
    extractAt ![0, 0, 0] (shapeCast S1x1x1 (multiReduction .add [1, 2] S1 v 0x00000000#32 reduces_S1x32x1_S1 (.inl rfl) rfl) shapeCasts_S1_S1x1x1) inpos_S1x1x1_p0_0_0
      = ∑ b : Fin 32, (v (ix3 0 b 0) : EReal) := by
  refine (shapeCast_apply _ _ _ (ValueIdx.ix1 (n := 1) 0) rfl).trans ?_
  refine (Ideal.reduceAdd_r3_a12 reduces_S1x32x1_S1 v _).trans ?_
  refine Finset.sum_congr rfl fun b _ => ?_
  rw [Fin.sum_univ_one]
  refine congrArg v ?_
  funext a; fin_cases a <;> rfl

/-- The last lane of a row as a column. -/
theorem lastLane_apply (r : FVec Ideal S32x256 .f32) (b : Fin 32) :
    shapeCast S1x32x1 (extractStridedSlice S32x1 ![0, 255] r slices_S32x256_o0_255_S32x1) shapeCasts_S32x1_S1x32x1 (ix3 0 b 0) = r (ix2 b 255) := by
  refine (shapeCast_apply _ _ _ (ix2 (n0 := 32) (n1 := 1) b 0) ?_).trans (extractStridedSlice_apply _ _ _ _ (ix2 (n0 := 32) (n1 := 256) b 255) ?_)
  · refine (Shape.rowMajor_val_two (d := ![32, 1]) _).trans (Eq.trans ?_ (Shape.rowMajor_val_three (d := ![1, 32, 1]) _).symm)
    show b.val * 1 + 0 = (0 * 32 + b.val) * 1 + 0
    omega
  · intro a; fin_cases a
    · show b.val = 0 + b.val; omega
    · rfl

/-- The first output: the sum over both chunks' batches of the last lane. -/
theorem pay110_apply (r s : FVec Ideal S32x256 .f32) :
    (k0_pay110 r s : EReal) = ∑ b : Fin 32, (r (ix2 b 255) : EReal) + ∑ b : Fin 32, (s (ix2 b 255) : EReal) := by
  refine Eq.trans (b := (Ideal.ofBits .f32 0x00000000#32
    + extractAt ![0, 0, 0] (shapeCast S1x1x1 (multiReduction .add [1, 2] S1 (shapeCast S1x32x1 (extractStridedSlice S32x1 ![0, 255] r slices_S32x256_o0_255_S32x1) shapeCasts_S32x1_S1x32x1) 0x00000000#32 reduces_S1x32x1_S1 (.inl rfl) rfl) shapeCasts_S1_S1x1x1) inpos_S1x1x1_p0_0_0)
    + extractAt ![0, 0, 0] (shapeCast S1x1x1 (multiReduction .add [1, 2] S1 (shapeCast S1x32x1 (extractStridedSlice S32x1 ![0, 255] s slices_S32x256_o0_255_S32x1) shapeCasts_S32x1_S1x32x1) 0x00000000#32 reduces_S1x32x1_S1 (.inl rfl) rfl) shapeCasts_S1_S1x1x1) inpos_S1x1x1_p0_0_0) rfl ?_
  rw [totalColumn_apply, totalColumn_apply, Ideal.ofBits_zero_f32, zero_add]
  simp only [lastLane_apply]

/-- A row reshaped and reshaped back is the row. -/
theorem addDrop_apply (v : Vec Ideal S1x32x256 .f32) (b : Fin 32) (i : Fin 256) :
    shapeCast S1x32x256 (shapeCast S32x256 v shapeCasts_S1x32x256_S32x256) shapeCasts_S32x256_S1x32x256 (ix3 0 b i) = v (ix3 0 b i) :=
  (addOne_apply _ b i).trans (dropOne_apply v b i)

/-- The second output: the sum of all lanes of both accumulators. -/
theorem pay4_apply (r s : Vec Ideal S1x32x256 .f32) (j : S1x8x128.Idx) :
    (k0_pay4 r s j : EReal) = ∑ b : Fin 32, ∑ i : Fin 256, (r (ix3 0 b i) : EReal) + ∑ b : Fin 32, ∑ i : Fin 256, (s (ix3 0 b i) : EReal) := by
  refine Eq.trans (b := (Ideal.ofBits .f32 0x00000000#32
    + extractAt ![0, 0, 0] (shapeCast S1x1x1 (multiReduction .add [1, 2] S1 (shapeCast S1x32x256 (shapeCast S32x256 r shapeCasts_S1x32x256_S32x256) shapeCasts_S32x256_S1x32x256) 0x00000000#32 reduces_S1x32x256_S1 (.inl rfl) rfl) shapeCasts_S1_S1x1x1) inpos_S1x1x1_p0_0_0)
    + extractAt ![0, 0, 0] (shapeCast S1x1x1 (multiReduction .add [1, 2] S1 (shapeCast S1x32x256 (shapeCast S32x256 s shapeCasts_S1x32x256_S32x256) shapeCasts_S32x256_S1x32x256) 0x00000000#32 reduces_S1x32x256_S1 (.inl rfl) rfl) shapeCasts_S1_S1x1x1) inpos_S1x1x1_p0_0_0) rfl ?_
  rw [total_apply, total_apply, Ideal.ofBits_zero_f32, zero_add]
  exact congrArg₂ (· + ·) (Finset.sum_congr rfl fun b _ => Finset.sum_congr rfl fun i _ => addDrop_apply r b i)
    (Finset.sum_congr rfl fun b _ => Finset.sum_congr rfl fun i _ => addDrop_apply s b i)

section Chunk

variable (ht : ∀ b (i : Fin 256), t (ix2 b i) = ts b i.val)
  (hx : ∀ b j, j < 256 → x (ix2 b ⟨(768 - j) % 768, Nat.mod_lt _ (by norm_num)⟩) = xs b j)

include ht hx

/-- A batch's soft-DTW value stands in the last lane of the last forward row. -/
theorem chunk_end (b : Fin 32) : ((chunkRow t x 510).1 (ix2 b 255) : EReal) = tab (cost (ts b) (xs b)) 256 256 := by
  rw [(chunkRow_value t x ts xs ht hx 510 (by norm_num) b 255).1, diagRow]
  exact if_pos (by decide)

/-- A chunk's temporal sum. -/
theorem chunk_time : ∑ b : Fin 32, ∑ i : Fin 256, ((chunkBack t x 510).2.2.2 (ix3 0 b i) : EReal)
    = ∑ b : Fin 32, ∑ i ∈ Finset.range 256, ∑ j ∈ Finset.range 256, gradK (cost (ts b) (xs b)) i j * weight i j := by
  refine Finset.sum_congr rfl fun b _ => ?_
  rw [← Fin.sum_univ_eq_sum_range (fun i => ∑ j ∈ Finset.range 256, gradK (cost (ts b) (xs b)) i j * weight i j)]
  refine Finset.sum_congr rfl fun i _ => ?_
  rw [chunkBack_acc t x ts xs ht hx b i, lane_sum _ _ i.isLt]

end Chunk

variable (m : (l : Loc nD τ sig) → Buf (Elt Ideal) l)

/-- A chunk's targets and inputs. -/
theorem targets_apply (c : Dev nD) (o : ℕ) (inb : ∀ a, ![o, 0] a + S32x256.size a ≤ S64x256.size a) (b : Fin 32) (ho : b.val + o < 64) (i : Fin 256) :
    targets (regT m c) ![o, 0] inb (ix2 b i) = seq (m ((c.tc : Thread nD τ).loc main_arg1)) ⟨b.val + o, ho⟩ i.val := by
  rw [seq_of_lt _ _ _ i.isLt, ← regT_apply m c]
  refine congrArg (regT m c) ?_
  funext a; fin_cases a
  · refine Fin.ext ?_
    show o + 1 * b.val = b.val + o
    omega
  · refine Fin.ext ?_
    show 0 + 1 * i.val = i.val
    omega

/-- A chunk's part of the laid-out input holds its batches' sequences. -/
theorem inputs_apply (c : Dev nD) (o : ℕ) (inb : ∀ a, ![o, 0] a + S32x768.size a ≤ S64x768.size a) (b : Fin 32) (ho : b.val + o < 64) (j : ℕ) (hj : j < 256) :
    inputs (regX m c) ![o, 0] inb (ix2 b ⟨(768 - j) % 768, Nat.mod_lt _ (by norm_num)⟩) = seq (m ((c.tc : Thread nD τ).loc main_arg0)) ⟨b.val + o, ho⟩ j := by
  rw [seq_of_lt _ _ _ hj, ← regX_apply m c]
  refine congrArg (regX m c) ?_
  funext a; fin_cases a
  · refine Fin.ext ?_
    show o + 1 * b.val = b.val + o
    omega
  · refine Fin.ext ?_
    show 0 + 1 * ((768 - j) % 768) = (768 - j) % 768
    omega

/-- A sum over the batches is the sum over both chunks. -/
theorem sum_chunks (f : Fin 64 → EReal) :
    ∑ b, f b = ∑ b : Fin 32, f ⟨b.val + 0, by omega⟩ + ∑ b : Fin 32, f ⟨b.val + 32, by omega⟩ := by
  refine (Fin.sum_univ_add (a := 32) (b := 32) f).trans ?_
  congr 1

/-- The region's first block: the sum of the batches' soft-DTW values. -/
theorem shapeOut_apply (c : Dev nD) (j : S1x8x128.Idx) :
    (shapeOut (regT m c) (regX m c) j : EReal)
      = shapeSum fun b => cost (seq (m ((c.tc : Thread nD τ).loc main_arg1)) b) (seq (m ((c.tc : Thread nD τ).loc main_arg0)) b) := by
  rw [shapeSum, sum_chunks]
  refine Eq.trans ?_ ((pay110_apply _ _).trans (congrArg₂ (· + ·)
    (Finset.sum_congr rfl fun b _ => chunk_end _ _ _ _ (fun b i => targets_apply m c 0 inb_S64x256_S32x256_0_0 b (by omega) i) (fun b j hj => inputs_apply m c 0 inb_S64x768_S32x768_0_0 b (by omega) j hj) b)
    (Finset.sum_congr rfl fun b _ => chunk_end _ _ _ _ (fun b i => targets_apply m c 32 inb_S64x256_S32x256_32_0 b (by omega) i) (fun b j hj => inputs_apply m c 32 inb_S64x768_S32x768_32_0 b (by omega) j hj) b)))
  rfl

/-- The region's second block: the sum of all cells' weighted gradients. -/
theorem timeOut_apply (c : Dev nD) (j : S1x8x128.Idx) :
    (timeOut (regT m c) (regX m c) j : EReal)
      = timeSum fun b => gradK (cost (seq (m ((c.tc : Thread nD τ).loc main_arg1)) b) (seq (m ((c.tc : Thread nD τ).loc main_arg0)) b)) := by
  rw [timeSum, sum_chunks]
  refine Eq.trans ?_ ((pay4_apply _ _ j).trans (congrArg₂ (· + ·)
    (chunk_time _ _ _ _ (fun b i => targets_apply m c 0 inb_S64x256_S32x256_0_0 b (by omega) i) (fun b j hj => inputs_apply m c 0 inb_S64x768_S32x768_0_0 b (by omega) j hj))
    (chunk_time _ _ _ _ (fun b i => targets_apply m c 32 inb_S64x256_S32x256_32_0 b (by omega) i) (fun b j hj => inputs_apply m c 32 inb_S64x768_S32x768_32_0 b (by omega) j hj))))
  rfl

/-- The host lines behind the kernel compute the loss of the two outputs' first elements. -/
theorem resultOf_apply (a b : Vec Ideal S1x8x128 .f32) (j : S_.Idx) : (resultOf a b j : EReal) = loss (a (ix3 0 0 0)) (b (ix3 0 0 0)) := by
  have e : ∀ v : Vec Ideal S1x8x128 .f32, shapeCast S_ (extractStridedSlice S1x1x1 ![0, 0, 0] v slices_S1x8x128_S1x1x1_0_0_0) shapeCasts_S1x1x1_S_ j = v (ix3 0 0 0) := fun v => by
    refine (shapeCast_apply _ _ _ (ix3 (n0 := 1) (n1 := 1) (n2 := 1) 0 0 0) rfl).trans (extractStridedSlice_apply _ _ _ _ (ix3 (n0 := 1) (n1 := 8) (n2 := 128) 0 0 0) ?_)
    intro a; fin_cases a <;> rfl
  rw [← e a, ← e b]; rfl

/-- The kernel's result. -/
theorem result_value (c : Dev nD) (j : S_.Idx) :
    (resultOf (shapeOut (regT m c) (regX m c)) (timeOut (regT m c) (regX m c)) j : EReal)
      = loss (shapeSum fun b => cost (seq (m ((c.tc : Thread nD τ).loc main_arg1)) b) (seq (m ((c.tc : Thread nD τ).loc main_arg0)) b))
        (timeSum fun b => gradK (cost (seq (m ((c.tc : Thread nD τ).loc main_arg1)) b) (seq (m ((c.tc : Thread nD τ).loc main_arg0)) b))) := by
  rw [resultOf_apply, shapeOut_apply, timeOut_apply]

end Cert.KernelIdeal.Hand

end
-- ==== Proof.RefCells.lean ====
/-
  The reference's indexed reads and writes at an index: one cell of every batch of a table, one row of a stack, one word of a
  list of positions, each at a start that the operation is given as words.
-/
module

public import proofs.«01_k».proof.Proof.RefRun
public import proofs.«01_k».proof.Proof.SoftDtw
public import Idealize.ShloMosaic.Lib.Pointwise.ShapeOps
public import Idealize.ShloMosaic.Lib.Pointwise.Elementwise
public import Idealize.ShloMosaic.Lib.Routing.Words

@[expose] public section

set_option maxRecDepth 4096

noncomputable section

namespace Cert.ReferenceIdeal.Hand

open Cert.ReferenceIdeal Cert.ReferenceIdeal.Gen
open Idealize.ShloMosaic hiding ix1 ix2 ix3
open Idealize.ShloMosaic.ValueIdx

variable {α : Type}

/-- One cell of every batch, read at the position (p, q). -/
theorem slice_cell {n m : Nat} (x : (⟨3, ![64, n, m]⟩ : Shape).Idx → α) (start : Fin 3 → Int)
    (h : (⟨3, ![64, n, m]⟩ : Shape).Slices (fun _ => 0) ⟨3, ![64, 1, 1]⟩) (p q : Nat) (hp : p < n) (hq : q < m)
    (h0 : start 0 = 0) (h1 : start 1 = p) (h2 : start 2 = q) (b : Fin 64) :
    Host.dynamicSlice (⟨3, ![64, 1, 1]⟩ : Shape) x start h (ix3 b 0 0) = x (ix3 b ⟨p, hp⟩ ⟨q, hq⟩) := by
  rw [Host.dynamicSlice_apply]
  refine congrArg x (funext fun a => Fin.ext ?_)
  fin_cases a
  · have := Host.clampedStart_of_le (s := ⟨3, ![64, n, m]⟩) (t := ⟨3, ![64, 1, 1]⟩) h.1 start 0 0 (by simpa using h0) (by simp)
    simpa [Shape.Idx.norm_def] using this
  · have := Host.clampedStart_of_le (s := ⟨3, ![64, n, m]⟩) (t := ⟨3, ![64, 1, 1]⟩) h.1 start 1 p h1 (by simp; omega)
    simpa [Shape.Idx.norm_def] using this
  · have := Host.clampedStart_of_le (s := ⟨3, ![64, n, m]⟩) (t := ⟨3, ![64, 1, 1]⟩) h.1 start 2 q h2 (by simp; omega)
    simpa [Shape.Idx.norm_def] using this

/-- One row of a stack, read at row k. -/
theorem slice_row {n : Nat} (x : (⟨2, ![n, 64]⟩ : Shape).Idx → α) (start : Fin 2 → Int)
    (h : (⟨2, ![n, 64]⟩ : Shape).Slices (fun _ => 0) ⟨2, ![1, 64]⟩) (k : Nat) (hk : k < n)
    (h0 : start 0 = k) (h1 : start 1 = 0) (b : Fin 64) :
    Host.dynamicSlice (⟨2, ![1, 64]⟩ : Shape) x start h (ix2 0 b) = x (ix2 ⟨k, hk⟩ b) := by
  rw [Host.dynamicSlice_apply]
  refine congrArg x (funext fun a => Fin.ext ?_)
  fin_cases a
  · have := Host.clampedStart_of_le (s := ⟨2, ![n, 64]⟩) (t := ⟨2, ![1, 64]⟩) h.1 start 0 k h0 (by simp; omega)
    simpa [Shape.Idx.norm_def] using this
  · have := Host.clampedStart_of_le (s := ⟨2, ![n, 64]⟩) (t := ⟨2, ![1, 64]⟩) h.1 start 1 0 (by simpa using h1) (by simp)
    simpa [Shape.Idx.norm_def] using this

/-- One word of a list, read at place k. -/
theorem slice_word {n : Nat} (x : (⟨1, ![n]⟩ : Shape).Idx → α) (start : Fin 1 → Int)
    (h : (⟨1, ![n]⟩ : Shape).Slices (fun _ => 0) ⟨1, ![1]⟩) (k : Nat) (hk : k < n) (h0 : start 0 = k) (i : (⟨1, ![1]⟩ : Shape).Idx) :
    Host.dynamicSlice (⟨1, ![1]⟩ : Shape) x start h i = x (ix1 ⟨k, hk⟩) := by
  rw [Host.dynamicSlice_apply]
  refine congrArg x (funext fun a => Fin.ext ?_)
  fin_cases a
  have := Host.clampedStart_of_le (s := ⟨1, ![n]⟩) (t := ⟨1, ![1]⟩) h.1 start 0 k h0 (by simp; omega)
  have hi : (i 0).val < 1 := (i 0).isLt
  simp [Shape.Idx.norm_def] at this ⊢
  omega

/-- One cell of every batch, written at the position (p, q). -/
theorem update_cell {n m : Nat} (x : (⟨3, ![64, n, m]⟩ : Shape).Idx → α) (u : (⟨3, ![64, 1, 1]⟩ : Shape).Idx → α) (start : Fin 3 → Int)
    (h : (⟨3, ![64, n, m]⟩ : Shape).Slices (fun _ => 0) ⟨3, ![64, 1, 1]⟩) (p q : Nat) (hp : p < n) (hq : q < m)
    (h0 : start 0 = 0) (h1 : start 1 = p) (h2 : start 2 = q) (b : Fin 64) (i : Fin n) (j : Fin m) :
    Host.dynamicUpdateSlice x u start h (ix3 b i j) = if i.val = p ∧ j.val = q then u (ix3 b 0 0) else x (ix3 b i j) := by
  have e0 := Host.clampedStart_of_le (s := ⟨3, ![64, n, m]⟩) (t := ⟨3, ![64, 1, 1]⟩) h.1 start 0 0 (by simpa using h0) (by simp)
  have e1 := Host.clampedStart_of_le (s := ⟨3, ![64, n, m]⟩) (t := ⟨3, ![64, 1, 1]⟩) h.1 start 1 p h1 (by simp; omega)
  have e2 := Host.clampedStart_of_le (s := ⟨3, ![64, n, m]⟩) (t := ⟨3, ![64, 1, 1]⟩) h.1 start 2 q h2 (by simp; omega)
  rw [Host.dynamicUpdateSlice_apply]
  by_cases c : i.val = p ∧ j.val = q
  · rw [if_pos c, dif_pos]
    · refine congrArg u (funext fun a => Fin.ext ?_)
      fin_cases a
      · have : (b.val - Host.clampedStart (⟨3, ![64, n, m]⟩ : Shape) ⟨3, ![64, 1, 1]⟩ h.1 start 0 : Nat) = b.val := by rw [e0]; omega
        simpa [Shape.Idx.norm_def] using this
      · have : (i.val - Host.clampedStart (⟨3, ![64, n, m]⟩ : Shape) ⟨3, ![64, 1, 1]⟩ h.1 start 1 : Nat) = 0 := by rw [e1]; omega
        simpa [Shape.Idx.norm_def] using this
      · have : (j.val - Host.clampedStart (⟨3, ![64, n, m]⟩ : Shape) ⟨3, ![64, 1, 1]⟩ h.1 start 2 : Nat) = 0 := by rw [e2]; omega
        simpa [Shape.Idx.norm_def] using this
    · intro a
      fin_cases a
      · have hb := b.isLt
        have : Host.clampedStart (⟨3, ![64, n, m]⟩ : Shape) ⟨3, ![64, 1, 1]⟩ h.1 start 0 ≤ b.val ∧
          b.val < Host.clampedStart (⟨3, ![64, n, m]⟩ : Shape) ⟨3, ![64, 1, 1]⟩ h.1 start 0 + 64 := by rw [e0]; omega
        exact this
      · have : Host.clampedStart (⟨3, ![64, n, m]⟩ : Shape) ⟨3, ![64, 1, 1]⟩ h.1 start 1 ≤ i.val ∧
          i.val < Host.clampedStart (⟨3, ![64, n, m]⟩ : Shape) ⟨3, ![64, 1, 1]⟩ h.1 start 1 + 1 := by rw [e1]; omega
        exact this
      · have : Host.clampedStart (⟨3, ![64, n, m]⟩ : Shape) ⟨3, ![64, 1, 1]⟩ h.1 start 2 ≤ j.val ∧
          j.val < Host.clampedStart (⟨3, ![64, n, m]⟩ : Shape) ⟨3, ![64, 1, 1]⟩ h.1 start 2 + 1 := by rw [e2]; omega
        exact this
  · rw [if_neg c, dif_neg]
    intro k
    have k1 : Host.clampedStart (⟨3, ![64, n, m]⟩ : Shape) ⟨3, ![64, 1, 1]⟩ h.1 start 1 ≤ i.val ∧
      i.val < Host.clampedStart (⟨3, ![64, n, m]⟩ : Shape) ⟨3, ![64, 1, 1]⟩ h.1 start 1 + 1 := k 1
    have k2 : Host.clampedStart (⟨3, ![64, n, m]⟩ : Shape) ⟨3, ![64, 1, 1]⟩ h.1 start 2 ≤ j.val ∧
      j.val < Host.clampedStart (⟨3, ![64, n, m]⟩ : Shape) ⟨3, ![64, 1, 1]⟩ h.1 start 2 + 1 := k 2
    rw [e1] at k1
    rw [e2] at k2
    omega

/-- One row of a stack, written at row k. -/
theorem update_row {n : Nat} (x : (⟨2, ![n, 64]⟩ : Shape).Idx → α) (u : (⟨2, ![1, 64]⟩ : Shape).Idx → α) (start : Fin 2 → Int)
    (h : (⟨2, ![n, 64]⟩ : Shape).Slices (fun _ => 0) ⟨2, ![1, 64]⟩) (k : Nat) (hk : k < n)
    (h0 : start 0 = k) (h1 : start 1 = 0) (i : Fin n) (b : Fin 64) :
    Host.dynamicUpdateSlice x u start h (ix2 i b) = if i.val = k then u (ix2 0 b) else x (ix2 i b) := by
  have e0 := Host.clampedStart_of_le (s := ⟨2, ![n, 64]⟩) (t := ⟨2, ![1, 64]⟩) h.1 start 0 k h0 (by simp; omega)
  have e1 := Host.clampedStart_of_le (s := ⟨2, ![n, 64]⟩) (t := ⟨2, ![1, 64]⟩) h.1 start 1 0 (by simpa using h1) (by simp)
  rw [Host.dynamicUpdateSlice_apply]
  by_cases c : i.val = k
  · rw [if_pos c, dif_pos]
    · refine congrArg u (funext fun a => Fin.ext ?_)
      fin_cases a
      · have : (i.val - Host.clampedStart (⟨2, ![n, 64]⟩ : Shape) ⟨2, ![1, 64]⟩ h.1 start 0 : Nat) = 0 := by rw [e0]; omega
        simpa [Shape.Idx.norm_def] using this
      · have : (b.val - Host.clampedStart (⟨2, ![n, 64]⟩ : Shape) ⟨2, ![1, 64]⟩ h.1 start 1 : Nat) = b.val := by rw [e1]; omega
        simpa [Shape.Idx.norm_def] using this
    · intro a
      fin_cases a
      · have : Host.clampedStart (⟨2, ![n, 64]⟩ : Shape) ⟨2, ![1, 64]⟩ h.1 start 0 ≤ i.val ∧
          i.val < Host.clampedStart (⟨2, ![n, 64]⟩ : Shape) ⟨2, ![1, 64]⟩ h.1 start 0 + 1 := by rw [e0]; omega
        exact this
      · have hb := b.isLt
        have : Host.clampedStart (⟨2, ![n, 64]⟩ : Shape) ⟨2, ![1, 64]⟩ h.1 start 1 ≤ b.val ∧
          b.val < Host.clampedStart (⟨2, ![n, 64]⟩ : Shape) ⟨2, ![1, 64]⟩ h.1 start 1 + 64 := by rw [e1]; omega
        exact this
  · rw [if_neg c, dif_neg]
    intro g
    have k0 : Host.clampedStart (⟨2, ![n, 64]⟩ : Shape) ⟨2, ![1, 64]⟩ h.1 start 0 ≤ i.val ∧
      i.val < Host.clampedStart (⟨2, ![n, 64]⟩ : Shape) ⟨2, ![1, 64]⟩ h.1 start 0 + 1 := g 0
    rw [e0] at k0
    omega

/-- One word of a list, written at place k. -/
theorem update_word {n : Nat} (x : (⟨1, ![n]⟩ : Shape).Idx → α) (u : (⟨1, ![1]⟩ : Shape).Idx → α) (start : Fin 1 → Int)
    (h : (⟨1, ![n]⟩ : Shape).Slices (fun _ => 0) ⟨1, ![1]⟩) (k : Nat) (hk : k < n) (h0 : start 0 = k) (i : Fin n) :
    Host.dynamicUpdateSlice x u start h (ix1 i) = if i.val = k then u (ix1 0) else x (ix1 i) := by
  have e0 := Host.clampedStart_of_le (s := ⟨1, ![n]⟩) (t := ⟨1, ![1]⟩) h.1 start 0 k h0 (by simp; omega)
  rw [Host.dynamicUpdateSlice_apply]
  by_cases c : i.val = k
  · rw [if_pos c, dif_pos]
    · refine congrArg u (funext fun a => Fin.ext ?_)
      fin_cases a
      have : (i.val - Host.clampedStart (⟨1, ![n]⟩ : Shape) ⟨1, ![1]⟩ h.1 start 0 : Nat) = 0 := by rw [e0]; omega
      simpa [Shape.Idx.norm_def] using this
    · intro a
      fin_cases a
      have : Host.clampedStart (⟨1, ![n]⟩ : Shape) ⟨1, ![1]⟩ h.1 start 0 ≤ i.val ∧
        i.val < Host.clampedStart (⟨1, ![n]⟩ : Shape) ⟨1, ![1]⟩ h.1 start 0 + 1 := by rw [e0]; omega
      exact this
  · rw [if_neg c, dif_neg]
    intro g
    have k0 : Host.clampedStart (⟨1, ![n]⟩ : Shape) ⟨1, ![1]⟩ h.1 start 0 ≤ i.val ∧
      i.val < Host.clampedStart (⟨1, ![n]⟩ : Shape) ⟨1, ![1]⟩ h.1 start 0 + 1 := g 0
    rw [e0] at k0
    omega

/-- A scalar word that holds the natural number n. -/
def Holds (w : IVec S_ 32) (n : Nat) : Prop := w = fun _ => BitVec.ofNat 32 n

/-- The counter's word after k steps of one is k. -/
theorem iv_eq (k : Nat) : Scf.iv 0#32 1#32 k = BitVec.ofNat 32 k := by
  induction k with
  | zero => simp [Scf.iv_zero]
  | succ k ih => rw [Scf.iv_succ, ih]; simp [BitVec.ofNat_add]

/-- A word that holds a small number reads as that number. -/
theorem Holds.toInt {w : IVec S_ 32} {n : Nat} (h : Holds w n) (hn : n < 2 ^ 31) (i : S_.Idx) : (w i).toInt = (n : Int) := by
  rw [h]
  rw [BitVec.toInt_ofNat']
  simp only [Int.bmod_def]
  omega

/-- The zero word holds zero. -/
theorem Holds.zero : Holds (constantI S_ 32 0#32) 0 := rfl

/-- Adding one to the word adds one to the number. -/
theorem Holds.succ {w : IVec S_ 32} {n : Nat} (h : Holds w n) : Holds (addi w (constantI S_ 32 1#32)) (n + 1) := by
  funext i
  rw [h]
  show BitVec.ofNat 32 n + 1#32 = _
  simp [BitVec.ofNat_add]

/-- The host quotient by 256 holds the quotient. -/
theorem Holds.div {w : IVec S_ 32} {n : Nat} (h : Holds w n) (hn : n < 2 ^ 31) : Holds (Host.divsi w (constantI S_ 32 256#32)) (n / 256) := by
  funext i
  rw [h]
  exact Routing.divsi_word .host hn (by norm_num) (by norm_num)

/-- The host remainder by 256 holds the remainder. -/
theorem Holds.rem {w : IVec S_ 32} {n : Nat} (h : Holds w n) (hn : n < 2 ^ 31) : Holds (Host.remsi w (constantI S_ 32 256#32)) (n % 256) := by
  funext i
  rw [h]
  exact Routing.remsi_word .host hn (by norm_num) (by norm_num)

/-- The position that the reverse loop's trip n reads, counted from the end. -/
theorem Holds.back {w : IVec S_ 32} {n : Nat} (h : Holds w n) (hn : n < 65536) :
    Holds (subi (subi (constantI S_ 32 65536#32) w) (constantI S_ 32 1#32)) (65535 - n) := by
  funext i
  rw [h]
  show 65536#32 - BitVec.ofNat 32 n - 1#32 = BitVec.ofNat 32 (65535 - n)
  apply BitVec.eq_of_toNat_eq
  simp only [BitVec.toNat_sub, BitVec.toNat_ofNat]
  omega

/-- A table's one cell per batch, as a row over the batches. -/
theorem cell_row (x : (⟨3, ![64, 1, 1]⟩ : Shape).Idx → α) (h : S64x1x1.ShapeCasts S64) (b : Fin 64) :
    shapeCast S64 (x : S64x1x1.Idx → α) h (ix1 b) = x (ix3 b 0 0) := by
  refine shapeCast_apply x h (ix1 b) (ix3 b 0 0) ?_
  rw [Shape.rowMajor_val_three, Shape.rowMajor_val_one]
  simp

end Cert.ReferenceIdeal.Hand

end
-- ==== Proof.RefTrip.lean ====
/-
  One trip of each of the reference's loops as vectors: what it leaves in the table, in the stacks and in the lists of positions,
  from what they held before it.
-/
module

public import proofs.«01_k».proof.Proof.RefCells

@[expose] public section

set_option maxRecDepth 4096

noncomputable section

namespace Cert.ReferenceIdeal.Hand

open Cert.ReferenceIdeal Cert.ReferenceIdeal.Gen
open Idealize.ShloMosaic hiding ix1 ix2 ix3
open Idealize.ShloMosaic.TcCoe Idealize.ShloMosaic.Tactic
open Idealize.ShloMosaic.ValueIdx
open Idealize.ShloMosaic.StableHlo

variable {F : FTy → Type} [FloatOps F]

/-- The start (0, p, q). -/
def at3 (p q : IVec S_ 32) : Fin 3 → Int := fun k => ((![constantI S_ 32 0#32, p, q] : Fin 3 → IVec S_ 32) k (Shape.Idx.first h_S_)).toInt

/-- The start (k, 0). -/
def at2 (w : IVec S_ 32) : Fin 2 → Int := fun k => ((![w, constantI S_ 32 0#32] : Fin 2 → IVec S_ 32) k (Shape.Idx.first h_S_)).toInt

/-- The start k. -/
def at1 (w : IVec S_ 32) : Fin 1 → Int := fun k => ((![w] : Fin 1 → IVec S_ 32) k (Shape.Idx.first h_S_)).toInt

/-- The word one above. -/
def next (w : IVec S_ 32) : IVec S_ 32 := addi w (constantI S_ 32 1#32)

/-- The row of cell w of the square. -/
def rowOf (w : IVec S_ 32) : IVec S_ 32 := Host.divsi w (constantI S_ 32 256#32)

/-- The column of cell w of the square. -/
def colOf (w : IVec S_ 32) : IVec S_ 32 := Host.remsi w (constantI S_ 32 256#32)

/-- The distances at one cell. -/
def readD (D : S64x256x256.Idx → F .f32) (p q : IVec S_ 32) : S64.Idx → F .f32 :=
  shapeCast S64 (Host.dynamicSlice S64x1x1 D (at3 p q) sliceFits_S64x256x256_S64x1x1) shapeCasts_S64x1x1_S64

/-- The table at one cell. -/
def readR (R : S64x257x257.Idx → F .f32) (p q : IVec S_ 32) : S64.Idx → F .f32 :=
  shapeCast S64 (Host.dynamicSlice S64x1x1 R (at3 p q) sliceFits_S64x257x257_S64x1x1) shapeCasts_S64x1x1_S64

/-- The table with one cell written. -/
def writeR (R : S64x257x257.Idx → F .f32) (u : S64.Idx → F .f32) (p q : IVec S_ 32) : S64x257x257.Idx → F .f32 :=
  Host.dynamicUpdateSlice R (broadcastInDim S64x1x1 ![0] bcast_S64_S64x1x1_0 u) (at3 p q) updateFits_S64x257x257_S64x1x1

/-- Minus one hundred, one per batch. -/
def hundred : S64.Idx → F .f32 := broadcastInDim S64 ![] bcast_S_S64 (constant S_ .f32 0xC2C80000#32)

/-- The largest of the three scaled values. -/
def largest (a b c : S64.Idx → F .f32) : S64.Idx → F .f32 :=
  maximumf (maximumf (mulf a hundred) (mulf b hundred)) (mulf c hundred)

/-- The exponential of one scaled value's distance from the largest. -/
def share (a b c v : S64.Idx → F .f32) : S64.Idx → F .f32 := Host.exp (subf (mulf v hundred) (largest a b c))

/-- The sum of the three exponentials. -/
def total (a b c : S64.Idx → F .f32) : S64.Idx → F .f32 := addf (addf (share a b c a) (share a b c b)) (share a b c c)

/-- The soft minimum of the three values. -/
def softest (a b c : S64.Idx → F .f32) : S64.Idx → F .f32 := Host.divf (addf (Host.log (total a b c)) (largest a b c)) hundred

/-- A list of positions with one word written. -/
def writeW (x : S65536.Idx → BitVec 32) (u w : IVec S_ 32) : S65536.Idx → BitVec 32 :=
  Host.dynamicUpdateSlice x (broadcastInDim S1 ![] bcast_S_S1 u) (at1 w) updateFits_S65536_S1

/-- A stack with one row written. -/
def writeS (x : S65536x64.Idx → F .f32) (u : S64.Idx → F .f32) (w : IVec S_ 32) : S65536x64.Idx → F .f32 :=
  Host.dynamicUpdateSlice x (broadcastInDim S1x64 ![1] bcast_S64_S1x64_1 u) (at2 w) updateFits_S65536x64_S1x64

/-! ## What one forward trip leaves -/

/-- The distances stay. -/
theorem fwd_D (V : Valuation τ sig (Elt F)) :
    afterL fwdI (after fCond V) (Proc.devRef .tc main_v25_0) = V (Proc.devRef .tc main_v25_0) := by
  simp only [afterL_cons, afterL_nil]
  after_reads_simp [unaryIndexed_result_read, binaryIndexed_result_read]

/-- The table gets its next cell. -/
theorem fwd_R (V : Valuation τ sig (Elt F)) (w : IVec S_ 32) (hw : V (Proc.devRef .tc main_v25_2) = w)
    (D : S64x256x256.Idx → F .f32) (hD : V (Proc.devRef .tc main_v25_0) = D)
    (R : S64x257x257.Idx → F .f32) (hR : V (Proc.devRef .tc main_v25_3) = R) :
    afterL fwdI (after fCond V) (Proc.devRef .tc main_v25_3) =
      writeR R (addf (readD D (rowOf w) (colOf w)) (softest (readR R (rowOf w) (colOf w)) (readR R (rowOf w) (next (colOf w)))
        (readR R (next (rowOf w)) (colOf w)))) (next (rowOf w)) (next (colOf w)) := by
  simp only [afterL_cons, afterL_nil]
  after_reads_simp [unaryIndexed_result_read, binaryIndexed_result_read, indexContents_cons, indexContents_empty, indexContents_tref_cons, indexContents_tref_empty, TRef.ofBuf_toBuf]
  rw [hw, hD, hR]
  rfl

/-- The lists of positions get the cell's row and column and the numbers one above them. -/
theorem fwd_lists (V : Valuation τ sig (Elt F)) (w k : IVec S_ 32) (hw : V (Proc.devRef .tc main_v25_2) = w) (hk : V (Proc.devRef .tc main_v25_1) = k) :
    afterL fwdI (after fCond V) (Proc.devRef .tc main_v25_4) = writeW (V (Proc.devRef .tc main_v25_4)) (rowOf w) k ∧
    afterL fwdI (after fCond V) (Proc.devRef .tc main_v25_5) = writeW (V (Proc.devRef .tc main_v25_5)) (colOf w) k ∧
    afterL fwdI (after fCond V) (Proc.devRef .tc main_v25_6) = writeW (V (Proc.devRef .tc main_v25_6)) (next (colOf w)) k ∧
    afterL fwdI (after fCond V) (Proc.devRef .tc main_v25_7) = writeW (V (Proc.devRef .tc main_v25_7)) (next (rowOf w)) k ∧
    afterL fwdI (after fCond V) (Proc.devRef .tc main_v25_12) = writeW (V (Proc.devRef .tc main_v25_12)) (next (rowOf w)) k ∧
    afterL fwdI (after fCond V) (Proc.devRef .tc main_v25_13) = writeW (V (Proc.devRef .tc main_v25_13)) (next (colOf w)) k := by
  simp only [afterL_cons, afterL_nil]
  refine ⟨?_, ?_, ?_, ?_, ?_, ?_⟩ <;>
    (after_reads_simp [unaryIndexed_result_read, binaryIndexed_result_read, indexContents_cons, indexContents_empty, indexContents_tref_cons, indexContents_tref_empty, TRef.ofBuf_toBuf]
     rw [hw, hk]
     rfl)

/-- The stacks get the three exponentials and their sum. -/
theorem fwd_stacks (V : Valuation τ sig (Elt F)) (w k : IVec S_ 32) (hw : V (Proc.devRef .tc main_v25_2) = w) (hk : V (Proc.devRef .tc main_v25_1) = k)
    (a b c : S64.Idx → F .f32)
    (ha : readR (V (Proc.devRef .tc main_v25_3)) (rowOf w) (colOf w) = a)
    (hb : readR (V (Proc.devRef .tc main_v25_3)) (rowOf w) (next (colOf w)) = b)
    (hc : readR (V (Proc.devRef .tc main_v25_3)) (next (rowOf w)) (colOf w) = c) :
    afterL fwdI (after fCond V) (Proc.devRef .tc main_v25_8) = writeS (V (Proc.devRef .tc main_v25_8)) (share a b c a) k ∧
    afterL fwdI (after fCond V) (Proc.devRef .tc main_v25_9) = writeS (V (Proc.devRef .tc main_v25_9)) (share a b c b) k ∧
    afterL fwdI (after fCond V) (Proc.devRef .tc main_v25_10) = writeS (V (Proc.devRef .tc main_v25_10)) (share a b c c) k ∧
    afterL fwdI (after fCond V) (Proc.devRef .tc main_v25_11) = writeS (V (Proc.devRef .tc main_v25_11)) (total a b c) k := by
  subst ha hb hc hw hk
  simp only [afterL_cons, afterL_nil]
  refine ⟨?_, ?_, ?_, ?_⟩ <;>
    (after_reads_simp [unaryIndexed_result_read, binaryIndexed_result_read, indexContents_cons, indexContents_empty, indexContents_tref_cons, indexContents_tref_empty, TRef.ofBuf_toBuf]
     rfl)

/-! ## What one reverse trip leaves -/

/-- The position that a reverse trip reads. -/
def back (w : IVec S_ 32) : IVec S_ 32 := subi (subi (constantI S_ 32 65536#32) w) (constantI S_ 32 1#32)

/-- One word of a list of positions. -/
def readW (x : S65536.Idx → BitVec 32) (w : IVec S_ 32) : IVec S_ 32 :=
  shapeCast S_ (Host.dynamicSlice S1 x (at1 w) sliceFits_S65536_S1) shapeCasts_S1_S_

/-- One row of a stack. -/
def readS (x : S65536x64.Idx → F .f32) (w : IVec S_ 32) : S64.Idx → F .f32 :=
  shapeCast S64 (Host.dynamicSlice S1x64 x (at2 w) sliceFits_S65536x64_S1x64) shapeCasts_S1x64_S64

/-- The gradient at one cell: the sum of the one value read there. -/
def readE (A : S64x257x257.Idx → F .f32) (p q : IVec S_ 32) : S64.Idx → F .f32 :=
  Host.reduceAdd (Host.dynamicSlice S64x1x1 A (at3 p q) sliceFits_S64x257x257_S64x1x1) (constant S_ .f32 0x00000000#32) reducesTo_S64x1x1_S64_d1_2 h_S_

/-- The part of a gradient that goes to one neighbour. -/
def passed (E s e : S64.Idx → F .f32) : S64.Idx → F .f32 := mulf (mulf (Host.divf (Host.divf E hundred) s) e) hundred

/-- The table with one cell set to zero. -/
def clearA (A : S64x257x257.Idx → F .f32) (p q : IVec S_ 32) : S64x257x257.Idx → F .f32 :=
  Host.dynamicUpdateSlice A (broadcastInDim S64x1x1 ![] bcast_S_S64x1x1 (constant S_ .f32 0x00000000#32)) (at3 p q) updateFits_S64x257x257_S64x1x1

/-- The table that is zero but at one cell. -/
def onlyA (u : S64.Idx → F .f32) (p q : IVec S_ 32) : S64x257x257.Idx → F .f32 :=
  writeR (broadcastInDim S64x257x257 ![] bcast_S_S64x257x257 (constant S_ .f32 0x00000000#32)) u p q

/-- The square that is zero but at one cell. -/
def onlyB (u : S64.Idx → F .f32) (p q : IVec S_ 32) : S64x256x256.Idx → F .f32 :=
  Host.dynamicUpdateSlice (broadcastInDim S64x256x256 ![] bcast_S_S64x256x256 (constant S_ .f32 0x00000000#32))
    (broadcastInDim S64x1x1 ![0] bcast_S64_S64x1x1_0 u) (at3 p q) updateFits_S64x256x256_S64x1x1

/-- The lists and the stacks stay. -/
theorem rev_keeps (V : Valuation τ sig (Elt F)) :
    afterL revI (after rCond V) (Proc.devRef .tc main_v33_0) = V (Proc.devRef .tc main_v33_0) ∧
    afterL revI (after rCond V) (Proc.devRef .tc main_v33_1) = V (Proc.devRef .tc main_v33_1) ∧
    afterL revI (after rCond V) (Proc.devRef .tc main_v33_2) = V (Proc.devRef .tc main_v33_2) ∧
    afterL revI (after rCond V) (Proc.devRef .tc main_v33_3) = V (Proc.devRef .tc main_v33_3) ∧
    afterL revI (after rCond V) (Proc.devRef .tc main_v33_4) = V (Proc.devRef .tc main_v33_4) ∧
    afterL revI (after rCond V) (Proc.devRef .tc main_v33_5) = V (Proc.devRef .tc main_v33_5) ∧
    afterL revI (after rCond V) (Proc.devRef .tc main_v33_6) = V (Proc.devRef .tc main_v33_6) ∧
    afterL revI (after rCond V) (Proc.devRef .tc main_v33_7) = V (Proc.devRef .tc main_v33_7) ∧
    afterL revI (after rCond V) (Proc.devRef .tc main_v33_8) = V (Proc.devRef .tc main_v33_8) ∧
    afterL revI (after rCond V) (Proc.devRef .tc main_v33_9) = V (Proc.devRef .tc main_v33_9) := by
  simp only [afterL_cons, afterL_nil]
  refine ⟨?_, ?_, ?_, ?_, ?_, ?_, ?_, ?_, ?_, ?_⟩ <;>
    after_reads_simp [unaryIndexed_result_read, binaryIndexed_result_read]

/-- The square gets the gradient of the trip's cell. -/
theorem rev_B (V : Valuation τ sig (Elt F)) (w p q p' q' : IVec S_ 32) (hw : back (V (Proc.devRef .tc main_v33_10)) = w)
    (hp : readW (V (Proc.devRef .tc main_v33_0)) w = p) (hq : readW (V (Proc.devRef .tc main_v33_1)) w = q)
    (hp' : readW (V (Proc.devRef .tc main_v33_8)) w = p') (hq' : readW (V (Proc.devRef .tc main_v33_9)) w = q') :
    afterL revI (after rCond V) (Proc.devRef .tc main_v33_11) =
      addf (V (Proc.devRef .tc main_v33_11) : S64x256x256.Idx → F .f32) (onlyB (readE (V (Proc.devRef .tc main_v33_12)) p' q') p q) := by
  subst hp hq hp' hq' hw
  simp only [afterL_cons, afterL_nil]
  after_reads_simp [unaryIndexed_result_read, binaryIndexed_result_read, indexContents_cons, indexContents_empty, indexContents_tref_cons, indexContents_tref_empty, TRef.ofBuf_toBuf]
  rfl

/-- The table loses the trip's cell, and its three neighbours get their parts. -/
theorem rev_A (V : Valuation τ sig (Elt F)) (w p q q₁ p₁ p' q' : IVec S_ 32) (hw : back (V (Proc.devRef .tc main_v33_10)) = w)
    (hp : readW (V (Proc.devRef .tc main_v33_0)) w = p) (hq : readW (V (Proc.devRef .tc main_v33_1)) w = q)
    (hq₁ : readW (V (Proc.devRef .tc main_v33_2)) w = q₁) (hp₁ : readW (V (Proc.devRef .tc main_v33_3)) w = p₁)
    (hp' : readW (V (Proc.devRef .tc main_v33_8)) w = p') (hq' : readW (V (Proc.devRef .tc main_v33_9)) w = q')
    (E s : S64.Idx → F .f32) (hE : readE (V (Proc.devRef .tc main_v33_12)) p' q' = E) (hs : readS (V (Proc.devRef .tc main_v33_7)) w = s) :
    afterL revI (after rCond V) (Proc.devRef .tc main_v33_12) =
      addf (addf (addf (clearA (V (Proc.devRef .tc main_v33_12)) p' q')
        (onlyA (passed E s (readS (V (Proc.devRef .tc main_v33_6)) w)) p₁ q))
        (onlyA (passed E s (readS (V (Proc.devRef .tc main_v33_5)) w)) p q₁))
        (onlyA (passed E s (readS (V (Proc.devRef .tc main_v33_4)) w)) p q) := by
  subst hE hs hp hq hp₁ hq₁ hp' hq' hw
  simp only [afterL_cons, afterL_nil]
  after_reads_simp [unaryIndexed_result_read, binaryIndexed_result_read, indexContents_cons, indexContents_empty, indexContents_tref_cons, indexContents_tref_empty, TRef.ofBuf_toBuf]
  rfl

end Cert.ReferenceIdeal.Hand

end
-- ==== Proof.RefForward.lean ====
/-
  The reference's forward loop over the extended reals: after k trips the table holds the soft-DTW values of the first k cells,
  and each trip's row of the lists and stacks holds that cell's positions and weights.
-/
module

public import proofs.«01_k».proof.Proof.RefTrip

@[expose] public section

set_option maxRecDepth 4096

noncomputable section

namespace Cert.ReferenceIdeal.Hand

open Cert.ReferenceIdeal Cert.ReferenceIdeal.Gen Cert.SoftDtw
open Idealize.ShloMosaic hiding ix1 ix2 ix3
open Idealize.ShloMosaic.TcCoe
open Idealize.ShloMosaic.ValueIdx
open Idealize.ShloMosaic.StableHlo

/-! ## Reads and writes at an index -/

/-- The start on the batch axis is zero. -/
theorem at3_zero (p q : IVec S_ 32) : at3 p q 0 = 0 := rfl
/-- The start on the row axis. -/
theorem at3_one {p q : IVec S_ 32} {n : Nat} (h : Holds p n) (hn : n < 65536) : at3 p q 1 = n := h.toInt (by omega) _
/-- The start on the column axis. -/
theorem at3_two {p q : IVec S_ 32} {n : Nat} (h : Holds q n) (hn : n < 65536) : at3 p q 2 = n := h.toInt (by omega) _
/-- The start on a stack's row axis. -/
theorem at2_zero {w : IVec S_ 32} {n : Nat} (h : Holds w n) (hn : n < 65536) : at2 w 0 = n := h.toInt (by omega) _
/-- The start on a stack's batch axis is zero. -/
theorem at2_one (w : IVec S_ 32) : at2 w 1 = 0 := rfl
/-- The start in a list. -/
theorem at1_zero {w : IVec S_ 32} {n : Nat} (h : Holds w n) (hn : n < 65536) : at1 w 0 = n := h.toInt (by omega) _

section Ops
variable {F : FTy → Type} [FloatOps F]

/-- The distances read at a cell. -/
theorem readD_at (D : S64x256x256.Idx → F .f32) {p q : IVec S_ 32} {P Q : Nat} (hp : Holds p P) (hq : Holds q Q) (hP : P < 256) (hQ : Q < 256)
    (b : Fin 64) : readD D p q (ix1 b) = D (ix3 b ⟨P, hP⟩ ⟨Q, hQ⟩) :=
  (cell_row _ _ b).trans (slice_cell D _ _ P Q hP hQ (at3_zero p q) (at3_one hp (by omega)) (at3_two hq (by omega)) b)

/-- The table read at a cell. -/
theorem readR_at (R : S64x257x257.Idx → F .f32) {p q : IVec S_ 32} {P Q : Nat} (hp : Holds p P) (hq : Holds q Q) (hP : P < 257) (hQ : Q < 257)
    (b : Fin 64) : readR R p q (ix1 b) = R (ix3 b ⟨P, hP⟩ ⟨Q, hQ⟩) :=
  (cell_row _ _ b).trans (slice_cell R _ _ P Q hP hQ (at3_zero p q) (at3_one hp (by omega)) (at3_two hq (by omega)) b)

/-- One value per batch, spread as one cell per batch. -/
theorem spread_cell {α : Type} (u : S64.Idx → α) (b : Fin 64) : broadcastInDim S64x1x1 ![0] bcast_S64_S64x1x1_0 u (ix3 b 0 0) = u (ix1 b) := by
  refine congrArg u (funext fun a => ?_)
  fin_cases a; rfl

/-- The table with one cell written, at an index. -/
theorem writeR_at (R : S64x257x257.Idx → F .f32) (u : S64.Idx → F .f32) {p q : IVec S_ 32} {P Q : Nat} (hp : Holds p P) (hq : Holds q Q)
    (hP : P < 257) (hQ : Q < 257) (b : Fin 64) (i j : Fin 257) :
    writeR R u p q (ix3 b i j) = if i.val = P ∧ j.val = Q then u (ix1 b) else R (ix3 b i j) := by
  refine (update_cell R _ _ _ P Q hP hQ (at3_zero p q) (at3_one hp (by omega)) (at3_two hq (by omega)) b i j).trans ?_
  rw [← spread_cell u b]

/-- A list with one word written, at an index. -/
theorem writeW_at (x : S65536.Idx → BitVec 32) (u w : IVec S_ 32) {k : Nat} {a : BitVec 32} (hw : Holds w k) (hk : k < 65536) (hu : u = fun _ => a) (n : Fin 65536) :
    writeW x u w (ix1 n) = if n.val = k then a else x (ix1 n) := by
  refine (update_word x _ _ _ k hk (at1_zero hw hk) n).trans ?_
  rw [hu]; rfl

/-- A stack with one row written, at an index. -/
theorem writeS_at (x : S65536x64.Idx → F .f32) (u : S64.Idx → F .f32) {w : IVec S_ 32} {k : Nat} (hw : Holds w k) (hk : k < 65536) (n : Fin 65536) (b : Fin 64) :
    writeS x u w (ix2 n b) = if n.val = k then u (ix1 b) else x (ix2 n b) := by
  refine (update_row x _ _ _ k hk (at2_zero hw hk) (at2_one w) n b).trans ?_
  have : broadcastInDim S1x64 ![1] bcast_S64_S1x64_1 u (ix2 0 b) = u (ix1 b) := by
    refine congrArg u (funext fun a => ?_)
    fin_cases a; rfl
  rw [← this]

end Ops

/-- The literal for minus a hundred. -/
theorem ofBits_hundred : Ideal.ofBits .f32 0xC2C80000#32 = ((-100 : ℝ) : EReal) := by
  simp [Ideal.ofBits, Ideal.ieee, -EReal.coe_mul]; norm_num

/-- The vector of minus a hundred, at an index. -/
theorem hundred_at (i : S64.Idx) : (hundred (F := Ideal)) i = ((-100 : ℝ) : EReal) := ofBits_hundred

/-- The largest scaled value, at an index. -/
theorem largest_at (a b c : S64.Idx → Ideal .f32) (i : S64.Idx) : largest a b c i = smMax (a i) (b i) (c i) := by
  have h := hundred_at i
  show max (max (a i * hundred (F := Ideal) i) (b i * hundred (F := Ideal) i)) (c i * hundred (F := Ideal) i) = _
  rw [h]; rfl

/-- The exponential of a scaled value, at an index. -/
theorem share_at (a b c v : S64.Idx → Ideal .f32) (i : S64.Idx) : share a b c v i = smExp (a i) (b i) (c i) (v i) := by
  have h := hundred_at i
  show Ideal.exp (v i * hundred (F := Ideal) i - largest a b c i) = _
  rw [h, largest_at]; rfl

/-- The sum of the exponentials, at an index. -/
theorem total_at (a b c : S64.Idx → Ideal .f32) (i : S64.Idx) : total a b c i = smSum (a i) (b i) (c i) := by
  show share a b c a i + share a b c b i + share a b c c i = _
  rw [share_at, share_at, share_at]; rfl

/-- The soft minimum, at an index. -/
theorem softest_at (a b c : S64.Idx → Ideal .f32) (i : S64.Idx) : softest a b c i = smR (a i) (b i) (c i) := by
  have h := hundred_at i
  show Ideal.div (Ideal.log (total a b c i) + largest a b c i) (hundred (F := Ideal) i) = _
  rw [h, largest_at, total_at]; rfl

/-! ## The loop -/

/-- What holds after k trips, for distances D. -/
structure Forward (D : Fin 64 → ℕ → ℕ → EReal) (k : ℕ) (V : Valuation τ sig (Elt Ideal)) : Prop where
  ctr : Holds (V (Proc.devRef .tc main_v25_1)) k
  cell : Holds (V (Proc.devRef .tc main_v25_2)) k
  dist : ∀ b (i j : Fin 256), (V (Proc.devRef .tc main_v25_0) : S64x256x256.Idx → EReal) (ix3 b i j) = D b i j
  table : ∀ b (i j : Fin 257), (i.val = 0 ∨ j.val = 0 ∨ 256 * (i.val - 1) + (j.val - 1) < k) →
    (V (Proc.devRef .tc main_v25_3) : S64x257x257.Idx → EReal) (ix3 b i j) = tab (D b) i j
  row : ∀ n : Fin 65536, n.val < k → (V (Proc.devRef .tc main_v25_4) : S65536.Idx → BitVec 32) (ix1 n) = BitVec.ofNat 32 (n.val / 256)
  col : ∀ n : Fin 65536, n.val < k → (V (Proc.devRef .tc main_v25_5) : S65536.Idx → BitVec 32) (ix1 n) = BitVec.ofNat 32 (n.val % 256)
  col' : ∀ n : Fin 65536, n.val < k → (V (Proc.devRef .tc main_v25_6) : S65536.Idx → BitVec 32) (ix1 n) = BitVec.ofNat 32 (n.val % 256 + 1)
  row' : ∀ n : Fin 65536, n.val < k → (V (Proc.devRef .tc main_v25_7) : S65536.Idx → BitVec 32) (ix1 n) = BitVec.ofNat 32 (n.val / 256 + 1)
  diag : ∀ n : Fin 65536, n.val < k → ∀ b, (V (Proc.devRef .tc main_v25_8) : S65536x64.Idx → EReal) (ix2 n b)
    = smExp (tab (D b) (n.val / 256) (n.val % 256)) (tab (D b) (n.val / 256) (n.val % 256 + 1)) (tab (D b) (n.val / 256 + 1) (n.val % 256)) (tab (D b) (n.val / 256) (n.val % 256))
  up : ∀ n : Fin 65536, n.val < k → ∀ b, (V (Proc.devRef .tc main_v25_9) : S65536x64.Idx → EReal) (ix2 n b)
    = smExp (tab (D b) (n.val / 256) (n.val % 256)) (tab (D b) (n.val / 256) (n.val % 256 + 1)) (tab (D b) (n.val / 256 + 1) (n.val % 256)) (tab (D b) (n.val / 256) (n.val % 256 + 1))
  left : ∀ n : Fin 65536, n.val < k → ∀ b, (V (Proc.devRef .tc main_v25_10) : S65536x64.Idx → EReal) (ix2 n b)
    = smExp (tab (D b) (n.val / 256) (n.val % 256)) (tab (D b) (n.val / 256) (n.val % 256 + 1)) (tab (D b) (n.val / 256 + 1) (n.val % 256)) (tab (D b) (n.val / 256 + 1) (n.val % 256))
  sum : ∀ n : Fin 65536, n.val < k → ∀ b, (V (Proc.devRef .tc main_v25_11) : S65536x64.Idx → EReal) (ix2 n b)
    = smSum (tab (D b) (n.val / 256) (n.val % 256)) (tab (D b) (n.val / 256) (n.val % 256 + 1)) (tab (D b) (n.val / 256 + 1) (n.val % 256))
  row'' : ∀ n : Fin 65536, n.val < k → (V (Proc.devRef .tc main_v25_12) : S65536.Idx → BitVec 32) (ix1 n) = BitVec.ofNat 32 (n.val / 256 + 1)
  col'' : ∀ n : Fin 65536, n.val < k → (V (Proc.devRef .tc main_v25_13) : S65536.Idx → BitVec 32) (ix1 n) = BitVec.ofNat 32 (n.val % 256 + 1)

/-- A list whose first k words are right and that gets its word k has its first k + 1 words right. -/
theorem list_step {f : ℕ → BitVec 32} {x : S65536.Idx → BitVec 32} {u w : IVec S_ 32} {k : ℕ} (hw : Holds w k) (hk : k < 65536)
    (hu : u = fun _ => f k) (h : ∀ n : Fin 65536, n.val < k → x (ix1 n) = f n) (n : Fin 65536) (hn : n.val < k + 1) :
    writeW x u w (ix1 n) = f n := by
  rw [writeW_at x u w hw hk hu]
  split
  · next e => rw [e]
  · exact h n (by omega)

/-- A stack whose first k rows are right and that gets its row k has its first k + 1 rows right. -/
theorem stack_step {f : ℕ → Fin 64 → EReal} {x : S65536x64.Idx → Ideal .f32} {u : S64.Idx → Ideal .f32} {w : IVec S_ 32} {k : ℕ} (hw : Holds w k) (hk : k < 65536)
    (hu : ∀ b, u (ix1 b) = f k b) (h : ∀ n : Fin 65536, n.val < k → ∀ b, x (ix2 n b) = f n b) (n : Fin 65536) (hn : n.val < k + 1) (b : Fin 64) :
    writeS x u w (ix2 n b) = f n b := by
  rw [writeS_at x u hw hk]
  split
  · next e => rw [e, hu]
  · exact h n (by omega) b

/-- One trip takes what holds after k trips to what holds after k + 1. -/
theorem Forward.step {D : Fin 64 → ℕ → ℕ → EReal} (hD : ∀ b i j, D b i j ≠ ⊥) {k : ℕ} (hk : k < 65536) {V : Valuation τ sig (Elt Ideal)} (h : Forward D k V) :
    Forward D (k + 1) (afterL fwdI (after fCond V)) := by
  have hp : Holds (rowOf (V (Proc.devRef .tc main_v25_2))) (k / 256) := h.cell.div (by omega)
  have hq : Holds (colOf (V (Proc.devRef .tc main_v25_2))) (k % 256) := h.cell.rem (by omega)
  have hp' : Holds (next (rowOf (V (Proc.devRef .tc main_v25_2)))) (k / 256 + 1) := hp.succ
  have hq' : Holds (next (colOf (V (Proc.devRef .tc main_v25_2)))) (k % 256 + 1) := hq.succ
  have hP : k / 256 < 256 := by omega
  have hQ : k % 256 < 256 := by omega
  have ea : ∀ b, readR (F := Ideal) (V (Proc.devRef .tc main_v25_3)) (rowOf (V (Proc.devRef .tc main_v25_2))) (colOf (V (Proc.devRef .tc main_v25_2))) (ix1 b)
      = tab (D b) (k / 256) (k % 256) := fun b => by
    rw [readR_at _ hp hq (by omega) (by omega)]
    exact h.table b _ _ (by simp only; omega)
  have eb : ∀ b, readR (F := Ideal) (V (Proc.devRef .tc main_v25_3)) (rowOf (V (Proc.devRef .tc main_v25_2))) (next (colOf (V (Proc.devRef .tc main_v25_2)))) (ix1 b)
      = tab (D b) (k / 256) (k % 256 + 1) := fun b => by
    rw [readR_at _ hp hq' (by omega) (by omega)]
    exact h.table b _ _ (by simp only; omega)
  have ec : ∀ b, readR (F := Ideal) (V (Proc.devRef .tc main_v25_3)) (next (rowOf (V (Proc.devRef .tc main_v25_2)))) (colOf (V (Proc.devRef .tc main_v25_2))) (ix1 b)
      = tab (D b) (k / 256 + 1) (k % 256) := fun b => by
    rw [readR_at _ hp' hq (by omega) (by omega)]
    exact h.table b _ _ (by simp only; omega)
  obtain ⟨l4, l5, l6, l7, l12, l13⟩ := fwd_lists V _ _ rfl rfl
  obtain ⟨s8, s9, s10, s11⟩ := fwd_stacks V _ _ rfl rfl _ _ _ rfl rfl rfl
  refine ⟨?_, ?_, ?_, ?_, ?_, ?_, ?_, ?_, ?_, ?_, ?_, ?_, ?_, ?_⟩
  · rw [fwd_ctr]; exact h.ctr.succ
  · rw [fwd_cell]; exact h.cell.succ
  · intro b i j; rw [fwd_D]; exact h.dist b i j
  · intro b i j hij
    rw [fwd_R V _ rfl _ rfl _ rfl, writeR_at _ _ hp' hq' (by omega) (by omega)]
    split
    · next e =>
      rw [e.1, e.2, tab]
      show readD (F := Ideal) (V (Proc.devRef .tc main_v25_0)) _ _ (ix1 b) + softest _ _ _ (ix1 b) = _
      rw [readD_at _ hp hq hP hQ, softest_at, ea, eb, ec, smR_eq_sm (tab_ne_bot _ (hD b) _ _) (tab_ne_bot _ (hD b) _ _) (tab_ne_bot _ (hD b) _ _)]
      exact congrArg (· + _) (h.dist b _ _)
    · next e => exact h.table b i j (by omega)
  · rw [l4]; exact list_step (f := fun n => BitVec.ofNat 32 (n / 256)) h.ctr hk hp h.row
  · rw [l5]; exact list_step (f := fun n => BitVec.ofNat 32 (n % 256)) h.ctr hk hq h.col
  · rw [l6]; exact list_step (f := fun n => BitVec.ofNat 32 (n % 256 + 1)) h.ctr hk hq' h.col'
  · rw [l7]; exact list_step (f := fun n => BitVec.ofNat 32 (n / 256 + 1)) h.ctr hk hp' h.row'
  · rw [s8]; exact stack_step (f := fun n b => smExp (tab (D b) (n / 256) (n % 256)) (tab (D b) (n / 256) (n % 256 + 1)) (tab (D b) (n / 256 + 1) (n % 256)) (tab (D b) (n / 256) (n % 256)))
      h.ctr hk (fun b => by rw [share_at, ea, eb, ec]) h.diag
  · rw [s9]; exact stack_step (f := fun n b => smExp (tab (D b) (n / 256) (n % 256)) (tab (D b) (n / 256) (n % 256 + 1)) (tab (D b) (n / 256 + 1) (n % 256)) (tab (D b) (n / 256) (n % 256 + 1)))
      h.ctr hk (fun b => by rw [share_at, ea, eb, ec]) h.up
  · rw [s10]; exact stack_step (f := fun n b => smExp (tab (D b) (n / 256) (n % 256)) (tab (D b) (n / 256) (n % 256 + 1)) (tab (D b) (n / 256 + 1) (n % 256)) (tab (D b) (n / 256 + 1) (n % 256)))
      h.ctr hk (fun b => by rw [share_at, ea, eb, ec]) h.left
  · rw [s11]; exact stack_step (f := fun n b => smSum (tab (D b) (n / 256) (n % 256)) (tab (D b) (n / 256) (n % 256 + 1)) (tab (D b) (n / 256 + 1) (n % 256)))
      h.ctr hk (fun b => by rw [total_at, ea, eb, ec]) h.sum
  · rw [l12]; exact list_step (f := fun n => BitVec.ofNat 32 (n / 256 + 1)) h.ctr hk hp' h.row''
  · rw [l13]; exact list_step (f := fun n => BitVec.ofNat 32 (n % 256 + 1)) h.ctr hk hq' h.col''

end Cert.ReferenceIdeal.Hand

end
-- ==== Proof.RefReverse.lean ====
/-
  The reference's reverse loop over the extended reals: after n trips its table and its square are what the reverse pass over the
  cells leaves after n cells (`SoftDtw.passes`).
-/
module

public import proofs.«01_k».proof.Proof.RefForward
public import Idealize.ShloMosaic.Lib.Pointwise.Reduce

@[expose] public section

set_option maxRecDepth 4096

noncomputable section

namespace Cert.ReferenceIdeal.Hand

open Cert.ReferenceIdeal Cert.ReferenceIdeal.Gen Cert.SoftDtw
open Idealize.ShloMosaic hiding ix1 ix2 ix3
open Idealize.ShloMosaic.TcCoe
open Idealize.ShloMosaic.ValueIdx
open Idealize.ShloMosaic.StableHlo

/-! ## Reads and writes at an index -/

/-- The word read from a list holds the number that the list holds there. -/
theorem readW_holds {x : S65536.Idx → BitVec 32} {w : IVec S_ 32} {k a : ℕ} (hw : Holds w k) (hk : k < 65536)
    (h : x (ix1 ⟨k, hk⟩) = BitVec.ofNat 32 a) : Holds (readW x w) a := by
  funext i
  rw [← h]
  exact slice_word x (at1 w) sliceFits_S65536_S1 k hk (at1_zero hw hk) _

/-- The row read from a stack, at an index. -/
theorem readS_at (x : S65536x64.Idx → Ideal .f32) {w : IVec S_ 32} {k : ℕ} (hw : Holds w k) (hk : k < 65536) (b : Fin 64) :
    readS x w (ix1 b) = x (ix2 ⟨k, hk⟩ b) := by
  refine Eq.trans ?_ (slice_row x (at2 w) sliceFits_S65536x64_S1x64 k hk (at2_zero hw hk) (at2_one w) b)
  refine shapeCast_apply _ _ (ix1 b) (ix2 0 b) ?_
  rw [Shape.rowMajor_val_two, Shape.rowMajor_val_one]
  simp

/-- The gradient read at a cell. -/
theorem readE_at (A : S64x257x257.Idx → Ideal .f32) {p q : IVec S_ 32} {P Q : ℕ} (hp : Holds p P) (hq : Holds q Q) (hP : P < 257) (hQ : Q < 257)
    (b : Fin 64) : readE A p q (ix1 b) = A (ix3 b ⟨P, hP⟩ ⟨Q, hQ⟩) := by
  rw [readE, Host.reduceAdd_apply, Ideal.hostReduceAdd_def]
  refine (Ideal.hostReduceAdd_r3_a12 (n0 := 64) (n1 := 1) (n2 := 1) _ _ _ _).trans ?_
  rw [Fin.sum_univ_one, Fin.sum_univ_one]
  have e0 : (constant S_ .f32 0x00000000#32 : S_.Idx → Ideal .f32) (Shape.Idx.first h_S_) = 0 := Ideal.ofBits_zero_f32
  refine (congrArg₂ (fun x y : EReal => x + y) e0 ?_).trans (zero_add _)
  refine Eq.trans ?_ (slice_cell A (at3 p q) sliceFits_S64x257x257_S64x1x1 P Q hP hQ (at3_zero p q) (at3_one hp (by omega)) (at3_two hq (by omega)) b)
  refine congrArg _ (funext fun a => ?_)
  fin_cases a <;> rfl

/-- What is passed to a neighbour, at an index. -/
theorem passed_at (E s e : S64.Idx → Ideal .f32) (i : S64.Idx) :
    passed E s e i = Ideal.div (Ideal.div (E i) ((-100 : ℝ) : EReal)) (s i) * e i * ((-100 : ℝ) : EReal) := by
  have h := hundred_at i
  show Ideal.div (Ideal.div (E i) (hundred (F := Ideal) i)) (s i) * e i * hundred (F := Ideal) i = _
  rw [h]

/-- The table with one cell cleared, at an index. -/
theorem clearA_at (A : S64x257x257.Idx → Ideal .f32) {p q : IVec S_ 32} {P Q : ℕ} (hp : Holds p P) (hq : Holds q Q)
    (hP : P < 257) (hQ : Q < 257) (b : Fin 64) (i j : Fin 257) :
    clearA A p q (ix3 b i j) = if i.val = P ∧ j.val = Q then (0 : EReal) else A (ix3 b i j) := by
  refine (update_cell A _ _ _ P Q hP hQ (at3_zero p q) (at3_one hp (by omega)) (at3_two hq (by omega)) b i j).trans ?_
  exact if_congr Iff.rfl Ideal.ofBits_zero_f32 rfl

/-- The table that is zero but at one cell, at an index. -/
theorem onlyA_at (u : S64.Idx → Ideal .f32) {p q : IVec S_ 32} {P Q : ℕ} (hp : Holds p P) (hq : Holds q Q)
    (hP : P < 257) (hQ : Q < 257) (b : Fin 64) (i j : Fin 257) :
    onlyA u p q (ix3 b i j) = if i.val = P ∧ j.val = Q then u (ix1 b) else (0 : EReal) := by
  refine (writeR_at _ u hp hq hP hQ b i j).trans ?_
  exact if_congr Iff.rfl rfl Ideal.ofBits_zero_f32

/-- The square that is zero but at one cell, at an index. -/
theorem onlyB_at (u : S64.Idx → Ideal .f32) {p q : IVec S_ 32} {P Q : ℕ} (hp : Holds p P) (hq : Holds q Q)
    (hP : P < 256) (hQ : Q < 256) (b : Fin 64) (i j : Fin 256) :
    onlyB u p q (ix3 b i j) = if i.val = P ∧ j.val = Q then u (ix1 b) else (0 : EReal) := by
  refine (update_cell _ _ _ _ P Q hP hQ (at3_zero p q) (at3_one hp (by omega)) (at3_two hq (by omega)) b i j).trans ?_
  exact if_congr Iff.rfl (spread_cell u b) Ideal.ofBits_zero_f32

/-! ## The loop -/

/-- What the reverse loop reads of the forward loop, for distances D. -/
structure Kept (D : Fin 64 → ℕ → ℕ → EReal) (V : Valuation τ sig (Elt Ideal)) : Prop where
  row : ∀ n : Fin 65536, (V (Proc.devRef .tc main_v33_0) : S65536.Idx → BitVec 32) (ix1 n) = BitVec.ofNat 32 (n.val / 256)
  col : ∀ n : Fin 65536, (V (Proc.devRef .tc main_v33_1) : S65536.Idx → BitVec 32) (ix1 n) = BitVec.ofNat 32 (n.val % 256)
  col' : ∀ n : Fin 65536, (V (Proc.devRef .tc main_v33_2) : S65536.Idx → BitVec 32) (ix1 n) = BitVec.ofNat 32 (n.val % 256 + 1)
  row' : ∀ n : Fin 65536, (V (Proc.devRef .tc main_v33_3) : S65536.Idx → BitVec 32) (ix1 n) = BitVec.ofNat 32 (n.val / 256 + 1)
  diag : ∀ (n : Fin 65536) b, (V (Proc.devRef .tc main_v33_4) : S65536x64.Idx → EReal) (ix2 n b)
    = smExp (tab (D b) (n.val / 256) (n.val % 256)) (tab (D b) (n.val / 256) (n.val % 256 + 1)) (tab (D b) (n.val / 256 + 1) (n.val % 256)) (tab (D b) (n.val / 256) (n.val % 256))
  up : ∀ (n : Fin 65536) b, (V (Proc.devRef .tc main_v33_5) : S65536x64.Idx → EReal) (ix2 n b)
    = smExp (tab (D b) (n.val / 256) (n.val % 256)) (tab (D b) (n.val / 256) (n.val % 256 + 1)) (tab (D b) (n.val / 256 + 1) (n.val % 256)) (tab (D b) (n.val / 256) (n.val % 256 + 1))
  left : ∀ (n : Fin 65536) b, (V (Proc.devRef .tc main_v33_6) : S65536x64.Idx → EReal) (ix2 n b)
    = smExp (tab (D b) (n.val / 256) (n.val % 256)) (tab (D b) (n.val / 256) (n.val % 256 + 1)) (tab (D b) (n.val / 256 + 1) (n.val % 256)) (tab (D b) (n.val / 256 + 1) (n.val % 256))
  sum : ∀ (n : Fin 65536) b, (V (Proc.devRef .tc main_v33_7) : S65536x64.Idx → EReal) (ix2 n b)
    = smSum (tab (D b) (n.val / 256) (n.val % 256)) (tab (D b) (n.val / 256) (n.val % 256 + 1)) (tab (D b) (n.val / 256 + 1) (n.val % 256))
  row'' : ∀ n : Fin 65536, (V (Proc.devRef .tc main_v33_8) : S65536.Idx → BitVec 32) (ix1 n) = BitVec.ofNat 32 (n.val / 256 + 1)
  col'' : ∀ n : Fin 65536, (V (Proc.devRef .tc main_v33_9) : S65536.Idx → BitVec 32) (ix1 n) = BitVec.ofNat 32 (n.val % 256 + 1)

/-- What holds after n trips, for distances D. -/
structure Reverse (D : Fin 64 → ℕ → ℕ → EReal) (n : ℕ) (V : Valuation τ sig (Elt Ideal)) : Prop where
  kept : Kept D V
  ctr : Holds (V (Proc.devRef .tc main_v33_10)) n
  table : ∀ b (i j : Fin 257), (V (Proc.devRef .tc main_v33_12) : S64x257x257.Idx → EReal) (ix3 b i j)
    = (passes (upR (D b)) (leftR (D b)) (diagR (D b)) n).1 i j
  square : ∀ b (i j : Fin 256), (V (Proc.devRef .tc main_v33_11) : S64x256x256.Idx → EReal) (ix3 b i j)
    = (passes (upR (D b)) (leftR (D b)) (diagR (D b)) n).2 i j

/-- A trip keeps what it reads of the forward loop. -/
theorem Kept.step {D : Fin 64 → ℕ → ℕ → EReal} {V : Valuation τ sig (Elt Ideal)} (h : Kept D V) : Kept D (afterL revI (after rCond V)) := by
  obtain ⟨k0, k1, k2, k3, k4, k5, k6, k7, k8, k9⟩ := rev_keeps V
  constructor
  · rw [k0]; exact h.row
  · rw [k1]; exact h.col
  · rw [k2]; exact h.col'
  · rw [k3]; exact h.row'
  · rw [k4]; exact h.diag
  · rw [k5]; exact h.up
  · rw [k6]; exact h.left
  · rw [k7]; exact h.sum
  · rw [k8]; exact h.row''
  · rw [k9]; exact h.col''

/-- One trip takes what holds after n trips to what holds after n + 1. -/
theorem Reverse.step {D : Fin 64 → ℕ → ℕ → EReal} {n : ℕ} (hn : n < 65536) {V : Valuation τ sig (Elt Ideal)} (h : Reverse D n V) :
    Reverse D (n + 1) (afterL revI (after rCond V)) := by
  obtain ⟨w, hw⟩ : ∃ w, back (V (Proc.devRef .tc main_v33_10)) = w := ⟨_, rfl⟩
  have hk : 65535 - n < 65536 := by omega
  have hW : Holds w (65535 - n) := hw ▸ h.ctr.back hn
  have hp := readW_holds hW hk (h.kept.row ⟨65535 - n, hk⟩)
  have hq := readW_holds hW hk (h.kept.col ⟨65535 - n, hk⟩)
  have hq₁ := readW_holds hW hk (h.kept.col' ⟨65535 - n, hk⟩)
  have hp₁ := readW_holds hW hk (h.kept.row' ⟨65535 - n, hk⟩)
  have hp' := readW_holds hW hk (h.kept.row'' ⟨65535 - n, hk⟩)
  have hq' := readW_holds hW hk (h.kept.col'' ⟨65535 - n, hk⟩)
  have hP : (65535 - n) / 256 < 256 := by omega
  have hQ : (65535 - n) % 256 < 256 := by omega
  have eE : ∀ b, readE (F := Ideal) (V (Proc.devRef .tc main_v33_12)) (readW (V (Proc.devRef .tc main_v33_8)) w) (readW (V (Proc.devRef .tc main_v33_9)) w) (ix1 b)
      = (passes (upR (D b)) (leftR (D b)) (diagR (D b)) n).1 ((65535 - n) / 256 + 1) ((65535 - n) % 256 + 1) := fun b => by
    rw [readE_at _ hp' hq' (by simp only; omega) (by simp only; omega)]
    exact h.table b _ _
  have eS : ∀ b, readS (F := Ideal) (V (Proc.devRef .tc main_v33_7)) w (ix1 b) = _ := fun b => (readS_at _ hW hk b).trans (h.kept.sum _ b)
  have e4 : ∀ b, readS (F := Ideal) (V (Proc.devRef .tc main_v33_4)) w (ix1 b) = _ := fun b => (readS_at _ hW hk b).trans (h.kept.diag _ b)
  have e5 : ∀ b, readS (F := Ideal) (V (Proc.devRef .tc main_v33_5)) w (ix1 b) = _ := fun b => (readS_at _ hW hk b).trans (h.kept.up _ b)
  have e6 : ∀ b, readS (F := Ideal) (V (Proc.devRef .tc main_v33_6)) w (ix1 b) = _ := fun b => (readS_at _ hW hk b).trans (h.kept.left _ b)
  refine ⟨h.kept.step, ?_, ?_, ?_⟩
  · rw [rev_ctr]; exact h.ctr.succ
  · intro b i j
    rw [rev_A V w _ _ _ _ _ _ hw rfl rfl rfl rfl rfl rfl _ _ rfl rfl]
    show clearA _ _ _ (ix3 b i j) + onlyA _ _ _ (ix3 b i j) + onlyA _ _ _ (ix3 b i j) + onlyA _ _ _ (ix3 b i j) = _
    rw [clearA_at _ hp' hq' (by simp only; omega) (by simp only; omega), onlyA_at _ hp₁ hq (by simp only; omega) (by simp only; omega),
      onlyA_at _ hp hq₁ (by simp only; omega) (by simp only; omega), onlyA_at _ hp hq (by simp only; omega) (by simp only; omega)]
    simp only [passed_at, eE, eS, e4, e5, e6]
    rw [show (V (Proc.devRef .tc main_v33_12) : S64x257x257.Idx → EReal) (ix3 b i j) = _ from h.table b i j]
    rfl
  · intro b i j
    rw [rev_B V w _ _ _ _ hw rfl rfl rfl rfl]
    refine (congrArg₂ (fun x y : EReal => x + y) (h.square b i j) (onlyB_at _ hp hq hP hQ b i j)).trans ?_
    rw [eE]
    rfl

end Cert.ReferenceIdeal.Hand

end
-- ==== Proof.RefEnds.lean ====
/-
  The reference's stretches before, between and after its loops over the extended reals: the distances and the table's borders,
  the reverse pass's start, and the loss of what the loops leave.
-/
module

public import proofs.«01_k».proof.Proof.RefReverse
public import proofs.«01_k».proof.Proof.RefFrame
public import proofs.«01_k».proof.Proof.Loss
public import Idealize.ShloMosaic.Lib.KernelVsHost

@[expose] public section

set_option maxRecDepth 4096

noncomputable section

namespace Cert.ReferenceIdeal.Hand

open Cert.ReferenceIdeal Cert.ReferenceIdeal.Gen Cert.SoftDtw
open Idealize.ShloMosaic hiding ix1 ix2 ix3
open Idealize.ShloMosaic.TcCoe Idealize.ShloMosaic.Tactic
open Idealize.ShloMosaic.ValueIdx
open Idealize.ShloMosaic.StableHlo

section Terms
variable {F : FTy → Type} [FloatOps F]

/-- The differences of every pair of samples. -/
def gaps (t x : S64x256x1.Idx → F .f32) : S64x256x256x1.Idx → F .f32 :=
  subf (broadcastInDim S64x256x256x1 ![0, 1, 2, 3] bcast_S64x256x1x1_S64x256x256x1_0_1_2_3 (broadcastInDim S64x256x1x1 ![0, 1, 3] bcast_S64x256x1_S64x256x1x1_0_1_3 t))
    (broadcastInDim S64x256x256x1 ![0, 1, 2, 3] bcast_S64x1x256x1_S64x256x256x1_0_1_2_3 (broadcastInDim S64x1x256x1 ![0, 2, 3] bcast_S64x256x1_S64x1x256x1_0_2_3 x))

/-- The squared distances. -/
def dists (t x : S64x256x1.Idx → F .f32) : S64x256x256.Idx → F .f32 :=
  Host.reduceAdd (mulf (gaps t x) (gaps t x)) (constant S_ .f32 0x00000000#32) reducesTo_S64x256x256x1_S64x256x256_d3 h_S_

/-- The table before the forward loop. -/
def start : S64x257x257.Idx → F .f32 :=
  select (andi (cmpi .eq (iotaInDim S64x257x257 32 1) (broadcastInDim S64x257x257 ![] bcast_S_S64x257x257 (constantI S_ 32 0#32)))
      (cmpi .eq (iotaInDim S64x257x257 32 2) (broadcastInDim S64x257x257 ![] bcast_S_S64x257x257 (constantI S_ 32 0#32))))
    (broadcastInDim S64x257x257 ![] bcast_S_S64x257x257 (constant S_ .f32 0x00000000#32))
    (broadcastInDim S64x257x257 ![] bcast_S_S64x257x257 (constant S_ .f32 0x7F800000#32))

/-- The forward loop is entered with the squared distances. -/
theorem entry_D (V : Valuation τ sig (Elt F)) :
    afterL preI V (Proc.devRef .tc main_v25_0) = dists (F := F) (V (Proc.devRef .tc main_arg1)) (V (Proc.devRef .tc main_arg0)) := by
  simp only [afterL_cons, afterL_nil]
  after_reads_simp
  rfl

/-- The forward loop is entered with the table of borders. -/
theorem entry_R (V : Valuation τ sig (Elt F)) : afterL preI V (Proc.devRef .tc main_v25_3) = start (F := F) := by
  simp only [afterL_cons, afterL_nil]
  after_reads_simp [TRef.ofBuf_toBuf]
  rfl

/-- The reverse pass's table before its loop. -/
def seed : S64x257x257.Idx → F .f32 :=
  pad S64x257x257 ![0, 256, 256] ![0, 0, 0] ![0, 0, 0]
    (broadcastInDim S64x1x1 ![0] bcast_S64_S64x1x1_0 (broadcastInDim S64 ![] bcast_S_S64 (constant S_ .f32 0x3F800000#32) : S64.Idx → F .f32))
    (constant S_ .f32 0x00000000#32) pads_S64x1x1_S64x257x257_000_25600_25600 h_S_

/-- The soft-DTW values: the table's last cell of every batch. -/
def lasts (R : S64x257x257.Idx → F .f32) : S64.Idx → F .f32 :=
  shapeCast S64 (extractStridedSlice S64x1x1 ![0, 256, 256] R slices_S64x257x257_S64x1x1_0_256_256) shapeCasts_S64x1x1_S64

/-- The reverse loop is entered with the forward loop's lists and stacks. -/
theorem mid_keeps (V : Valuation τ sig (Elt F)) :
    afterL midI V (Proc.devRef .tc main_v33_0) = V (Proc.devRef .tc main_v25_4) ∧
    afterL midI V (Proc.devRef .tc main_v33_1) = V (Proc.devRef .tc main_v25_5) ∧
    afterL midI V (Proc.devRef .tc main_v33_2) = V (Proc.devRef .tc main_v25_6) ∧
    afterL midI V (Proc.devRef .tc main_v33_3) = V (Proc.devRef .tc main_v25_7) ∧
    afterL midI V (Proc.devRef .tc main_v33_4) = V (Proc.devRef .tc main_v25_8) ∧
    afterL midI V (Proc.devRef .tc main_v33_5) = V (Proc.devRef .tc main_v25_9) ∧
    afterL midI V (Proc.devRef .tc main_v33_6) = V (Proc.devRef .tc main_v25_10) ∧
    afterL midI V (Proc.devRef .tc main_v33_7) = V (Proc.devRef .tc main_v25_11) ∧
    afterL midI V (Proc.devRef .tc main_v33_8) = V (Proc.devRef .tc main_v25_12) ∧
    afterL midI V (Proc.devRef .tc main_v33_9) = V (Proc.devRef .tc main_v25_13) := by
  simp only [afterL_cons, afterL_nil]
  refine ⟨?_, ?_, ?_, ?_, ?_, ?_, ?_, ?_, ?_, ?_⟩ <;> (after_reads_simp; rfl)

/-- The reverse loop is entered with a square of zeros. -/
theorem mid_B (V : Valuation τ sig (Elt F)) : afterL midI V (Proc.devRef .tc main_v33_11)
    = (broadcastInDim S64x256x256 ![] bcast_S_S64x256x256 (constant S_ .f32 0x00000000#32) : S64x256x256.Idx → F .f32) := by
  simp only [afterL_cons, afterL_nil]
  after_reads_simp
  rfl

/-- The reverse loop is entered with a one in every batch's last cell. -/
theorem mid_A (V : Valuation τ sig (Elt F)) : afterL midI V (Proc.devRef .tc main_v33_12) = seed (F := F) := by
  simp only [afterL_cons, afterL_nil]
  after_reads_simp
  rfl

/-- The soft-DTW values are read between the loops. -/
theorem mid_lasts (V : Valuation τ sig (Elt F)) : afterL midI V (Proc.devRef .tc main_v27) = lasts (F := F) (V (Proc.devRef .tc main_v25_3)) := by
  simp only [afterL_cons, afterL_nil]
  after_reads_simp
  rfl

/-- The numbers 1, 2, …, 256. -/
def places : S256.Idx → F .f32 := addf (broadcastInDim S256 ![] bcast_S_S256 (constant S_ .f32 0x3F800000#32)) (sitofp .f32 (iotaInDim S256 32 0))

/-- The differences of the places. -/
def offsets : S256x256.Idx → F .f32 :=
  subf (broadcastInDim S256x256 ![0, 1] bcast_S256x1_S256x256_0_1 (broadcastInDim S256x1 ![0] bcast_S256_S256x1_0 (places (F := F))))
    (broadcastInDim S256x256 ![0, 1] bcast_S1x256_S256x256_0_1 (broadcastInDim S1x256 ![1] bcast_S256_S1x256_1 (places (F := F))))

/-- The weights of the temporal sum. -/
def weights : S256x256.Idx → F .f32 :=
  Host.divf (mulf (offsets (F := F)) (offsets (F := F))) (broadcastInDim S256x256 ![] bcast_S_S256x256 (constant S_ .f32 0x47800000#32))

/-- The weighted gradients. -/
def weighted (B : S64x256x256.Idx → F .f32) : S64x256x256.Idx → F .f32 :=
  mulf B (broadcastInDim S64x256x256 ![0, 1, 2] bcast_S1x256x256_S64x256x256_0_1_2 (broadcastInDim S1x256x256 ![1, 2] bcast_S256x256_S1x256x256_1_2 (weights (F := F))))

/-- The two means, half of each. -/
def outcome (v : S64.Idx → F .f32) (B : S64x256x256.Idx → F .f32) : S_.Idx → F .f32 :=
  addf (mulf (constant S_ .f32 0x3F000000#32) (Host.divf (Host.reduceAdd v (constant S_ .f32 0x00000000#32) reducesTo_S64_S_d0 h_S_) (constant S_ .f32 0x42800000#32)))
    (mulf (constant S_ .f32 0x3F000000#32) (Host.divf (Host.reduceAdd (weighted B) (constant S_ .f32 0x00000000#32) reducesTo_S64x256x256_S_d0_1_2 h_S_) (constant S_ .f32 0x42800000#32)))

/-- The program's result from what the loops leave. -/
theorem post_value (V : Valuation τ sig (Elt F)) :
    afterL postI V (Proc.devRef .tc main_v54) = outcome (F := F) (V (Proc.devRef .tc main_v27)) (V (Proc.devRef .tc main_v33_11)) := by
  simp only [afterL_cons, afterL_nil]
  after_reads_simp
  rfl

/-- A reverse trip keeps the soft-DTW values. -/
theorem rev_lasts (V : Valuation τ sig (Elt F)) : afterL revI V (Proc.devRef .tc main_v27) = V (Proc.devRef .tc main_v27) := by
  simp only [afterL_cons, afterL_nil]
  after_reads_simp [unaryIndexed_result_read, binaryIndexed_result_read]

/-- The reverse loop's condition keeps the soft-DTW values. -/
theorem rCond_lasts (V : Valuation τ sig (Elt F)) : after rCond V (Proc.devRef .tc main_v27) = V (Proc.devRef .tc main_v27) := by
  after_reads_simp

/-- The reverse loop's condition keeps the square. -/
theorem rCond_square (V : Valuation τ sig (Elt F)) : after rCond V (Proc.devRef .tc main_v33_11) = V (Proc.devRef .tc main_v33_11) := by
  after_reads_simp

/-- The forward loop's condition keeps what the loop carries. -/
theorem fCond_keeps (V : Valuation τ sig (Elt F)) :
    after fCond V (Proc.devRef .tc main_v25_3) = V (Proc.devRef .tc main_v25_3) ∧
    after fCond V (Proc.devRef .tc main_v25_4) = V (Proc.devRef .tc main_v25_4) ∧
    after fCond V (Proc.devRef .tc main_v25_5) = V (Proc.devRef .tc main_v25_5) ∧
    after fCond V (Proc.devRef .tc main_v25_6) = V (Proc.devRef .tc main_v25_6) ∧
    after fCond V (Proc.devRef .tc main_v25_7) = V (Proc.devRef .tc main_v25_7) ∧
    after fCond V (Proc.devRef .tc main_v25_8) = V (Proc.devRef .tc main_v25_8) ∧
    after fCond V (Proc.devRef .tc main_v25_9) = V (Proc.devRef .tc main_v25_9) ∧
    after fCond V (Proc.devRef .tc main_v25_10) = V (Proc.devRef .tc main_v25_10) ∧
    after fCond V (Proc.devRef .tc main_v25_11) = V (Proc.devRef .tc main_v25_11) ∧
    after fCond V (Proc.devRef .tc main_v25_12) = V (Proc.devRef .tc main_v25_12) ∧
    after fCond V (Proc.devRef .tc main_v25_13) = V (Proc.devRef .tc main_v25_13) := by
  refine ⟨?_, ?_, ?_, ?_, ?_, ?_, ?_, ?_, ?_, ?_, ?_⟩ <;> after_reads_simp

end Terms

end Cert.ReferenceIdeal.Hand

end
-- ==== Proof.RefValue.lean ====
/-
  The reference's result over the extended reals: the loss of the soft-DTW values and of the reference's gradients.
-/
module

public import proofs.«01_k».proof.Proof.RefEnds

@[expose] public section

set_option maxRecDepth 4096

noncomputable section

namespace Cert.ReferenceIdeal.Hand

open Cert.ReferenceIdeal Cert.ReferenceIdeal.Gen Cert.SoftDtw
open Idealize.ShloMosaic hiding ix1 ix2 ix3 ix4
open Idealize.ShloMosaic.TcCoe
open Idealize.ShloMosaic.ValueIdx
open Idealize.ShloMosaic.StableHlo

/-! ## The stretches' vectors at an index -/

/-- The sums start from zero. -/
theorem first_zero : (constant S_ .f32 0x00000000#32 : S_.Idx → Ideal .f32) (Shape.Idx.first h_S_) = (0 : EReal) := Ideal.ofBits_zero_f32

/-- The difference of a pair of samples. -/
theorem gaps_at (t x : S64x256x1.Idx → Ideal .f32) (b : Fin 64) (i j : Fin 256) :
    gaps t x (ix4 b i j 0) = (t (ix3 b i 0) - x (ix3 b j 0) : EReal) := by
  refine congrArg₂ (fun p q : EReal => p - q) (congrArg t ?_) (congrArg x ?_) <;>
    (funext a; fin_cases a <;> rfl)

/-- The squared distance of a pair of samples is the cell's cost. -/
theorem dists_at (t x : S64x256x1.Idx → Ideal .f32) (b : Fin 64) (i j : Fin 256) :
    dists t x (ix3 b i j) = cost (seq t b) (seq x b) i j := by
  rw [dists, Host.reduceAdd_apply, Ideal.hostReduceAdd_def]
  refine (Ideal.hostReduceAdd_r4_a3 (n0 := 64) (n1 := 256) (n2 := 256) (n3 := 1) _ _ _ _).trans ?_
  rw [Fin.sum_univ_one]
  refine (congrArg₂ (fun x y : EReal => x + y) first_zero ?_).trans (zero_add _)
  have e := gaps_at t x b i j
  rw [cost, seq_of_lt t b i i.isLt, seq_of_lt x b j j.isLt]
  refine Eq.trans ?_ (congrArg (fun z : EReal => z * z) e)
  show gaps t x _ * gaps t x _ = gaps t x _ * gaps t x _
  refine congrArg (fun z : EReal => z * z) (congrArg (gaps t x) (funext fun a => ?_))
  fin_cases a <;> rfl

/-- The literal of infinity is ⊤. -/
theorem inf_top : Ideal.ofBits .f32 0x7F800000#32 = ⊤ := by
  simp [Ideal.ofBits, Ideal.ieee]

/-- Whether a small number's word is zero. -/
theorem word_eq_zero (n : ℕ) (h : n < 257) : (IntOp.cmpi .eq (BitVec.ofNat 32 n) 0#32 : BitVec 1) = if n = 0 then 1#1 else 0#1 := by
  by_cases e : n = 0
  · subst e; rfl
  · rw [if_neg e]
    have : BitVec.ofNat 32 n ≠ 0#32 := fun c => e (by
      have := congrArg BitVec.toNat c
      simp only [BitVec.toNat_ofNat] at this
      omega)
    show BitVec.ofBool (BitVec.ofNat 32 n == 0#32) = 0#1
    rw [beq_eq_false_iff_ne.2 this]
    rfl

/-- The table's borders are those of the table of soft-DTW values. -/
theorem start_at (b : Fin 64) (i j : Fin 257) (D : ℕ → ℕ → EReal) (h : i.val = 0 ∨ j.val = 0) : start (F := Ideal) (ix3 b i j) = tab D i j := by
  have e : start (F := Ideal) (ix3 b i j)
      = if ((IntOp.cmpi .eq (BitVec.ofNat 32 i.val) 0#32 : BitVec 1) &&& IntOp.cmpi .eq (BitVec.ofNat 32 j.val) 0#32) = 1#1
        then Ideal.ofBits .f32 0x00000000#32 else Ideal.ofBits .f32 0x7F800000#32 := rfl
  rw [e, word_eq_zero _ i.isLt, word_eq_zero _ j.isLt, Ideal.ofBits_zero_f32, inf_top]
  obtain ⟨i, hi⟩ := i
  obtain ⟨j, hj⟩ := j
  rcases i with _ | i <;> rcases j with _ | j
  · simp [tab]
  · simp [tab]
  · simp [tab]
  · simp at h

/-- The reverse pass starts with a one in the last cell. -/
theorem seed_at (b : Fin 64) (i j : Fin 257) : seed (F := Ideal) (ix3 b i j) = if i.val = 256 ∧ j.val = 256 then (1 : EReal) else 0 := by
  by_cases c : i.val = 256 ∧ j.val = 256
  · rw [if_pos c]
    refine (pad_apply_of_inside _ _ _ _ _ _ _ _ (ix3 b 0 0) ?_).trans Ideal.ofBits_one_f32
    intro a
    fin_cases a
    · show b.val = 0 + b.val * (0 + 1); omega
    · show i.val = 256 + 0 * (0 + 1); omega
    · show j.val = 256 + 0 * (0 + 1); omega
  · rw [if_neg c]
    by_cases d : i.val = 256
    · refine (pad_apply_of_not_inside _ _ _ _ _ _ _ _ (2 : Fin 3) ?_).trans Ideal.ofBits_zero_f32
      intro h
      have : 256 ≤ j.val := h.1
      omega
    · refine (pad_apply_of_not_inside _ _ _ _ _ _ _ _ (1 : Fin 3) ?_).trans Ideal.ofBits_zero_f32
      intro h
      have : 256 ≤ i.val := h.1
      omega

/-- The soft-DTW value of a batch is the table's last cell. -/
theorem lasts_at (R : S64x257x257.Idx → Ideal .f32) (b : Fin 64) : lasts R (ix1 b) = R (ix3 b 256 256) := by
  refine (cell_row _ _ b).trans (extractStridedSlice_apply _ _ _ _ _ fun a => ?_)
  fin_cases a
  · show b.val = 0 + b.val; omega
  · rfl
  · rfl

/-- Place i holds i + 1. -/
theorem places_at (i : Fin 256) : places (F := Ideal) (ix1 i) = ((1 + i.val : ℝ) : EReal) := by
  have e : places (F := Ideal) (ix1 i) = Ideal.ofBits .f32 0x3F800000#32 + (((BitVec.ofNat 32 i.val).toInt : ℝ) : EReal) := rfl
  have h : (BitVec.ofNat 32 i.val).toInt = (i.val : ℤ) := by
    rw [BitVec.toInt_ofNat', Int.bmod_def]
    have := i.isLt
    omega
  rw [e, h, Ideal.ofBits_one_f32]
  norm_cast

/-- The literal for the squared length. -/
theorem ofBits_square : Ideal.ofBits .f32 0x47800000#32 = ((65536 : ℝ) : EReal) := by
  simp [Ideal.ofBits, Ideal.ieee, -EReal.coe_mul]; norm_num

/-- The reference's weights are the weights of the temporal sum. -/
theorem weights_at (i j : Fin 256) : weights (F := Ideal) (ix2 i j) = weight i j := by
  have o : offsets (F := Ideal) (ix2 i j) = (((i.val : ℝ) - j.val : ℝ) : EReal) := by
    have e : offsets (F := Ideal) (ix2 i j) = (places (F := Ideal) (ix1 i) - places (F := Ideal) (ix1 j) : EReal) := by
      refine congrArg₂ (fun p q : EReal => p - q) (congrArg (places (F := Ideal)) ?_) (congrArg (places (F := Ideal)) ?_) <;>
        (funext a; fin_cases a; rfl)
    rw [e, places_at, places_at, ← EReal.coe_sub]
    congr 1
    ring
  have e : weights (F := Ideal) (ix2 i j) = Ideal.div (offsets (F := Ideal) (ix2 i j) * offsets (F := Ideal) (ix2 i j)) (Ideal.ofBits .f32 0x47800000#32) := rfl
  rw [e, o, ofBits_square, ← EReal.coe_mul, Ideal.div, if_neg (by simp), ← EReal.coe_inv, ← EReal.coe_mul, weight]
  norm_num

/-- A weighted gradient. -/
theorem weighted_at (B : S64x256x256.Idx → Ideal .f32) (b : Fin 64) (i j : Fin 256) : weighted B (ix3 b i j) = (B (ix3 b i j) * weight i j : EReal) := by
  rw [← weights_at]
  refine congrArg (fun z : EReal => B (ix3 b i j) * z) (congrArg (weights (F := Ideal)) (funext fun a => ?_))
  fin_cases a <;> rfl

/-- The result of the two loops' outcomes. -/
theorem outcome_at (v : S64.Idx → Ideal .f32) (B : S64x256x256.Idx → Ideal .f32) (G : Fin 64 → ℕ → ℕ → EReal) (D : Fin 64 → ℕ → ℕ → EReal)
    (hv : ∀ b, v (ix1 b) = tab (D b) 256 256) (hB : ∀ b (i j : Fin 256), B (ix3 b i j) = G b i j) (o : S_.Idx) :
    outcome v B o = loss (shapeSum D) (timeSum G) := by
  have e1 : (Host.reduceAdd v (constant S_ .f32 0x00000000#32) reducesTo_S64_S_d0 h_S_ : S_.Idx → Ideal .f32) o = shapeSum D := by
    rw [Host.reduceAdd_apply, Ideal.hostReduceAdd_def]
    refine (Ideal.hostReduceAdd_r1_a0 (n0 := 64) _ _ _ _).trans ?_
    refine (congrArg₂ (fun x y : EReal => x + y) first_zero ?_).trans (zero_add _)
    refine Finset.sum_congr rfl fun b _ => ?_
    rw [← hv b]
    refine congrArg v (funext fun a => ?_)
    fin_cases a; rfl
  have e2 : (Host.reduceAdd (weighted B) (constant S_ .f32 0x00000000#32) reducesTo_S64x256x256_S_d0_1_2 h_S_ : S_.Idx → Ideal .f32) o = timeSum G := by
    rw [Host.reduceAdd_apply, Ideal.hostReduceAdd_def]
    refine (Ideal.hostReduceAdd_r3_a012 (n0 := 64) (n1 := 256) (n2 := 256) _ _ _ _).trans ?_
    refine (congrArg₂ (fun x y : EReal => x + y) first_zero ?_).trans (zero_add _)
    refine Finset.sum_congr rfl fun b _ => ?_
    rw [← Fin.sum_univ_eq_sum_range (fun i => ∑ j ∈ Finset.range 256, G b i j * weight i j)]
    refine Finset.sum_congr rfl fun i _ => ?_
    rw [← Fin.sum_univ_eq_sum_range (fun j => G b i j * weight i j)]
    refine Finset.sum_congr rfl fun j _ => ?_
    rw [← hB b i j, ← weighted_at]
    refine congrArg (weighted B) (funext fun a => ?_)
    fin_cases a <;> rfl
  rw [loss, ← e1, ← e2]
  rfl

/-! ## The run -/

variable (m : (ℓ : Loc nD τ sig) → Buf (Elt Ideal) ℓ)

/-- The distances of a batch's pair of sequences. -/
abbrev distOf (c : Dev nD) (b : Fin 64) : ℕ → ℕ → EReal :=
  cost (seq (m ((c.tc : Thread nD τ).loc main_arg1)) b) (seq (m ((c.tc : Thread nD τ).loc main_arg0)) b)

/-- What holds at the forward loop's entry. -/
theorem forward_zero (c : Dev nD) : Forward (distOf m c) 0 (atFwd m c) := by
  obtain ⟨h1, h2⟩ := fwd_entry (F := Ideal) (fun r => m ⟨c, r⟩)
  refine ⟨h1, h2, ?_, ?_, ?_, ?_, ?_, ?_, ?_, ?_, ?_, ?_, ?_, ?_⟩
  · intro b i j
    exact (congrFun (entry_D (F := Ideal) _) (ix3 b i j)).trans (dists_at _ _ b i j)
  · intro b i j h
    exact (congrFun (entry_R (F := Ideal) _) (ix3 b i j)).trans (start_at b i j _ (by omega))
  all_goals exact fun n hn => absurd hn (Nat.not_lt_zero _)

/-- What holds before the forward loop's trip k. -/
theorem forward_at (c : Dev nD) : ∀ k, k ≤ 65536 → Forward (distOf m c) k (atTrip fCond fwdI (atFwd m) k c)
  | 0, _ => forward_zero m c
  | k + 1, hk => by
    rw [atTrip_succ]
    exact (forward_at c k (by omega)).step (fun b => cost_ne_bot _ _) (by omega)

/-- What holds at the reverse loop's entry. -/
theorem reverse_zero (c : Dev nD) : Reverse (distOf m c) 0 (atRev m c) := by
  have h := forward_at m c 65536 le_rfl
  obtain ⟨k0, k1, k2, k3, k4, k5, k6, k7, k8, k9⟩ := mid_keeps (doneFwd m c)
  obtain ⟨-, f4, f5, f6, f7, f8, f9, f10, f11, f12, f13⟩ := fCond_keeps (atTrip fCond fwdI (atFwd m) 65536 c)
  refine ⟨⟨?_, ?_, ?_, ?_, ?_, ?_, ?_, ?_, ?_, ?_⟩, rev_entry _, ?_, ?_⟩
  · rw [atRev, k0, doneFwd, f4]; exact fun n => h.row n n.isLt
  · rw [atRev, k1, doneFwd, f5]; exact fun n => h.col n n.isLt
  · rw [atRev, k2, doneFwd, f6]; exact fun n => h.col' n n.isLt
  · rw [atRev, k3, doneFwd, f7]; exact fun n => h.row' n n.isLt
  · rw [atRev, k4, doneFwd, f8]; exact fun n => h.diag n n.isLt
  · rw [atRev, k5, doneFwd, f9]; exact fun n => h.up n n.isLt
  · rw [atRev, k6, doneFwd, f10]; exact fun n => h.left n n.isLt
  · rw [atRev, k7, doneFwd, f11]; exact fun n => h.sum n n.isLt
  · rw [atRev, k8, doneFwd, f12]; exact fun n => h.row'' n n.isLt
  · rw [atRev, k9, doneFwd, f13]; exact fun n => h.col'' n n.isLt
  · intro b i j
    exact (congrFun (mid_A (F := Ideal) _) (ix3 b i j)).trans (seed_at b i j)
  · intro b i j
    exact (congrFun (mid_B (F := Ideal) _) (ix3 b i j)).trans Ideal.ofBits_zero_f32

/-- What holds before the reverse loop's trip n. -/
theorem reverse_at (c : Dev nD) : ∀ n, n ≤ 65536 → Reverse (distOf m c) n (atTrip rCond revI (atRev m) n c)
  | 0, _ => reverse_zero m c
  | n + 1, hn => by
    rw [atTrip_succ]
    exact (reverse_at c n (by omega)).step (by omega)

/-- The soft-DTW values at the end. -/
theorem lasts_end (c : Dev nD) (b : Fin 64) : (doneRev m c (Proc.devRef .tc main_v27) : S64.Idx → EReal) (ix1 b) = tab (distOf m c b) 256 256 := by
  have h := forward_at m c 65536 le_rfl
  have e : doneRev m c (Proc.devRef .tc main_v27) = lasts (F := Ideal) (atTrip fCond fwdI (atFwd m) 65536 c (Proc.devRef .tc main_v25_3)) := by
    rw [doneRev, rCond_lasts, atTrip_keeps rCond_lasts rev_lasts, atRev, mid_lasts, doneFwd, (fCond_keeps _).1]
  rw [e, lasts_at]
  exact h.table b 256 256 (Or.inr (Or.inr (by decide)))

/-- The gradients at the end. -/
theorem square_end (c : Dev nD) (b : Fin 64) (i j : Fin 256) :
    (doneRev m c (Proc.devRef .tc main_v33_11) : S64x256x256.Idx → EReal) (ix3 b i j) = gradR (distOf m c b) i j := by
  have h := reverse_at m c 65536 le_rfl
  rw [doneRev, rCond_square]
  exact (h.square b i j).trans (passes_grad _ _ _ i j i.isLt j.isLt)

/-- The reference's result is the loss of the soft-DTW values and of its gradients. -/
theorem result_value (c : Dev nD) (o : S_.Idx) : (atEnd m c (Proc.devRef .tc main_v54) : S_.Idx → EReal) o
    = loss (shapeSum (distOf m c)) (timeSum fun b => gradR (distOf m c b)) := by
  rw [atEnd, post_value]
  exact outcome_at _ _ _ _ (lasts_end m c) (square_end m c) o

end Cert.ReferenceIdeal.Hand

end
-- ==== Proof.lean ====
/-
  The claims: the three programs run and leave their arguments alone, naming the kernel's constants preserves it,
  and over the extended reals the kernel's loss is the reference's.
-/
module

public import proofs.«01_k».proof.Defs
public import proofs.«01_k».proof.Proof.Gen.Kernel
public import proofs.«01_k».proof.Proof.KerPrinted
public import proofs.«01_k».proof.Proof.Gen.KernelIdeal
public import proofs.«01_k».proof.Proof.Gen.ReferenceIdeal
public import proofs.«01_k».proof.Proof.KerFrame
public import proofs.«01_k».proof.Proof.RefFrame
public import proofs.«01_k».proof.Proof.KerSums
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The printed kernel runs, leaves its arguments alone and ends with every counter at zero. -/
theorem kernel_frame (hK : Cert.Kernel.Facts) : Cert.quiescent_Kernel (hKernel := hK) := fun m ρ _ => Cert.Kernel.Hand.frame m ρ

/-- So does the kernel with its constants named. -/
theorem ideal_frame (hK : Cert.KernelIdeal.Facts) : Cert.quiescent_KernelIdeal (hKernelIdeal := hK) := fun m ρ _ =>
  Cert.Kernel.Hand.named_frame m ρ

/-- So does the reference. -/
theorem reference_frame (hR : Cert.ReferenceIdeal.Facts) : Cert.quiescent_ReferenceIdeal (hReferenceIdeal := hR) := fun m ρ _ =>
  (θ_run _ _ _).mono (fun r h => ⟨fun c => (h.1 c).2, h.2⟩) (Cert.ReferenceIdeal.Hand.run_values m ρ)

/-- The named constants are the values they are named for. -/
theorem preserved : Cert.preserves_Kernel_KernelIdeal :=
  ⟨IdealRules.named_const.statement Cert.KernelIdeal.κ "inf" .f32 0x4CBEBC20#32 ⊤ rfl,
    IdealRules.named_const.statement Cert.KernelIdeal.κ "gamma" .f32 0x3C23D70A#32 ((1 / 100 : ℝ) : EReal) rfl⟩

/-- The kernel's loss is the reference's. -/
theorem losses (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.ReferenceIdeal.Hand.atEnd m' c (Proc.devRef .tc Cert.ReferenceIdeal.main_v54) : Cert.ReferenceIdeal.S_.Idx → EReal)
      = Cert.KernelIdeal.Hand.resultOf (Cert.KernelIdeal.Hand.shapeOut (Cert.KernelIdeal.Hand.regT m c) (Cert.KernelIdeal.Hand.regX m c))
          (Cert.KernelIdeal.Hand.timeOut (Cert.KernelIdeal.Hand.regT m c) (Cert.KernelIdeal.Hand.regX m c)) := by
  funext o
  rw [Cert.ReferenceIdeal.Hand.result_value m' c o, Cert.KernelIdeal.Hand.result_value m c o]
  have hd : Cert.ReferenceIdeal.Hand.distOf m' c = fun b => Cert.SoftDtw.cost
      (Cert.SoftDtw.seq (m ((c.tc : Thread Cert.KernelIdeal.nD Cert.KernelIdeal.τ).loc Cert.KernelIdeal.main_arg1)) b)
      (Cert.SoftDtw.seq (m ((c.tc : Thread Cert.KernelIdeal.nD Cert.KernelIdeal.τ).loc Cert.KernelIdeal.main_arg0)) b) := by
    funext b
    simp only [Cert.ReferenceIdeal.Hand.distOf]
    rw [h0, h1]
  rw [hd]
  exact (Cert.SoftDtw.loss_eq _ _ (Cert.SoftDtw.seq_out _) (Cert.SoftDtw.seq_out _)).symm

/-- Over the extended reals both programs end with the same loss. -/
theorem algebraic (hK : Cert.KernelIdeal.Facts) (hR : Cert.ReferenceIdeal.Facts) :
    Cert.algebraic_KernelIdeal_ReferenceIdeal (hKernelIdeal := hK) (hReferenceIdeal := hR) := fun m g m' g' _ hm =>
  ⟨fun c => Cert.KernelIdeal.Hand.resultOf (Cert.KernelIdeal.Hand.shapeOut (Cert.KernelIdeal.Hand.regT m c) (Cert.KernelIdeal.Hand.regX m c))
      (Cert.KernelIdeal.Hand.timeOut (Cert.KernelIdeal.Hand.regT m c) (Cert.KernelIdeal.Hand.regX m c)),
    (θ_run _ _ _).mono (fun r h c => ⟨(h.1 c).1.trans (Cert.KernelIdeal.Hand.result_eq m c), (h.1 c).2⟩) (Cert.KernelIdeal.Hand.run_values m g),
    (θ_run _ _ _).mono (fun r h c => ⟨(h.1 c).1.trans (losses m m' c (hm c).1 (hm c).2), (h.1 c).2⟩) (Cert.ReferenceIdeal.Hand.run_values m' g')⟩

theorem claim : Cert.Claim := ⟨Cert.Kernel.Gen.facts, Cert.KernelIdeal.Gen.facts, Cert.ReferenceIdeal.Gen.facts,
  kernel_frame _, ideal_frame _, reference_frame _, preserved, algebraic _ _⟩

end Cert.Proof

end
